-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_on_finite_queries [hKernelIdeal : Cert.KernelIdeal.Facts] [hReferenceIdeal : Cert.ReferenceIdeal.Facts] [hOn_finite_queries : Cert.On_finite_queries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![3, 1, 4096]⟩ : Shape).Idx, (Cert.On_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v8) i = v0 c i)
          ∧ (∀ i : (⟨4, ![3, 1, 8, 64]⟩ : Shape).Idx, (Cert.On_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v10) i = v1 c i)
          ∧ (∀ i : (⟨3, ![3, 1, 8]⟩ : Shape).Idx, (Cert.On_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v11) i = v2 c i)
          ∧ (∀ i : (⟨4, ![3, 1, 8, 64]⟩ : Shape).Idx, (Cert.On_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.KernelIdeal.nD Cert.KernelIdeal.τ).loc Cert.KernelIdeal.main_v13) i = v3 c i)
          ∧ (∀ i : (⟨3, ![3, 1, 8]⟩ : Shape).Idx, (Cert.On_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 i = 1#1 → r.2.mem ((c.tc : Thread Cert.KernelIdeal.nD Cert.KernelIdeal.τ).loc Cert.KernelIdeal.main_v14) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![3, 1, 4096]⟩ : Shape).Idx, (Cert.On_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v139) i = v0 c i)
          ∧ (∀ i : (⟨4, ![3, 1, 8, 64]⟩ : Shape).Idx, (Cert.On_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v148) i = v1 c i)
          ∧ (∀ i : (⟨3, ![3, 1, 8]⟩ : Shape).Idx, (Cert.On_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v20) i = v2 c i)
          ∧ (∀ i : (⟨4, ![3, 1, 8, 64]⟩ : Shape).Idx, (Cert.On_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.ReferenceIdeal.nD Cert.ReferenceIdeal.τ).loc Cert.ReferenceIdeal.main_v157) i = v3 c i)
          ∧ (∀ i : (⟨3, ![3, 1, 8]⟩ : Shape).Idx, (Cert.On_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 i = 1#1 → r.2.mem ((c.tc : Thread Cert.ReferenceIdeal.nD Cert.ReferenceIdeal.τ).loc Cert.ReferenceIdeal.main_v34) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hOn_finite_queries : Cert.On_finite_queries.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_finite_queries (hKernelIdeal := hKernelIdeal) (hReferenceIdeal := hReferenceIdeal) (hOn_finite_queries := hOn_finite_queries)
-- ==== On_finite_queries.lean ====
abbrev S3x1x4096 : Shape := ⟨3, ![3, 1, 4096]⟩
abbrev S3x1x8x128 : Shape := ⟨4, ![3, 1, 8, 128]⟩
abbrev S3x65536x8x64 : Shape := ⟨4, ![3, 65536, 8, 64]⟩
abbrev S3x65536x8 : Shape := ⟨3, ![3, 65536, 8]⟩
abbrev S3 : Shape := ⟨1, ![3]⟩
abbrev S_ : Shape := ⟨0, ![]⟩
abbrev S3x1 : Shape := ⟨2, ![3, 1]⟩
abbrev S3x1x1 : Shape := ⟨3, ![3, 1, 1]⟩
abbrev S3x1x8x64 : Shape := ⟨4, ![3, 1, 8, 64]⟩
abbrev S3x1x8 : Shape := ⟨3, ![3, 1, 8]⟩

class Facts : Prop where
  bitsLt_bf16_f32 : FTy.bits .bf16 < FTy.bits .f32
  reducesTo_S3x1x4096_S3x1_d2 : S3x1x4096.ReducesTo [2] S3x1
  h_S_ : 0 < S_.numel
  bcast_S3x1_S3x1x1_0_1 : S3x1.BroadcastsInDim S3x1x1 (![0, 1] : Fin 2 → Fin S3x1x1.rank)
  bcast_S_S3x1x1 : S_.BroadcastsInDim S3x1x1 (![] : Fin 0 → Fin S3x1x1.rank)
  bcast_S_S3x1x8x64 : S_.BroadcastsInDim S3x1x8x64 (![] : Fin 0 → Fin S3x1x8x64.rank)
  bcast_S_S3x1x8 : S_.BroadcastsInDim S3x1x8 (![] : Fin 0 → Fin S3x1x8.rank)
  bcast_S3x1x1_S3x1x4096_0_1_2 : S3x1x1.BroadcastsInDim S3x1x4096 (![0, 1, 2] : Fin 3 → Fin S3x1x4096.rank)

variable [Facts]

def fn {F : FTy → Type} [FloatOps F] (main_arg0 : FVec F S3x1x4096 .bf16) (main_arg1 : FVec F S3x1x8x128 .bf16) (main_arg2 : FVec F S3x1x8x128 .bf16) (main_arg3 : IVec S3x65536x8x64 8) (main_arg4 : IVec S3x65536x8x64 8) (main_arg5 : FVec F S3x65536x8 .f32) (main_arg6 : FVec F S3x65536x8 .f32) (main_arg7 : IVec S3 32) : IVec S3x1x4096 1 × IVec S3x1x8x64 1 × IVec S3x1x8 1 × IVec S3x1x8x64 1 × IVec S3x1x8 1 :=
  let main_v0 : FVec F S3x1x4096 .f32 := (extf .f32 · bitsLt_bf16_f32) main_arg0
  let main_v1 : FVec F S3x1x4096 .f32 := Host.absf main_v0
  let main_cst : FVec F S_ .f32 := constant S_ .f32 0xFF800000#32
  let main_v2 : FVec F S3x1 .f32 := (fun x v => Host.reduce FloatOps.maximumf x v reducesTo_S3x1x4096_S3x1_d2 h_S_) main_v1 main_cst
  let main_v3 : FVec F S3x1x1 .f32 := broadcastInDim S3x1x1 ![0, 1] bcast_S3x1_S3x1x1_0_1 main_v2
  let main_cst_0 : FVec F S_ .f32 := constant S_ .f32 0x7F800000#32
  let main_v4 : FVec F S3x1x1 .f32 := broadcastInDim S3x1x1 ![] bcast_S_S3x1x1 main_cst_0
  let main_v5 : IVec S3x1x1 1 := cmpf .olt main_v3 main_v4
  let main_c : IVec S_ 1 := constantI S_ 1 1#1
  let main_v6 : IVec S3x1x8x64 1 := broadcastInDim S3x1x8x64 ![] bcast_S_S3x1x8x64 main_c
  let main_c_1 : IVec S_ 1 := constantI S_ 1 1#1
  let main_v7 : IVec S3x1x8 1 := broadcastInDim S3x1x8 ![] bcast_S_S3x1x8 main_c_1
  let main_v8 : IVec S3x1x4096 1 := broadcastInDim S3x1x4096 ![0, 1, 2] bcast_S3x1x1_S3x1x4096_0_1_2 main_v5
  (main_v8, main_v6, main_v7, main_v6, main_v7)
-- ==== Kernel.lean ====
abbrev S3x1x4096 : Shape := ⟨3, ![3, 1, 4096]⟩
abbrev S3x1x8x128 : Shape := ⟨4, ![3, 1, 8, 128]⟩
abbrev S3x65536x8x64 : Shape := ⟨4, ![3, 65536, 8, 64]⟩
abbrev S3x65536x8 : Shape := ⟨3, ![3, 65536, 8]⟩
abbrev S3 : Shape := ⟨1, ![3]⟩
abbrev S3x8x64x65536 : Shape := ⟨4, ![3, 8, 64, 65536]⟩
abbrev S3x8x65536 : Shape := ⟨3, ![3, 8, 65536]⟩
abbrev S3x4096 : Shape := ⟨2, ![3, 4096]⟩
abbrev S3x8x128 : Shape := ⟨3, ![3, 8, 128]⟩
abbrev S3x8x64 : Shape := ⟨3, ![3, 8, 64]⟩
abbrev S3x8x1 : Shape := ⟨3, ![3, 8, 1]⟩
abbrev S1x8x64x2048 : Shape := ⟨4, ![1, 8, 64, 2048]⟩
abbrev S1 : Shape := ⟨1, ![1]⟩
abbrev S1x8x2048 : Shape := ⟨3, ![1, 8, 2048]⟩
abbrev S32x8x128 : Shape := ⟨3, ![32, 8, 128]⟩
abbrev S3x32x256 : Shape := ⟨3, ![3, 32, 256]⟩
abbrev S3x32x128 : Shape := ⟨3, ![3, 32, 128]⟩
abbrev S32x256 : Shape := ⟨2, ![32, 256]⟩
abbrev S32x128 : Shape := ⟨2, ![32, 128]⟩
abbrev S128x128 : Shape := ⟨2, ![128, 128]⟩
abbrev S3x128 : Shape := ⟨2, ![3, 128]⟩
abbrev S1x3x128 : Shape := ⟨3, ![1, 3, 128]⟩
abbrev S1x8x128 : Shape := ⟨3, ![1, 8, 128]⟩
abbrev S8x128 : Shape := ⟨2, ![8, 128]⟩
abbrev S8 : Shape := ⟨1, ![8]⟩
abbrev S8x1 : Shape := ⟨2, ![8, 1]⟩
abbrev S8x64 : Shape := ⟨2, ![8, 64]⟩
abbrev S1x8x64 : Shape := ⟨3, ![1, 8, 64]⟩
abbrev S1x8x1 : Shape := ⟨3, ![1, 8, 1]⟩
abbrev S32x1x128 : Shape := ⟨3, ![32, 1, 128]⟩
abbrev S1x32x256 : Shape := ⟨3, ![1, 32, 256]⟩
abbrev S1x1x128 : Shape := ⟨3, ![1, 1, 128]⟩
abbrev S1x128 : Shape := ⟨2, ![1, 128]⟩
abbrev S4x128 : Shape := ⟨2, ![4, 128]⟩
abbrev S32 : Shape := ⟨1, ![32]⟩
abbrev S32x1 : Shape := ⟨2, ![32, 1]⟩
abbrev S1x32x128 : Shape := ⟨3, ![1, 32, 128]⟩
abbrev S8x2048 : Shape := ⟨2, ![8, 2048]⟩
abbrev S1x2x64x2048 : Shape := ⟨4, ![1, 2, 64, 2048]⟩
abbrev S2x64x2048 : Shape := ⟨3, ![2, 64, 2048]⟩
abbrev S128x2048 : Shape := ⟨2, ![128, 2048]⟩
abbrev S32x2048 : Shape := ⟨2, ![32, 2048]⟩
abbrev S128x1x2048 : Shape := ⟨3, ![128, 1, 2048]⟩
abbrev S128x2x2048 : Shape := ⟨3, ![128, 2, 2048]⟩
abbrev S256x2048 : Shape := ⟨2, ![256, 2048]⟩
abbrev S1x8x256 : Shape := ⟨3, ![1, 8, 256]⟩
abbrev S8x256 : Shape := ⟨2, ![8, 256]⟩
abbrev S1x2x2048 : Shape := ⟨3, ![1, 2, 2048]⟩
abbrev S2x2048 : Shape := ⟨2, ![2, 2048]⟩
abbrev S2x1x2048 : Shape := ⟨3, ![2, 1, 2048]⟩
abbrev S2x4x2048 : Shape := ⟨3, ![2, 4, 2048]⟩
abbrev S3x1x128 : Shape := ⟨3, ![3, 1, 128]⟩
abbrev S3x1x8x64 : Shape := ⟨4, ![3, 1, 8, 64]⟩
abbrev S3x1x8 : Shape := ⟨3, ![3, 1, 8]⟩

abbrev nBuf : Space → Nat
  | .hbm => 26
  | .vmem => 25
  | .smem => 1
  | _ => 0

abbrev bufTy : (tb : Table) → Fin (tcTables nBuf tb) → BufTy
  | .hbm, ⟨0, _⟩ => ⟨S3x1x4096, .bf16⟩
  | .hbm, ⟨1, _⟩ => ⟨S3x1x8x128, .bf16⟩
  | .hbm, ⟨2, _⟩ => ⟨S3x1x8x128, .bf16⟩
  | .hbm, ⟨3, _⟩ => ⟨S3x65536x8x64, .i8⟩
  | .hbm, ⟨4, _⟩ => ⟨S3x65536x8x64, .i8⟩
  | .hbm, ⟨5, _⟩ => ⟨S3x65536x8, .f32⟩
  | .hbm, ⟨6, _⟩ => ⟨S3x65536x8, .f32⟩
  | .hbm, ⟨7, _⟩ => ⟨S3x8x64x65536, .i8⟩
  | .hbm, ⟨8, _⟩ => ⟨S3x8x64x65536, .i8⟩
  | .hbm, ⟨9, _⟩ => ⟨S3x8x65536, .f32⟩
  | .hbm, ⟨10, _⟩ => ⟨S3x8x65536, .f32⟩
  | .hbm, ⟨11, _⟩ => ⟨S3x4096, .bf16⟩
  | .hbm, ⟨12, _⟩ => ⟨S3x8x128, .bf16⟩
  | .hbm, ⟨13, _⟩ => ⟨S3x8x128, .bf16⟩
  | .hbm, ⟨14, _⟩ => ⟨S3x4096, .bf16⟩
  | .hbm, ⟨15, _⟩ => ⟨S3x8x64, .i32⟩
  | .hbm, ⟨16, _⟩ => ⟨S3x8x1, .f32⟩
  | .hbm, ⟨17, _⟩ => ⟨S3x8x64, .i32⟩
  | .hbm, ⟨18, _⟩ => ⟨S3x8x1, .f32⟩
  | .hbm, ⟨19, _⟩ => ⟨S3x1x4096, .bf16⟩
  | .hbm, ⟨20, _⟩ => ⟨S3x8x64, .i8⟩
  | .hbm, ⟨21, _⟩ => ⟨S3x1x8x64, .i8⟩
  | .hbm, ⟨22, _⟩ => ⟨S3x1x8, .f32⟩
  | .hbm, ⟨23, _⟩ => ⟨S3x8x64, .i8⟩
  | .hbm, ⟨24, _⟩ => ⟨S3x1x8x64, .i8⟩
  | .hbm, ⟨25, _⟩ => ⟨S3x1x8, .f32⟩
  | .local _ .vmem, ⟨0, _⟩ => ⟨S3x4096, .bf16⟩
  | .local _ .vmem, ⟨1, _⟩ => ⟨S3x8x128, .bf16⟩
  | .local _ .vmem, ⟨2, _⟩ => ⟨S3x8x128, .bf16⟩
  | .local _ .vmem, ⟨3, _⟩ => ⟨S1x8x64x2048, .i8⟩
  | .local _ .vmem, ⟨4, _⟩ => ⟨S1x8x64x2048, .i8⟩
  | .local _ .vmem, ⟨5, _⟩ => ⟨S1x8x64x2048, .i8⟩
  | .local _ .vmem, ⟨6, _⟩ => ⟨S1x8x64x2048, .i8⟩
  | .local _ .vmem, ⟨7, _⟩ => ⟨S1x8x2048, .f32⟩
  | .local _ .vmem, ⟨8, _⟩ => ⟨S1x8x2048, .f32⟩
  | .local _ .vmem, ⟨9, _⟩ => ⟨S1x8x2048, .f32⟩
  | .local _ .vmem, ⟨10, _⟩ => ⟨S1x8x2048, .f32⟩
  | .local _ .vmem, ⟨11, _⟩ => ⟨S3x4096, .bf16⟩
  | .local _ .vmem, ⟨12, _⟩ => ⟨S3x8x64, .i32⟩
  | .local _ .vmem, ⟨13, _⟩ => ⟨S3x8x1, .f32⟩
  | .local _ .vmem, ⟨14, _⟩ => ⟨S3x8x64, .i32⟩
  | .local _ .vmem, ⟨15, _⟩ => ⟨S3x8x1, .f32⟩
  | .local _ .vmem, ⟨16, _⟩ => ⟨S32x8x128, .f32⟩
  | .local _ .vmem, ⟨17, _⟩ => ⟨S3x8x128, .f32⟩
  | .local _ .vmem, ⟨18, _⟩ => ⟨S3x32x256, .f32⟩
  | .local _ .vmem, ⟨19, _⟩ => ⟨S3x32x128, .f32⟩
  | .local _ .vmem, ⟨20, _⟩ => ⟨S3x32x128, .f32⟩
  | .local _ .vmem, ⟨21, _⟩ => ⟨S3x32x128, .f32⟩
  | .local _ .vmem, ⟨22, _⟩ => ⟨S32x256, .f32⟩
  | .local _ .vmem, ⟨23, _⟩ => ⟨S32x128, .f32⟩
  | .local _ .vmem, ⟨24, _⟩ => ⟨S32x128, .f32⟩
  | .local _ .smem, ⟨0, _⟩ => ⟨S3, .i32⟩
  | _, _ => ⟨S3x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_arg7 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨2, ![3, 32], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c0_i32_2 : BitVec 32 := 0#32
  let v16 : BitVec 1 := Scalar.cmpi .eq arg1 c0_i32_2
  let v17 : BitVec 32 := Scalar.extui v16
  let c0_i32_3 : BitVec 32 := 0#32
  let v18 : BitVec 1 := Scalar.cmpi .ne v17 c0_i32_3
  v18

def k0_off2 (i : grid0.Coords) : Fin 3 → Nat :=
  let arg0 : BitVec 32 := BitVec.ofNat 32 (i 0).val
  let v31 : Index := Scalar.indexCast arg0
  let c0 : Index := 0#32
  let c0_9 : Index := 0#32
  ![v31.toNat, 0, 0]
def k0_off3 (i : grid0.Coords) : Fin 3 → Nat :=
  let arg0 : BitVec 32 := BitVec.ofNat 32 (i 0).val
  let v56 : Index := Scalar.indexCast arg0
  let c0_14 : Index := 0#32
  let c0_15 : Index := 0#32
  ![v56.toNat, 0, 0]
def k0_off4 (i : grid0.Coords) : Fin 3 → Nat :=
  let arg0 : BitVec 32 := BitVec.ofNat 32 (i 0).val
  let v178 : Index := Scalar.indexCast arg0
  let c8 : Index := 8#32
  let c0_53 : Index := 0#32
  ![v178.toNat, 8, 0]
def k0_off5 (i : grid0.Coords) : Fin 3 → Nat :=
  let arg0 : BitVec 32 := BitVec.ofNat 32 (i 0).val
  let v300 : Index := Scalar.indexCast arg0
  let c16 : Index := 16#32
  let c0_92 : Index := 0#32
  ![v300.toNat, 16, 0]
def k0_off6 (i : grid0.Coords) : Fin 3 → Nat :=
  let arg0 : BitVec 32 := BitVec.ofNat 32 (i 0).val
  let v422 : Index := Scalar.indexCast arg0
  let c24 : Index := 24#32
  let c0_131 : Index := 0#32
  ![v422.toNat, 24, 0]
def k0_cond4 (i : grid0.Coords) : BitVec 1 :=
  let arg1 : BitVec 32 := BitVec.ofNat 32 (i 1).val
  let c31_i32 : BitVec 32 := 31#32
  let v23 : BitVec 1 := Scalar.cmpi .eq arg1 c31_i32
  let v24 : BitVec 32 := Scalar.extui v23
  let c0_i32_5 : BitVec 32 := 0#32
  let v25 : BitVec 1 := Scalar.cmpi .ne v24 c0_i32_5
  v25

def k0_off7 (i : grid0.Coords) : Fin 3 → Nat :=
  let arg0 : BitVec 32 := BitVec.ofNat 32 (i 0).val
  let v78 : Index := Scalar.indexCast arg0
  let c0_26 : Index := 0#32
  let c0_27 : Index := 0#32
  ![v78.toNat, 0, 0]
def k0_cond5 (i : grid0.Coords) : BitVec 1 :=
  let arg0 : BitVec 32 := BitVec.ofNat 32 (i 0).val
  let c2_i32_6 : BitVec 32 := 2#32
  let v26 : BitVec 1 := Scalar.cmpi .eq arg0 c2_i32_6
  let arg1 : BitVec 32 := BitVec.ofNat 32 (i 1).val
  let c31_i32_7 : BitVec 32 := 31#32
  let v27 : BitVec 1 := Scalar.cmpi .eq arg1 c31_i32_7
  let v28 : BitVec 1 := Scalar.andi v26 v27
  let v29 : BitVec 32 := Scalar.extui v28
  let c0_i32_8 : BitVec 32 := 0#32
  let v30 : BitVec 1 := Scalar.cmpi .ne v29 c0_i32_8
  v30

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let arg1 : BitVec 32 := BitVec.ofNat 32 (i 1).val
  let c0_i32_0 : BitVec 32 := 0#32
  let v12 : BitVec 1 := Scalar.cmpi .eq arg1 c0_i32_0
  let v13 : BitVec 1 := Scalar.andi v11 v12
  let v14 : BitVec 32 := Scalar.extui v13
  let c0_i32_1 : BitVec 32 := 0#32
  let v15 : BitVec 1 := Scalar.cmpi .ne v14 c0_i32_1
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (k0_off1_inb : ∀ i : grid0.Coords, ∀ a, (k0_off1 i) a + S1.size a ≤ S3.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S3) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, c0_i32_7.toNat, v21.toNat]

def cc0_transform_4 (k0_off1_inb : ∀ i : grid0.Coords, ∀ a, (k0_off1 i) a + S1.size a ≤ S3.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S3) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, c0_i32_7.toNat, v21.toNat]

def cc0_transform_5 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S3) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, c0_i32_6.toNat, v21.toNat]

def cc0_transform_6 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S3) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, c0_i32_6.toNat, v21.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S3x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S3x8x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x64x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x64x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S3x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x8x64 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x8x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x8x64 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x8x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S3x1x4096 : Shape := ⟨3, ![3, 1, 4096]⟩
abbrev S3x1x8x128 : Shape := ⟨4, ![3, 1, 8, 128]⟩
abbrev S3x65536x8x64 : Shape := ⟨4, ![3, 65536, 8, 64]⟩
abbrev S3x65536x8 : Shape := ⟨3, ![3, 65536, 8]⟩
abbrev S3 : Shape := ⟨1, ![3]⟩
abbrev S128x128 : Shape := ⟨2, ![128, 128]⟩
abbrev S_ : Shape := ⟨0, ![]⟩
abbrev S3x1x8 : Shape := ⟨3, ![3, 1, 8]⟩
abbrev S3x1x8x1 : Shape := ⟨4, ![3, 1, 8, 1]⟩
abbrev S3x1x8x4x128 : Shape := ⟨5, ![3, 1, 8, 4, 128]⟩
abbrev S3x1x8x4x64 : Shape := ⟨5, ![3, 1, 8, 4, 64]⟩
abbrev S3x8x65536x1x4 : Shape := ⟨5, ![3, 8, 65536, 1, 4]⟩
abbrev S3x1x8x4x65536 : Shape := ⟨5, ![3, 1, 8, 4, 65536]⟩
abbrev S3x8x65536 : Shape := ⟨3, ![3, 8, 65536]⟩
abbrev S3x1x8x1x65536 : Shape := ⟨5, ![3, 1, 8, 1, 65536]⟩
abbrev S3x65536 : Shape := ⟨2, ![3, 65536]⟩
abbrev S3x1 : Shape := ⟨2, ![3, 1]⟩
abbrev S3x1x1x1x65536 : Shape := ⟨5, ![3, 1, 1, 1, 65536]⟩
abbrev S3x1x8x4 : Shape := ⟨4, ![3, 1, 8, 4]⟩
abbrev S3x1x8x4x1 : Shape := ⟨5, ![3, 1, 8, 4, 1]⟩
abbrev S3x1x8x1x128 : Shape := ⟨5, ![3, 1, 8, 1, 128]⟩
abbrev S3x8x64x1x4 : Shape := ⟨5, ![3, 8, 64, 1, 4]⟩
abbrev S64x128 : Shape := ⟨2, ![64, 128]⟩
abbrev S3x1x8x64 : Shape := ⟨4, ![3, 1, 8, 64]⟩

abbrev nBuf : Space → Nat
  | .hbm => 218
  | .vmem => 0
  | .smem => 0
  | _ => 0

abbrev hbmTy0_0 (i : Nat) : BufTy := match i % 128 with
  | 0 => ⟨S3x1x4096, .bf16⟩
  | 1 => ⟨S3x1x8x128, .bf16⟩
  | 2 => ⟨S3x1x8x128, .bf16⟩
  | 3 => ⟨S3x65536x8x64, .i8⟩
  | 4 => ⟨S3x65536x8x64, .i8⟩
  | 5 => ⟨S3x65536x8, .f32⟩
  | 6 => ⟨S3x65536x8, .f32⟩
  | 7 => ⟨S3, .i32⟩
  | 8 => ⟨S128x128, .i32⟩
  | 9 => ⟨S128x128, .i32⟩
  | 10 => ⟨S128x128, .i32⟩
  | 11 => ⟨S128x128, .i32⟩
  | 12 => ⟨S_, .i32⟩
  | 13 => ⟨S128x128, .i32⟩
  | 14 => ⟨S128x128, .i32⟩
  | 15 => ⟨S_, .i32⟩
  | 16 => ⟨S128x128, .i32⟩
  | 17 => ⟨S128x128, .i1⟩
  | 18 => ⟨S_, .f32⟩
  | 19 => ⟨S_, .f32⟩
  | 20 => ⟨S128x128, .f32⟩
  | 21 => ⟨S128x128, .f32⟩
  | 22 => ⟨S128x128, .f32⟩
  | 23 => ⟨S128x128, .f32⟩
  | 24 => ⟨S_, .f32⟩
  | 25 => ⟨S128x128, .f32⟩
  | 26 => ⟨S128x128, .f32⟩
  | 27 => ⟨S3x1x8x128, .f32⟩
  | 28 => ⟨S3x1x8x128, .f32⟩
  | 29 => ⟨S3x1x8x128, .f32⟩
  | 30 => ⟨S_, .f32⟩
  | 31 => ⟨S3x1x8, .f32⟩
  | 32 => ⟨S_, .f32⟩
  | 33 => ⟨S3x1x8, .f32⟩
  | 34 => ⟨S3x1x8, .i1⟩
  | 35 => ⟨S_, .f32⟩
  | 36 => ⟨S3x1x8, .f32⟩
  | 37 => ⟨S3x1x8, .f32⟩
  | 38 => ⟨S_, .f32⟩
  | 39 => ⟨S3x1x8, .f32⟩
  | 40 => ⟨S3x1x8, .f32⟩
  | 41 => ⟨S3x1x8x1, .f32⟩
  | 42 => ⟨S3x1x8x128, .f32⟩
  | 43 => ⟨S3x1x8x128, .f32⟩
  | 44 => ⟨S3x1x8x128, .f32⟩
  | 45 => ⟨S_, .f32⟩
  | 46 => ⟨S_, .f32⟩
  | 47 => ⟨S_, .f32⟩
  | 48 => ⟨S3x1x8x128, .f32⟩
  | 49 => ⟨S3x1x8x128, .f32⟩
  | 50 => ⟨S_, .f32⟩
  | 51 => ⟨S3x1x8x128, .f32⟩
  | 52 => ⟨S3x1x8x128, .f32⟩
  | 53 => ⟨S3x1x8x128, .f32⟩
  | 54 => ⟨S3x1x8x128, .f32⟩
  | 55 => ⟨S3x1x8x128, .f32⟩
  | 56 => ⟨S_, .f32⟩
  | 57 => ⟨S3x1x8, .f32⟩
  | 58 => ⟨S_, .f32⟩
  | 59 => ⟨S3x1x8, .f32⟩
  | 60 => ⟨S3x1x8, .i1⟩
  | 61 => ⟨S_, .f32⟩
  | 62 => ⟨S3x1x8, .f32⟩
  | 63 => ⟨S3x1x8, .f32⟩
  | 64 => ⟨S_, .f32⟩
  | 65 => ⟨S3x1x8, .f32⟩
  | 66 => ⟨S3x1x8, .f32⟩
  | 67 => ⟨S3x1x8x1, .f32⟩
  | 68 => ⟨S3x1x8x128, .f32⟩
  | 69 => ⟨S3x1x8x128, .f32⟩
  | 70 => ⟨S3x1x8x128, .f32⟩
  | 71 => ⟨S_, .f32⟩
  | 72 => ⟨S_, .f32⟩
  | 73 => ⟨S_, .f32⟩
  | 74 => ⟨S3x1x8x128, .f32⟩
  | 75 => ⟨S3x1x8x128, .f32⟩
  | 76 => ⟨S_, .f32⟩
  | 77 => ⟨S3x1x8x128, .f32⟩
  | 78 => ⟨S3x1x8x128, .f32⟩
  | 79 => ⟨S3x1x4096, .f32⟩
  | 80 => ⟨S3x1x8x4x128, .f32⟩
  | 81 => ⟨S3x1x8x4x128, .f32⟩
  | 82 => ⟨S3x1x8x4x128, .bf16⟩
  | 83 => ⟨S3x65536x8x64, .i32⟩
  | 84 => ⟨S_, .i32⟩
  | 85 => ⟨S3x65536x8x64, .i32⟩
  | 86 => ⟨S3x65536x8x64, .i32⟩
  | 87 => ⟨S_, .i32⟩
  | 88 => ⟨S3x65536x8x64, .i32⟩
  | 89 => ⟨S3x65536x8x64, .i32⟩
  | 90 => ⟨S3x65536x8x64, .bf16⟩
  | 91 => ⟨S_, .i32⟩
  | 92 => ⟨S3x65536x8x64, .i32⟩
  | 93 => ⟨S3x65536x8x64, .i32⟩
  | 94 => ⟨S_, .i32⟩
  | 95 => ⟨S3x65536x8x64, .i32⟩
  | 96 => ⟨S3x65536x8x64, .i32⟩
  | 97 => ⟨S3x65536x8x64, .bf16⟩
  | 98 => ⟨S3x1x8x4x64, .bf16⟩
  | 99 => ⟨S3x8x65536x1x4, .f32⟩
  | 100 => ⟨S3x1x8x4x65536, .f32⟩
  | 101 => ⟨S3x1x8x4x64, .bf16⟩
  | 102 => ⟨S3x8x65536x1x4, .f32⟩
  | 103 => ⟨S3x1x8x4x65536, .f32⟩
  | 104 => ⟨S3x1x8x4x65536, .f32⟩
  | 105 => ⟨S3x8x65536, .f32⟩
  | 106 => ⟨S3x1x8x1x65536, .f32⟩
  | 107 => ⟨S3x1x8x4x65536, .f32⟩
  | 108 => ⟨S3x1x8x4x65536, .f32⟩
  | 109 => ⟨S_, .f32⟩
  | 110 => ⟨S3x1x8x4x65536, .f32⟩
  | 111 => ⟨S3x1x8x4x65536, .f32⟩
  | 112 => ⟨S3x65536, .i32⟩
  | 113 => ⟨S3x1, .i32⟩
  | 114 => ⟨S3x65536, .i32⟩
  | 115 => ⟨S3x65536, .i1⟩
  | 116 => ⟨S3x1x1x1x65536, .i1⟩
  | 117 => ⟨S_, .f32⟩
  | 118 => ⟨S_, .f32⟩
  | 119 => ⟨S3x1x8x4x65536, .i1⟩
  | 120 => ⟨S3x1x8x4x65536, .f32⟩
  | 121 => ⟨S3x1x8x4x65536, .f32⟩
  | 122 => ⟨S3x1x8x128, .bf16⟩
  | 123 => ⟨S3x1x8x4, .f32⟩
  | 124 => ⟨S3x1x8x1, .f32⟩
  | 125 => ⟨S3x1x8x4, .f32⟩
  | 126 => ⟨S3x1x8x4, .f32⟩
  | 127 => ⟨S_, .f32⟩
  | _ => ⟨S3x1x4096, .bf16⟩

abbrev hbmTy0_1 (i : Nat) : BufTy := match i % 128 with
  | 0 => ⟨S3x1x8x4, .f32⟩
  | 1 => ⟨S3x1x8x4, .f32⟩
  | 2 => ⟨S_, .f32⟩
  | 3 => ⟨S3x1x8x4, .f32⟩
  | 4 => ⟨S3x1x8x4, .f32⟩
  | 5 => ⟨S3x1x8x4x1, .f32⟩
  | 6 => ⟨S3x1x8x4x65536, .f32⟩
  | 7 => ⟨S3x1x8x4x65536, .f32⟩
  | 8 => ⟨S3x1x8x4x65536, .f32⟩
  | 9 => ⟨S3x1x8x4, .f32⟩
  | 10 => ⟨S3x1x8x4, .f32⟩
  | 11 => ⟨S_, .f32⟩
  | 12 => ⟨S3x1x8x4, .f32⟩
  | 13 => ⟨S3x1x8x4, .f32⟩
  | 14 => ⟨S_, .f32⟩
  | 15 => ⟨S3x1x8x4, .f32⟩
  | 16 => ⟨S3x1x8x4, .f32⟩
  | 17 => ⟨S3x1x8x4x1, .f32⟩
  | 18 => ⟨S3x1x8x4x65536, .f32⟩
  | 19 => ⟨S3x1x8x4x65536, .f32⟩
  | 20 => ⟨S3x1x8x4, .f32⟩
  | 21 => ⟨S3x8x65536, .f32⟩
  | 22 => ⟨S3x1x8x1x65536, .f32⟩
  | 23 => ⟨S3x1x8x4x65536, .f32⟩
  | 24 => ⟨S3x1x8x4x65536, .f32⟩
  | 25 => ⟨S3x1x8x4x65536, .bf16⟩
  | 26 => ⟨S3x1x8x1, .f32⟩
  | 27 => ⟨S3x1x8x4, .f32⟩
  | 28 => ⟨S3x1x8x4, .f32⟩
  | 29 => ⟨S3x1x8x4, .bf16⟩
  | 30 => ⟨S3x65536x8x64, .i32⟩
  | 31 => ⟨S_, .i32⟩
  | 32 => ⟨S3x65536x8x64, .i32⟩
  | 33 => ⟨S3x65536x8x64, .i32⟩
  | 34 => ⟨S_, .i32⟩
  | 35 => ⟨S3x65536x8x64, .i32⟩
  | 36 => ⟨S3x65536x8x64, .i32⟩
  | 37 => ⟨S3x65536x8x64, .bf16⟩
  | 38 => ⟨S_, .i32⟩
  | 39 => ⟨S3x65536x8x64, .i32⟩
  | 40 => ⟨S3x65536x8x64, .i32⟩
  | 41 => ⟨S_, .i32⟩
  | 42 => ⟨S3x65536x8x64, .i32⟩
  | 43 => ⟨S3x65536x8x64, .i32⟩
  | 44 => ⟨S3x65536x8x64, .bf16⟩
  | 45 => ⟨S3x1x8x128, .bf16⟩
  | 46 => ⟨S3x1x8x4, .f32⟩
  | 47 => ⟨S3x1x8x4x1, .f32⟩
  | 48 => ⟨S3x1x8x128, .f32⟩
  | 49 => ⟨S3x1x8x1x128, .f32⟩
  | 50 => ⟨S3x1x8x4x128, .f32⟩
  | 51 => ⟨S3x1x8x4x128, .f32⟩
  | 52 => ⟨S3x1x8x4x128, .f32⟩
  | 53 => ⟨S3x8x64x1x4, .f32⟩
  | 54 => ⟨S3x1x8x4x64, .f32⟩
  | 55 => ⟨S3x1x8x4x64, .f32⟩
  | 56 => ⟨S3x1x8x4x64, .f32⟩
  | 57 => ⟨S3x8x64x1x4, .f32⟩
  | 58 => ⟨S3x1x8x4x64, .f32⟩
  | 59 => ⟨S3x1x8x4x64, .f32⟩
  | 60 => ⟨S3x1x8x4x64, .f32⟩
  | 61 => ⟨S64x128, .f32⟩
  | 62 => ⟨S3x1x8x4x128, .f32⟩
  | 63 => ⟨S64x128, .f32⟩
  | 64 => ⟨S3x1x8x4x128, .f32⟩
  | 65 => ⟨S3x1x8x4x128, .f32⟩
  | 66 => ⟨S3x1x4096, .f32⟩
  | 67 => ⟨S3x1x4096, .bf16⟩
  | 68 => ⟨S3x1x8x128, .i32⟩
  | 69 => ⟨S_, .i32⟩
  | 70 => ⟨S3x1x8x128, .i32⟩
  | 71 => ⟨S3x1x8x128, .i32⟩
  | 72 => ⟨S3x1x8x64, .i32⟩
  | 73 => ⟨S3x1x8x64, .i32⟩
  | 74 => ⟨S_, .i32⟩
  | 75 => ⟨S3x1x8x64, .i32⟩
  | 76 => ⟨S3x1x8x64, .i32⟩
  | 77 => ⟨S3x1x8x64, .i32⟩
  | 78 => ⟨S3x1x8x64, .i8⟩
  | 79 => ⟨S3x1x8x128, .i32⟩
  | 80 => ⟨S_, .i32⟩
  | 81 => ⟨S3x1x8x128, .i32⟩
  | 82 => ⟨S3x1x8x128, .i32⟩
  | 83 => ⟨S3x1x8x64, .i32⟩
  | 84 => ⟨S3x1x8x64, .i32⟩
  | 85 => ⟨S_, .i32⟩
  | 86 => ⟨S3x1x8x64, .i32⟩
  | 87 => ⟨S3x1x8x64, .i32⟩
  | 88 => ⟨S3x1x8x64, .i32⟩
  | 89 => ⟨S3x1x8x64, .i8⟩
  | _ => ⟨S3x1x4096, .bf16⟩

abbrev hbmTy (i : Nat) : BufTy := match i / 128 with
  | 0 => hbmTy0_0 i
  | 1 => hbmTy0_1 i
  | _ => ⟨S3x1x4096, .bf16⟩

abbrev bufTy : (tb : Table) → Fin (tcTables nBuf tb) → BufTy
  | .hbm, ⟨i, _⟩ => hbmTy i
  | _, _ => ⟨S3x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_cst_6 : Ref sig .tc := ⟨.hbm, 38, rfl⟩
abbrev main_call1_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_cst_8 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_9 : Ref sig .tc := ⟨.hbm, 56, rfl⟩
abbrev main_v29 : Ref sig .tc := ⟨.hbm, 57, rfl⟩
abbrev main_cst_10 : Ref sig .tc := ⟨.hbm, 58, rfl⟩
abbrev main_v30 : Ref sig .tc := ⟨.hbm, 59, rfl⟩
abbrev main_v31 : Ref sig .tc := ⟨.hbm, 60, rfl⟩
abbrev main_cst_11 : Ref sig .tc := ⟨.hbm, 61, rfl⟩
abbrev main_v32 : Ref sig .tc := ⟨.hbm, 62, rfl⟩
abbrev main_v33 : Ref sig .tc := ⟨.hbm, 63, rfl⟩
abbrev main_cst_12 : Ref sig .tc := ⟨.hbm, 64, rfl⟩
abbrev main_call4_v0 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_13 : Ref sig .tc := ⟨.hbm, 71, rfl⟩
abbrev main_cst_14 : Ref sig .tc := ⟨.hbm, 72, rfl⟩
abbrev main_call6_v0 : Ref sig .tc := ⟨.hbm, 73, rfl⟩
abbrev main_call6_v1 : Ref sig .tc := ⟨.hbm, 74, rfl⟩
abbrev main_call6_v2 : Ref sig .tc := ⟨.hbm, 75, rfl⟩
abbrev main_call6_v3 : Ref sig .tc := ⟨.hbm, 76, rfl⟩
abbrev main_call6_v4 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_c_15 : Ref sig .tc := ⟨.hbm, 84, rfl⟩
abbrev main_v45 : Ref sig .tc := ⟨.hbm, 85, rfl⟩
abbrev main_v46 : Ref sig .tc := ⟨.hbm, 86, rfl⟩
abbrev main_c_16 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_c_17 : Ref sig .tc := ⟨.hbm, 91, rfl⟩
abbrev main_v50 : Ref sig .tc := ⟨.hbm, 92, rfl⟩
abbrev main_v51 : Ref sig .tc := ⟨.hbm, 93, rfl⟩
abbrev main_c_18 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_19 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_20 : Ref sig .tc := ⟨.hbm, 117, rfl⟩
abbrev main_call7_v0 : Ref sig .tc := ⟨.hbm, 118, rfl⟩
abbrev main_call7_v1 : Ref sig .tc := ⟨.hbm, 119, rfl⟩
abbrev main_call7_v2 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_21 : Ref sig .tc := ⟨.hbm, 127, rfl⟩
abbrev main_v79 : Ref sig .tc := ⟨.hbm, 128, rfl⟩
abbrev main_v80 : Ref sig .tc := ⟨.hbm, 129, rfl⟩
abbrev main_cst_22 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_23 : Ref sig .tc := ⟨.hbm, 139, rfl⟩
abbrev main_v89 : Ref sig .tc := ⟨.hbm, 140, rfl⟩
abbrev main_v90 : Ref sig .tc := ⟨.hbm, 141, rfl⟩
abbrev main_cst_24 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_c_25 : Ref sig .tc := ⟨.hbm, 159, rfl⟩
abbrev main_v107 : Ref sig .tc := ⟨.hbm, 160, rfl⟩
abbrev main_v108 : Ref sig .tc := ⟨.hbm, 161, rfl⟩
abbrev main_c_26 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_c_27 : Ref sig .tc := ⟨.hbm, 166, rfl⟩
abbrev main_v112 : Ref sig .tc := ⟨.hbm, 167, rfl⟩
abbrev main_v113 : Ref sig .tc := ⟨.hbm, 168, rfl⟩
abbrev main_c_28 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_c_29 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_c_30 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_c_31 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_c_32 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩

abbrev nD : Nat := 1
abbrev τ : Topo := Topo.v7x

variable {F : FTy → Type} [FloatOps F]
-- ==== Proof.Chunk.lean ====
module

public import Idealize.ShloMosaic.PureOps.Vector

@[expose] public section

namespace Cert.Chunk

open Idealize.ShloMosaic

/-- The chunk that the index maps of the cache windows read at grid column `c` of a batch of `w` valid tokens:
    `min c (max (w - 1) 0 / 2048)`, as the kernel computes it on words. -/
def chunk (c w : BitVec 32) : BitVec 32 :=
  let v3 : BitVec 32 := Scalar.maxsi (Scalar.subi w 1#32) 0#32
  let v4 : BitVec 32 := Scalar.divsi v3 2048#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 2048#32 0#32)) (Scalar.extui (Scalar.cmpi .slt 2048#32 0#32))
  let v15 : BitVec 1 := Scalar.cmpi .ne v9 v14
  let v17 : BitVec 1 := Scalar.cmpi .ne (Scalar.remsi v3 2048#32) 0#32
  let v18 : BitVec 1 := Scalar.andi v15 v17
  let v20 : BitVec 32 := Scalar.select v18 (Scalar.subi v4 1#32) v4
  Scalar.minsi c v20

/-- The number of tokens less one, cut at 0, is a word below `2 ^ 31`. -/
theorem pos_toNat (w : BitVec 32) : (Scalar.maxsi (Scalar.subi w 1#32) 0#32).toNat < 2 ^ 31 := by
  unfold Scalar.maxsi IntOp.maxsi
  split
  · rename_i h
    rw [BitVec.slt_iff_toInt_lt] at h
    rw [BitVec.toInt_eq_toNat_cond] at h
    rw [BitVec.toInt_eq_toNat_cond] at h
    have h00 : (0#32).toNat = 0 := rfl
    have h2 := (Scalar.subi w 1#32).isLt
    rw [if_pos (by omega)] at h
    split at h <;> omega
  · decide

/-- Of a word below `2 ^ 31` the floor division by 2048, corrected as the kernel does, is the division of naturals. -/
theorem floor_eq (v3 : BitVec 32) (hv : v3.toNat < 2 ^ 31) :
    Scalar.select
      (Scalar.andi (Scalar.cmpi .ne (Scalar.subi (Scalar.extui (Scalar.cmpi .sgt v3 0#32)) (Scalar.extui (Scalar.cmpi .slt v3 0#32)))
          (Scalar.subi (Scalar.extui (Scalar.cmpi .sgt 2048#32 0#32)) (Scalar.extui (Scalar.cmpi .slt 2048#32 0#32))))
        (Scalar.cmpi .ne (Scalar.remsi v3 2048#32) 0#32))
      (Scalar.subi (Scalar.divsi v3 2048#32) 1#32) (Scalar.divsi v3 2048#32) = v3 / 2048#32 := by
  have hm : v3.msb = false := by
    rw [BitVec.msb_eq_decide]; simp; omega
  have hc : ¬ IntOp.SDivCorner v3 2048#32 := by
    unfold IntOp.SDivCorner
    rintro (h | ⟨_, h⟩)
    · exact absurd h (by decide)
    · exact absurd h (by decide)
  have hd : Scalar.divsi v3 2048#32 = v3 / 2048#32 := by
    unfold Scalar.divsi IntOp.divsi
    rw [if_neg hc, BitVec.sdiv_eq, hm]
    simp [show (2048#32).msb = false by decide]
  have hr : Scalar.remsi v3 2048#32 = v3 % 2048#32 := by
    unfold Scalar.remsi IntOp.remsi
    rw [if_neg hc, BitVec.srem_eq, hm]
    simp [show (2048#32).msb = false by decide]
  rw [hd, hr]
  have hsel : Scalar.andi (Scalar.cmpi .ne (Scalar.subi (Scalar.extui (Scalar.cmpi .sgt v3 0#32)) (Scalar.extui (Scalar.cmpi .slt v3 0#32)))
          (Scalar.subi (Scalar.extui (Scalar.cmpi .sgt 2048#32 0#32)) (Scalar.extui (Scalar.cmpi .slt 2048#32 0#32))))
        (Scalar.cmpi .ne (v3 % 2048#32) 0#32) ≠ 1 := by
    by_cases h0 : v3 = 0#32
    · subst h0; decide
    · have hp : Scalar.cmpi .sgt v3 0#32 = 1#1 := by
        have : (0#32).slt v3 = true := by
          rw [BitVec.slt_iff_toInt_lt, BitVec.toInt_eq_toNat_cond, BitVec.toInt_eq_toNat_cond]
          have : v3.toNat ≠ 0 := fun h => h0 (BitVec.eq_of_toNat_eq (by simpa using h))
          have h00 : (0#32).toNat = 0 := rfl
          rw [if_pos (by omega), if_pos (by omega)]
          omega
        simp [Scalar.cmpi, IntOp.cmpi, this]
      have hn : Scalar.cmpi .slt v3 0#32 = 0#1 := by
        have : v3.slt 0#32 = false := by
          rw [Bool.eq_false_iff]
          intro h
          rw [BitVec.slt_iff_toInt_lt, BitVec.toInt_eq_toNat_cond, BitVec.toInt_eq_toNat_cond] at h
          have h00 : (0#32).toNat = 0 := rfl
          rw [if_pos (by omega), if_pos (by omega)] at h
          omega
        simp [Scalar.cmpi, IntOp.cmpi, this]
      rw [hp, hn]
      have : Scalar.cmpi .ne (Scalar.subi (Scalar.extui 1#1) (Scalar.extui 0#1))
          (Scalar.subi (Scalar.extui (Scalar.cmpi .sgt 2048#32 0#32)) (Scalar.extui (Scalar.cmpi .slt 2048#32 0#32))) = 0#1 := by decide
      rw [this]
      unfold Scalar.andi IntOp.andi
      simp
  unfold Scalar.select
  rw [if_neg hsel]

/-- The chunk read is the least of the column and of the last chunk with a valid token. -/
theorem chunk_eq (c w : BitVec 32) : chunk c w = Scalar.minsi c (Scalar.maxsi (Scalar.subi w 1#32) 0#32 / 2048#32) := by
  exact congrArg (Scalar.minsi c) (floor_eq _ (pos_toNat w))

/-- No column reads past its own chunk. -/
theorem chunk_le (n : Nat) (hn : n < 32) (w : BitVec 32) : (chunk (BitVec.ofNat 32 n) w).toNat ≤ n := by
  rw [chunk_eq]
  have hp := pos_toNat w
  have hc : (BitVec.ofNat 32 n).toNat = n := by simp; omega
  have hd : (Scalar.maxsi (Scalar.subi w 1#32) 0#32 / 2048#32).toNat = (Scalar.maxsi (Scalar.subi w 1#32) 0#32).toNat / 2048 := by simp
  unfold Scalar.minsi IntOp.minsi
  split
  · omega
  · rename_i h
    rw [BitVec.slt_iff_toInt_lt, BitVec.toInt_eq_toNat_cond, BitVec.toInt_eq_toNat_cond, if_pos (by omega), if_pos (by omega)] at h
    omega

/-- A column whose first token is valid reads its own chunk. -/
theorem chunk_eq_self (n : Nat) (hn : n < 32) (w : BitVec 32) (h : ((n * 2048 : Nat) : Int) < w.toInt) :
    (chunk (BitVec.ofNat 32 n) w).toNat = n := by
  rw [chunk_eq]
  have hp := pos_toNat w
  have hc : (BitVec.ofNat 32 n).toNat = n := by simp; omega
  have hd : (Scalar.maxsi (Scalar.subi w 1#32) 0#32 / 2048#32).toNat = (Scalar.maxsi (Scalar.subi w 1#32) 0#32).toNat / 2048 := by simp
  have hw := BitVec.toInt_eq_toNat_cond (x := w)
  have hwl := w.isLt
  have hs : (Scalar.subi w 1#32).toNat = w.toNat - 1 := by
    unfold Scalar.subi IntOp.subi
    rw [BitVec.toNat_sub]
    split at hw <;> simp <;> omega
  have hm : (Scalar.maxsi (Scalar.subi w 1#32) 0#32).toNat = w.toNat - 1 := by
    unfold Scalar.maxsi IntOp.maxsi
    split
    · exact hs
    · rename_i h'
      rw [BitVec.slt_iff_toInt_lt, BitVec.toInt_eq_toNat_cond, BitVec.toInt_eq_toNat_cond] at h'
      have h00 : (0#32).toNat = 0 := rfl
      rw [if_pos (by omega), if_pos (by split at hw <;> omega)] at h'
      split at hw <;> omega
  unfold Scalar.minsi IntOp.minsi
  split
  · omega
  · rename_i h'
    rw [BitVec.slt_iff_toInt_lt, BitVec.toInt_eq_toNat_cond, BitVec.toInt_eq_toNat_cond, if_pos (by omega), if_pos (by omega)] at h'
    split at hw <;> omega

end Cert.Chunk

end
-- ==== Proof.OkKernelIdeal.lean ====
module

public import proofs.«01_k».proof.Proof.Gen.KernelIdeal
public import proofs.«01_k».proof.Proof.Chunk
public import Idealize.ShloMosaic.Lib.Affine

@[expose] public section

noncomputable section

namespace Cert.KernelIdeal.Ok

open Idealize.ShloMosaic Cert.KernelIdeal Cert.KernelIdeal.Gen

attribute [local instance] Cert.KernelIdeal.Gen.facts

variable {F : FTy → Type} [FloatOps F]

/-- The length of the batch of a grid point, as the index maps load it. -/
def lenAt (pf : pre0.Contents (Elt F)) (i : grid0.Coords) : BitVec 32 :=
  pf.at 0 (Rect.unit (s := S3) ![(Scalar.indexCast (BitVec.ofNat 32 (i 0).val)).toNat] S1.size (k0_off1_inb i)) numel1_S1

/-- The index maps of the cache windows read the chunk of the clamp. -/
theorem tr3 (pf : pre0.Contents (Elt F)) (i : grid0.Coords) :
    cc0_transform_3 k0_off1_inb numel1_S1 pf i = ![(BitVec.ofNat 32 (i 0).val).toNat, 0, 0, (Chunk.chunk (BitVec.ofNat 32 (i 1).val) (lenAt pf i)).toNat] := rfl
theorem tr4 (pf : pre0.Contents (Elt F)) (i : grid0.Coords) :
    cc0_transform_4 k0_off1_inb numel1_S1 pf i = ![(BitVec.ofNat 32 (i 0).val).toNat, 0, 0, (Chunk.chunk (BitVec.ofNat 32 (i 1).val) (lenAt pf i)).toNat] := rfl
theorem tr5 (pf : pre0.Contents (Elt F)) (i : grid0.Coords) :
    cc0_transform_5 k0_off1_inb numel1_S1 pf i = ![(BitVec.ofNat 32 (i 0).val).toNat, 0, (Chunk.chunk (BitVec.ofNat 32 (i 1).val) (lenAt pf i)).toNat] := rfl
theorem tr6 (pf : pre0.Contents (Elt F)) (i : grid0.Coords) :
    cc0_transform_6 k0_off1_inb numel1_S1 pf i = ![(BitVec.ofNat 32 (i 0).val).toNat, 0, (Chunk.chunk (BitVec.ofNat 32 (i 1).val) (lenAt pf i)).toNat] := rfl

theorem batch_lt (i : grid0.Coords) : (BitVec.ofNat 32 (i 0).val).toNat ≤ 2 := by
  have : (i 0).val < 3 := (i 0).isLt
  simp; omega

theorem chunk_lt (pf : pre0.Contents (Elt F)) (i : grid0.Coords) :
    (Chunk.chunk (BitVec.ofNat 32 (i 1).val) (lenAt pf i)).toNat ≤ 31 := by
  have h : (i 1).val < 32 := (i 1).isLt
  have := Chunk.chunk_le (i 1).val h (lenAt pf i)
  omega

/-- Whatever the lengths, every cache block lies inside its array and is moved in whole words. -/
theorem ok (pf : pre0.Contents (Elt F)) : ok0 pf := by
  refine ⟨fun i => ?_, fun i => ?_, fun i => ?_, fun i => ?_⟩
  all_goals have hb := batch_lt i
  all_goals have hc := chunk_lt pf i
  · have h : ∀ a, (cc0_transform_3 k0_off1_inb numel1_S1 pf i a + 1) * S1x8x64x2048.size a ≤ S3x8x64x65536.size a := by
      rw [tr3]
      intro a
      match a with
      | 0 => exact (by omega : ((BitVec.ofNat 32 (i 0).val).toNat + 1) * 1 ≤ 3)
      | 1 => show (0 + 1) * 8 ≤ 8; omega
      | 2 => show (0 + 1) * 64 ≤ 64; omega
      | 3 => exact (by omega : ((Chunk.chunk (BitVec.ofNat 32 (i 1).val) (lenAt pf i)).toNat + 1) * 2048 ≤ 65536)
    exact ⟨h, .inr (Affine.block_words_dvd (of_decide_eq_true rfl) (by decide))⟩
  · have h : ∀ a, (cc0_transform_4 k0_off1_inb numel1_S1 pf i a + 1) * S1x8x64x2048.size a ≤ S3x8x64x65536.size a := by
      rw [tr4]
      intro a
      match a with
      | 0 => exact (by omega : ((BitVec.ofNat 32 (i 0).val).toNat + 1) * 1 ≤ 3)
      | 1 => show (0 + 1) * 8 ≤ 8; omega
      | 2 => show (0 + 1) * 64 ≤ 64; omega
      | 3 => exact (by omega : ((Chunk.chunk (BitVec.ofNat 32 (i 1).val) (lenAt pf i)).toNat + 1) * 2048 ≤ 65536)
    exact ⟨h, .inr (Affine.block_words_dvd (of_decide_eq_true rfl) (by decide))⟩
  · have h : ∀ a, (cc0_transform_5 k0_off1_inb numel1_S1 pf i a + 1) * S1x8x2048.size a ≤ S3x8x65536.size a := by
      rw [tr5]
      intro a
      match a with
      | 0 => exact (by omega : ((BitVec.ofNat 32 (i 0).val).toNat + 1) * 1 ≤ 3)
      | 1 => show (0 + 1) * 8 ≤ 8; omega
      | 2 => exact (by omega : ((Chunk.chunk (BitVec.ofNat 32 (i 1).val) (lenAt pf i)).toNat + 1) * 2048 ≤ 65536)
    exact ⟨h, .inl rfl⟩
  · have h : ∀ a, (cc0_transform_6 k0_off1_inb numel1_S1 pf i a + 1) * S1x8x2048.size a ≤ S3x8x65536.size a := by
      rw [tr6]
      intro a
      match a with
      | 0 => exact (by omega : ((BitVec.ofNat 32 (i 0).val).toNat + 1) * 1 ≤ 3)
      | 1 => show (0 + 1) * 8 ≤ 8; omega
      | 2 => exact (by omega : ((Chunk.chunk (BitVec.ofNat 32 (i 1).val) (lenAt pf i)).toNat + 1) * 2048 ≤ 65536)
    exact ⟨h, .inl rfl⟩

end Cert.KernelIdeal.Ok

end
-- ==== Proof.PointsIdeal.lean ====
/- When the pipeline of `KernelIdeal` fetches and writes back each window, and the kernel body as it is called at a point. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%4)) is fetched at the first point only, at any contents of the tables (its index map reads none). -/
theorem fetch0_0 (a : (pcfg0 (F := F)).Adm) : ∀ t : Fin (cfg0 a).N, ((cfg0 a).win 0).fetch t = true ↔ t.val % 96 = 0 :=
  (fun t => Pipeline.Window.fetchOf_const cc0_transform_0 (fun _ _ => rfl) (n := 96) (by decide) t : ∀ t : Fin grid0.N, Pipeline.Window.fetchOf grid0 false cc0_transform_0 t = true ↔ t.val % 96 = 0)
/-- Window 1 (operand 2 (%5)) is fetched at the first point only, at any contents of the tables (its index map reads none). -/
theorem fetch0_1 (a : (pcfg0 (F := F)).Adm) : ∀ t : Fin (cfg0 a).N, ((cfg0 a).win 1).fetch t = true ↔ t.val % 96 = 0 :=
  (fun t => Pipeline.Window.fetchOf_const cc0_transform_1 (fun _ _ => rfl) (n := 96) (by decide) t : ∀ t : Fin grid0.N, Pipeline.Window.fetchOf grid0 false cc0_transform_1 t = true ↔ t.val % 96 = 0)
/-- Window 2 (operand 3 (%6)) is fetched at the first point only, at any contents of the tables (its index map reads none). -/
theorem fetch0_2 (a : (pcfg0 (F := F)).Adm) : ∀ t : Fin (cfg0 a).N, ((cfg0 a).win 2).fetch t = true ↔ t.val % 96 = 0 :=
  (fun t => Pipeline.Window.fetchOf_const cc0_transform_2 (fun _ _ => rfl) (n := 96) (by decide) t : ∀ t : Fin grid0.N, Pipeline.Window.fetchOf grid0 false cc0_transform_2 t = true ↔ t.val % 96 = 0)
-- window 3: no schedule fact — its index map reads a prefetched table, so where it is fetched or written back depends on the tables' contents
-- window 4: no schedule fact — its index map reads a prefetched table, so where it is fetched or written back depends on the tables' contents
-- window 5: no schedule fact — its index map reads a prefetched table, so where it is fetched or written back depends on the tables' contents
-- window 6: no schedule fact — its index map reads a prefetched table, so where it is fetched or written back depends on the tables' contents
/-- Window 7 (result 0 (%7#0)) is written back at the last point only, at any contents of the tables (its index map reads none). -/
theorem flush0_7 (a : (pcfg0 (F := F)).Adm) : ∀ t : Fin (cfg0 a).N, ((cfg0 a).win 7).flush t = true ↔ t.val % 96 = 95 :=
  (fun t => Pipeline.Window.flushOf_const cc0_transform_7 (fun _ _ => rfl) (n := 96) (by decide) rfl t : ∀ t : Fin grid0.N, Pipeline.Window.flushOf grid0 true cc0_transform_7 t = true ↔ t.val % 96 = 95)
/-- Window 8 (result 1 (%7#1)) is written back at the last point only, at any contents of the tables (its index map reads none). -/
theorem flush0_8 (a : (pcfg0 (F := F)).Adm) : ∀ t : Fin (cfg0 a).N, ((cfg0 a).win 8).flush t = true ↔ t.val % 96 = 95 :=
  (fun t => Pipeline.Window.flushOf_const cc0_transform_8 (fun _ _ => rfl) (n := 96) (by decide) rfl t : ∀ t : Fin grid0.N, Pipeline.Window.flushOf grid0 true cc0_transform_8 t = true ↔ t.val % 96 = 95)
/-- Window 9 (result 2 (%7#2)) is written back at the last point only, at any contents of the tables (its index map reads none). -/
theorem flush0_9 (a : (pcfg0 (F := F)).Adm) : ∀ t : Fin (cfg0 a).N, ((cfg0 a).win 9).flush t = true ↔ t.val % 96 = 95 :=
  (fun t => Pipeline.Window.flushOf_const cc0_transform_9 (fun _ _ => rfl) (n := 96) (by decide) rfl t : ∀ t : Fin grid0.N, Pipeline.Window.flushOf grid0 true cc0_transform_9 t = true ↔ t.val % 96 = 95)
/-- Window 10 (result 3 (%7#3)) is written back at the last point only, at any contents of the tables (its index map reads none). -/
theorem flush0_10 (a : (pcfg0 (F := F)).Adm) : ∀ t : Fin (cfg0 a).N, ((cfg0 a).win 10).flush t = true ↔ t.val % 96 = 95 :=
  (fun t => Pipeline.Window.flushOf_const cc0_transform_10 (fun _ _ => rfl) (n := 96) (by decide) rfl t : ∀ t : Fin grid0.N, Pipeline.Window.flushOf grid0 true cc0_transform_10 t = true ↔ t.val % 96 = 95)
/-- Window 11 (result 4 (%7#4)) is written back at the last point only, at any contents of the tables (its index map reads none). -/
theorem flush0_11 (a : (pcfg0 (F := F)).Adm) : ∀ t : Fin (cfg0 a).N, ((cfg0 a).win 11).flush t = true ↔ t.val % 96 = 95 :=
  (fun t => Pipeline.Window.flushOf_const cc0_transform_11 (fun _ _ => rfl) (n := 96) (by decide) rfl t : ∀ t : Fin grid0.N, Pipeline.Window.flushOf grid0 true cc0_transform_11 t = true ↔ t.val % 96 = 95)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_kv4_decode (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)

end Cert.KernelIdeal.Gen

end
-- ==== Proof.KitIdeal.lean ====
/- What the run of `KernelIdeal`'s kernel body is stated over: the launch, the contents at its entry, the staging and scratch buffers and the branch conditions in closed form. -/
module

public import proofs.«01_k».proof.Proof.Gen.KernelIdeal.Launch
public import proofs.«01_k».proof.Proof.Gen.KernelIdeal.Skeleton
public import proofs.«01_k».proof.Proof.PointsIdeal
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v10, main_v11, main_v12, main_v13, main_v14, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg7 = m ((c : Thread nD τ).loc main_arg7) := by
  unfold Pipeline.afterTail
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0 \ T0)).trans (V_main_arg0 m c),
      ((h c).2 main_arg1 (by decide : main_arg1 ∈ Pipeline.restRefs sig spec0 \ T0)).trans (V_main_arg1 m c),
      ((h c).2 main_arg2 (by decide : main_arg2 ∈ Pipeline.restRefs sig spec0 \ T0)).trans (V_main_arg2 m c),
      ((h c).2 main_arg3 (by decide : main_arg3 ∈ Pipeline.restRefs sig spec0 \ T0)).trans (V_main_arg3 m c),
      ((h c).2 main_arg4 (by decide : main_arg4 ∈ Pipeline.restRefs sig spec0 \ T0)).trans (V_main_arg4 m c),
      ((h c).2 main_arg5 (by decide : main_arg5 ∈ Pipeline.restRefs sig spec0 \ T0)).trans (V_main_arg5 m c),
      ((h c).2 main_arg6 (by decide : main_arg6 ∈ Pipeline.restRefs sig spec0 \ T0)).trans (V_main_arg6 m c),
      ((h c).2 main_arg7 (by decide : main_arg7 ∈ Pipeline.restRefs sig spec0 \ T0)).trans (V_main_arg7 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 96 = 0 :=
  (fun t => by
    have ht : t.val < 96 := Nat.lt_of_lt_of_eq t.isLt N_0
    have e0 : (grid0.coords t 0).val = t.val / 32 % 3 := Pipeline.Grid.coords_val t 0 (by decide) rfl
    have e1 : (grid0.coords t 1).val = t.val / 1 % 32 := Pipeline.Grid.coords_val t 1 (by decide) rfl
    simp only [cond0_0, k0_cond1, e0, e1]
    word_cmp
   : ∀ t : Fin grid0.N, cond0_0 (grid0.coords t) ↔ t.val % 96 = 0)

/-- The condition of the body's `scf.if` 1 (`k0_h2`), from the grid coordinates (the skeleton's scalar
    chain substituted). -/
abbrev cond0_1 (i : grid0.Coords) : Prop := k0_cond2 i = 1#1
/-- It holds at the points ≡ 0 (mod 32) — by arithmetic of the point. -/
theorem hcond0_1 : ∀ t : Fin grid0.N, cond0_1 (grid0.coords t) ↔ t.val % 32 = 0 :=
  (fun t => by
    have ht : t.val < 96 := Nat.lt_of_lt_of_eq t.isLt N_0
    have e0 : (grid0.coords t 0).val = t.val / 32 % 3 := Pipeline.Grid.coords_val t 0 (by decide) rfl
    have e1 : (grid0.coords t 1).val = t.val / 1 % 32 := Pipeline.Grid.coords_val t 1 (by decide) rfl
    simp only [cond0_1, k0_cond2, e0, e1]
    word_cmp
   : ∀ t : Fin grid0.N, cond0_1 (grid0.coords t) ↔ t.val % 32 = 0)

/-- The condition of the body's `scf.if` 2: over WORDS the body reads from its tables or input SMEM windows
    (`v1`), so no function of the point — a case variable: a hypothesis of each run, a `by_cases`
    of the obligation and an `if` of `outsAt`, stated over the argument blocks' words there. -/
abbrev cond0_2 (i : grid0.Coords) (v1 : BitVec 32) : Prop := (Scalar.cmpi .ne (Scalar.extui (Scalar.cmpi .slt (Scalar.muli (BitVec.ofNat 32 (i 1).val) 2048#32) v1)) 0#32) = 1#1

/-- The condition of the body's `scf.if` 3 (`k0_h4`), from the grid coordinates (the skeleton's scalar
    chain substituted). -/
abbrev cond0_3 (i : grid0.Coords) : Prop := k0_cond4 i = 1#1
/-- It holds at the points ≡ 31 (mod 32) — by arithmetic of the point. -/
theorem hcond0_3 : ∀ t : Fin grid0.N, cond0_3 (grid0.coords t) ↔ t.val % 32 = 31 :=
  (fun t => by
    have ht : t.val < 96 := Nat.lt_of_lt_of_eq t.isLt N_0
    have e0 : (grid0.coords t 0).val = t.val / 32 % 3 := Pipeline.Grid.coords_val t 0 (by decide) rfl
    have e1 : (grid0.coords t 1).val = t.val / 1 % 32 := Pipeline.Grid.coords_val t 1 (by decide) rfl
    simp only [cond0_3, k0_cond4, e0, e1]
    word_cmp
   : ∀ t : Fin grid0.N, cond0_3 (grid0.coords t) ↔ t.val % 32 = 31)

/-- The condition of the body's `scf.if` 4 (`k0_h5`), from the grid coordinates (the skeleton's scalar
    chain substituted). -/
abbrev cond0_4 (i : grid0.Coords) : Prop := k0_cond5 i = 1#1
/-- It holds at the last point only — by arithmetic of the point. -/
theorem hcond0_4 : ∀ t : Fin grid0.N, cond0_4 (grid0.coords t) ↔ t.val % 96 = 95 :=
  (fun t => by
    have ht : t.val < 96 := Nat.lt_of_lt_of_eq t.isLt N_0
    have e0 : (grid0.coords t 0).val = t.val / 32 % 3 := Pipeline.Grid.coords_val t 0 (by decide) rfl
    have e1 : (grid0.coords t 1).val = t.val / 1 % 32 := Pipeline.Grid.coords_val t 1 (by decide) rfl
    simp only [cond0_4, k0_cond5, e0, e1]
    word_cmp
   : ∀ t : Fin grid0.N, cond0_4 (grid0.coords t) ↔ t.val % 96 = 95)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S3x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S3x8x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S3x8x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x8x64x2048 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x8x64x2048 .i8 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x8x2048 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x8x2048 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S3x4096 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S3x8x64 .i32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S3x8x1 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S3x8x64 .i32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S3x8x1 .f32 := spec0_11.stage ((cfgM m hO).slots t 11)
abbrev hs0_11 (hO : Ok m) (t : Fin (cfgM m hO).N) : (ms0_11 m hO t).IsWhole := hstage0_11 (((cfgM m hO).slots t 11).cast nbuf0_11)
/-- The scratch operands: whole scoped buffers of the kernel's own, passed beside the windows. -/
abbrev scM0_0 : Memref sig .tc .vmem S32x8x128 .f32 := Memref.whole cc0_scratch0
abbrev scM0_1 : Memref sig .tc .vmem S3x8x128 .f32 := Memref.whole cc0_scratch1
abbrev scM0_2 : Memref sig .tc .vmem S3x32x256 .f32 := Memref.whole cc0_scratch2
abbrev scM0_3 : Memref sig .tc .vmem S3x32x128 .f32 := Memref.whole cc0_scratch3
abbrev scM0_4 : Memref sig .tc .vmem S3x32x128 .f32 := Memref.whole cc0_scratch4
abbrev scM0_5 : Memref sig .tc .vmem S3x32x128 .f32 := Memref.whole cc0_scratch5
abbrev scM0_6 : Memref sig .tc .vmem S32x256 .f32 := Memref.whole cc0_scratch6
abbrev scM0_7 : Memref sig .tc .vmem S32x128 .f32 := Memref.whole cc0_scratch7
abbrev scM0_8 : Memref sig .tc .vmem S32x128 .f32 := Memref.whole cc0_scratch8
/-- The scratch `arg17` the kernel carries between points, as a view: what it holds is stated through it. -/
abbrev VS0_2 : View sig .tc .vmem S3x32x256 .f32 := scM0_2.view
/-- The scratch `arg18` the kernel carries between points, as a view: what it holds is stated through it. -/
abbrev VS0_3 : View sig .tc .vmem S3x32x128 .f32 := scM0_3.view
/-- The scratch `arg19` the kernel carries between points, as a view: what it holds is stated through it. -/
abbrev VS0_4 : View sig .tc .vmem S3x32x128 .f32 := scM0_4.view
/-- The scratch `arg21` the kernel carries between points, as a view: what it holds is stated through it. -/
abbrev VS0_6 : View sig .tc .vmem S32x256 .f32 := scM0_6.view
/-- The scratch `arg22` the kernel carries between points, as a view: what it holds is stated through it. -/
abbrev VS0_7 : View sig .tc .vmem S32x128 .f32 := scM0_7.view
/-- The scratch `arg23` the kernel carries between points, as a view: what it holds is stated through it. -/
abbrev VS0_8 : View sig .tc .vmem S32x128 .f32 := scM0_8.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.KernelIdeal.Gen

end
-- ==== Proof.StagesIdeal.lean ====
/- The stages of the kernel's body, each its own program: the body runs them in order, each under its condition. -/
module

public import proofs.«01_k».proof.Proof.KitIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Point (0, 0): the rotations, the new codes and scales, the queries, the new scores and the new value rows. -/
noncomputable def prepS (i : grid0.Coords) (k0_h1 : k0_cond1 i = 1#1) (arg2 : Memref sig .tc .smem S3 .i32) (harg2 : arg2.IsWhole) (arg3 : Memref sig .tc .vmem S3x4096 .bf16) (harg3 : arg3.IsWhole) (arg4 : Memref sig .tc .vmem S3x8x128 .bf16) (harg4 : arg4.IsWhole) (arg5 : Memref sig .tc .vmem S3x8x128 .bf16) (harg5 : arg5.IsWhole) (arg6 : Memref sig .tc .vmem S1x8x64x2048 .i8) (harg6 : arg6.IsWhole) (arg7 : Memref sig .tc .vmem S1x8x64x2048 .i8) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S3x4096 .bf16) (harg10 : arg10.IsWhole) (arg11 : Memref sig .tc .vmem S3x8x64 .i32) (harg11 : arg11.IsWhole) (arg12 : Memref sig .tc .vmem S3x8x1 .f32) (harg12 : arg12.IsWhole) (arg13 : Memref sig .tc .vmem S3x8x64 .i32) (harg13 : arg13.IsWhole) (arg14 : Memref sig .tc .vmem S3x8x1 .f32) (harg14 : arg14.IsWhole) (arg15 : Memref sig .tc .vmem S32x8x128 .f32) (harg15 : arg15.IsWhole) (arg16 : Memref sig .tc .vmem S3x8x128 .f32) (harg16 : arg16.IsWhole) (arg17 : Memref sig .tc .vmem S3x32x256 .f32) (harg17 : arg17.IsWhole) (arg18 : Memref sig .tc .vmem S3x32x128 .f32) (harg18 : arg18.IsWhole) (arg19 : Memref sig .tc .vmem S3x32x128 .f32) (harg19 : arg19.IsWhole) (arg20 : Memref sig .tc .vmem S3x32x128 .f32) (harg20 : arg20.IsWhole) (arg21 : Memref sig .tc .vmem S32x256 .f32) (harg21 : arg21.IsWhole) (arg22 : Memref sig .tc .vmem S32x128 .f32) (harg22 : arg22.IsWhole) (arg23 : Memref sig .tc .vmem S32x128 .f32) (harg23 : arg23.IsWhole) :
    Prog (TpuEff nD τ sig (Elt F) Λ₀ .tc) PUnit := do
  let ⟨v50, v73, cst_21, cst_22⟩ : Σ' (v50 : FVec F S128x128 .bf16) (v73 : IVec S128x128 1) (cst_21 : F .f32), F .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  let ⟨v77, v104⟩ : Σ' (v77 : FVec F S128x128 .bf16), FVec F S3x128 .f32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v73 cst_21 cst_22
  let v134 : FVec F S3x128 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v104
  let v164 : FVec F S3x128 .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v134
  let v194 : FVec F S3x128 .f32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v164
  let v224 : FVec F S3x128 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v194
  let v254 : FVec F S3x128 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v224
  let ⟨v282, v287, v290, v291⟩ : Σ' (v282 : FVec F S128x128 .bf16) (v287 : FVec F S8x128 .f32) (v290 : FVec F S8x1 .f32), FVec F S8x1 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v50 v254
  let ⟨v296, v303, v317, v324, v332⟩ : Σ' (v296 : FVec F S8x1 .f32) (v303 : FVec F S8x128 .f32) (v317 : FVec F S8x1 .f32) (v324 : FVec F S8x128 .f32), IVec S8x64 32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v50 v287 v290 v291
  let v363 : FVec F S8x128 .f32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v296 v303 v317 v324 v332
  let ⟨v385, v389, v393, v397, v400⟩ : Σ' (v385 : FVec F S32x128 .f32) (v389 : FVec F S4x128 .f32) (v393 : FVec F S4x128 .f32) (v397 : FVec F S4x128 .f32), FVec F S1x128 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_pay1 v50 v77 v363
  let ⟨v432, v436⟩ : Σ' (v432 : FVec F S4x128 .f32), FVec F S4x128 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v385 v389 v393 v397 v400
  let ⟨v463, v467, v471⟩ : Σ' (v463 : FVec F S32x128 .f32) (v467 : FVec F S4x128 .f32), FVec F S4x128 .f32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v432 v436
  let v505 : FVec F S8x128 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v50 v282 v463 v467 v471
  let ⟨v516, v523, v537, v544, v545, v546⟩ : Σ' (v516 : FVec F S8x1 .f32) (v523 : FVec F S8x128 .f32) (v537 : FVec F S8x1 .f32) (v544 : FVec F S8x128 .f32) (v545 : IVec S8x128 32), IVec S8x128 32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v50 v505
  k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v516 v523 v537 v544 v545 v546
  let ⟨v605, v609, v613, v614⟩ : Σ' (v605 : FVec F S32x128 .f32) (v609 : FVec F S4x128 .f32) (v613 : FVec F S4x128 .f32), Vec F S1x1x128 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_pay1 v50 v77 v537 v544
  let v650 : FVec F S1x128 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v605 v609 v613 v614
  let ⟨v683, v686⟩ : Σ' (v683 : FVec F S32x128 .f32), FVec F S1x128 .f32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v650
  let v719 : FVec F S32x128 .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v282 v683 v686
  let ⟨v736, v743, v757, v760⟩ : Σ' (v736 : FVec F S8x1 .f32) (v743 : FVec F S8x128 .f32) (v757 : FVec F S8x1 .f32), FVec F S8x128 .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v50 v719
  let ⟨v764, v795⟩ : Σ' (v764 : FVec F S8x128 .f32), FVec F S8x128 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v736 v743 v757 v760
  let ⟨v825, v829⟩ : Σ' (v825 : FVec F S32x128 .f32), FVec F S4x128 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_pay1 v50 v77 v757 v764 v795
  let v865 : FVec F S32x128 .f32 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v825 v829
  let ⟨v872, v876, v880, v884, v888, v892, v896, v900⟩ : Σ' (v872 : FVec F S4x128 .f32) (v876 : FVec F S4x128 .f32) (v880 : FVec F S4x128 .f32) (v884 : FVec F S4x128 .f32) (v888 : FVec F S4x128 .f32) (v892 : FVec F S4x128 .f32) (v896 : FVec F S4x128 .f32), FVec F S4x128 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v865
  let ⟨v903, v936⟩ : Σ' (v903 : FVec F S32x128 .f32), FVec F S32x128 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v872 v876 v880 v884 v888 v892 v896 v900
  let v940 : Vec F S1x32x128 .f32 ← Prog.lift (.load arg19 (Rect.unit (s := S3x32x128) ![2, 0, 0] S1x32x128.size inb_S3x32x128_S1x32x128_2_0_0).toLoadRect (View.loadsAt_vmem h_S1x32x128))
  Prog.lift (.store arg19 (Rect.unit (s := S3x32x128) ![2, 0, 0] S1x32x128.size inb_S3x32x128_S1x32x128_2_0_0) (k0_pay2 v282 v903 v936) Finset.univ (View.stores_vmem_bits_univ h_S1x32x128 rfl) (.inl rfl))
  pure ⟨⟩

/-- The first chunk of a batch row: maximum, sum and accumulator from the new token. -/
noncomputable def initS (i : grid0.Coords) (k0_h2 : k0_cond2 i = 1#1) (arg2 : Memref sig .tc .smem S3 .i32) (harg2 : arg2.IsWhole) (arg3 : Memref sig .tc .vmem S3x4096 .bf16) (harg3 : arg3.IsWhole) (arg4 : Memref sig .tc .vmem S3x8x128 .bf16) (harg4 : arg4.IsWhole) (arg5 : Memref sig .tc .vmem S3x8x128 .bf16) (harg5 : arg5.IsWhole) (arg6 : Memref sig .tc .vmem S1x8x64x2048 .i8) (harg6 : arg6.IsWhole) (arg7 : Memref sig .tc .vmem S1x8x64x2048 .i8) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S3x4096 .bf16) (harg10 : arg10.IsWhole) (arg11 : Memref sig .tc .vmem S3x8x64 .i32) (harg11 : arg11.IsWhole) (arg12 : Memref sig .tc .vmem S3x8x1 .f32) (harg12 : arg12.IsWhole) (arg13 : Memref sig .tc .vmem S3x8x64 .i32) (harg13 : arg13.IsWhole) (arg14 : Memref sig .tc .vmem S3x8x1 .f32) (harg14 : arg14.IsWhole) (arg15 : Memref sig .tc .vmem S32x8x128 .f32) (harg15 : arg15.IsWhole) (arg16 : Memref sig .tc .vmem S3x8x128 .f32) (harg16 : arg16.IsWhole) (arg17 : Memref sig .tc .vmem S3x32x256 .f32) (harg17 : arg17.IsWhole) (arg18 : Memref sig .tc .vmem S3x32x128 .f32) (harg18 : arg18.IsWhole) (arg19 : Memref sig .tc .vmem S3x32x128 .f32) (harg19 : arg19.IsWhole) (arg20 : Memref sig .tc .vmem S3x32x128 .f32) (harg20 : arg20.IsWhole) (arg21 : Memref sig .tc .vmem S32x256 .f32) (harg21 : arg21.IsWhole) (arg22 : Memref sig .tc .vmem S32x128 .f32) (harg22 : arg22.IsWhole) (arg23 : Memref sig .tc .vmem S32x128 .f32) (harg23 : arg23.IsWhole) :
    Prog (TpuEff nD τ sig (Elt F) Λ₀ .tc) PUnit := do
  let v32 : Vec F S1x32x128 .f32 ← Prog.lift (.load arg18 (Rect.unit (s := S3x32x128) (k0_off2 i) S1x32x128.size (k0_off2_inb i k0_h2)).toLoadRect (View.loadsAt_vmem h_S1x32x128))
  let v34 : Vec F S32x128 .f32 ← Prog.lift (.load arg22 (Rect.unit (s := S32x128) ![0, 0] S32x128.size inb_S32x128_S32x128_0_0).toLoadRect (View.loadsAt_vmem h_S32x128))
  Prog.lift (.store arg22 (Rect.unit (s := S32x128) ![0, 0] S32x128.size inb_S32x128_S32x128_0_0) (k0_pay3 v32) Finset.univ (View.stores_vmem_bits_univ h_S32x128 rfl) (.inl rfl))
  let v43 : Vec F S32x128 .f32 ← Prog.lift (.load arg23 (Rect.unit (s := S32x128) ![0, 0] S32x128.size inb_S32x128_S32x128_0_0).toLoadRect (View.loadsAt_vmem h_S32x128))
  Prog.lift (.store arg23 (Rect.unit (s := S32x128) ![0, 0] S32x128.size inb_S32x128_S32x128_0_0) (k0_pay4 (F := F)) Finset.univ (View.stores_vmem_bits_univ h_S32x128 rfl) (.inl rfl))
  let v47 : Vec F S1x32x128 .f32 ← Prog.lift (.load arg19 (Rect.unit (s := S3x32x128) (k0_off2 i) S1x32x128.size (k0_off2_inb i k0_h2)).toLoadRect (View.loadsAt_vmem h_S1x32x128))
  let v52 : Vec F S32x256 .f32 ← Prog.lift (.load arg21 (Rect.unit (s := S32x256) ![0, 0] S32x256.size inb_S32x256_S32x256_0_0).toLoadRect (View.loadsAt_vmem h_S32x256))
  Prog.lift (.store arg21 (Rect.unit (s := S32x256) ![0, 0] S32x256.size inb_S32x256_S32x256_0_0) (k0_pay5 v47) Finset.univ (View.stores_vmem_bits_univ h_S32x256 rfl) (.inl rfl))
  pure ⟨⟩

/-- One chunk: the online softmax over 2048 tokens. -/
noncomputable def stepS (i : grid0.Coords) (arg0 arg1 v1 : BitVec 32) (arg2 : Memref sig .tc .smem S3 .i32) (harg2 : arg2.IsWhole) (arg3 : Memref sig .tc .vmem S3x4096 .bf16) (harg3 : arg3.IsWhole) (arg4 : Memref sig .tc .vmem S3x8x128 .bf16) (harg4 : arg4.IsWhole) (arg5 : Memref sig .tc .vmem S3x8x128 .bf16) (harg5 : arg5.IsWhole) (arg6 : Memref sig .tc .vmem S1x8x64x2048 .i8) (harg6 : arg6.IsWhole) (arg7 : Memref sig .tc .vmem S1x8x64x2048 .i8) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S3x4096 .bf16) (harg10 : arg10.IsWhole) (arg11 : Memref sig .tc .vmem S3x8x64 .i32) (harg11 : arg11.IsWhole) (arg12 : Memref sig .tc .vmem S3x8x1 .f32) (harg12 : arg12.IsWhole) (arg13 : Memref sig .tc .vmem S3x8x64 .i32) (harg13 : arg13.IsWhole) (arg14 : Memref sig .tc .vmem S3x8x1 .f32) (harg14 : arg14.IsWhole) (arg15 : Memref sig .tc .vmem S32x8x128 .f32) (harg15 : arg15.IsWhole) (arg16 : Memref sig .tc .vmem S3x8x128 .f32) (harg16 : arg16.IsWhole) (arg17 : Memref sig .tc .vmem S3x32x256 .f32) (harg17 : arg17.IsWhole) (arg18 : Memref sig .tc .vmem S3x32x128 .f32) (harg18 : arg18.IsWhole) (arg19 : Memref sig .tc .vmem S3x32x128 .f32) (harg19 : arg19.IsWhole) (arg20 : Memref sig .tc .vmem S3x32x128 .f32) (harg20 : arg20.IsWhole) (arg21 : Memref sig .tc .vmem S32x256 .f32) (harg21 : arg21.IsWhole) (arg22 : Memref sig .tc .vmem S32x128 .f32) (harg22 : arg22.IsWhole) (arg23 : Memref sig .tc .vmem S32x128 .f32) (harg23 : arg23.IsWhole) :
    Prog (TpuEff nD τ sig (Elt F) Λ₀ .tc) PUnit := do
  let ⟨v36, v60, v66, v72⟩ : Σ' (v36 : IVec S8x2048 1) (v60 : FVec F S8x2048 .f32) (v66 : FVec F S8x2048 .f32), FVec F S8x2048 .f32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 arg1 v1
  let ⟨v81, v83, v86, v121⟩ : Σ' (v81 : FVec F S8x1 .f32) (v83 : FVec F S8x1 .f32) (v86 : FVec F S8x2048 .f32), FVec F S8x128 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v36 v60 v66
  let v161 : IVec S128x2048 8 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v72 v81 v83 v86 v121
  let ⟨v194, v199, v200, v203⟩ : Σ' (v194 : FVec F S8x2048 .f32) (v199 : FVec F S8x2048 .f32) (v200 : Vec F S8x1 .f32), FVec F S8x1 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v36 v161
  let ⟨v205, v253⟩ : Σ' (v205 : FVec F S8x1 .f32), FVec F S8x2048 .bf16 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v194 v199 v200 v203
  let ⟨v291, v294⟩ : Σ' (v291 : IVec S128x1x2048 32), IVec S128x1x2048 32 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v205 v253
  let ⟨v316, v325, v327, v330, v339⟩ : Σ' (v316 : FVec F S8x2048 .f32) (v325 : FVec F S8x1 .f32) (v327 : FVec F S8x1 .f32) (v330 : FVec F S8x2048 .f32), FVec F S8x128 .f32 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v36 v291 v294
  let ⟨v375, v383, v385⟩ : Σ' (v375 : FVec F S8x2048 .bf16) (v383 : IVec S128x2048 32), IVec S128x2048 32 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v316 v325 v327 v330 v339
  let v426 : FVec F S8x2048 .f32 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v327 v375 v383 v385
  let ⟨v438, v447, v449, v452, v475⟩ : Σ' (v438 : FVec F S8x2048 .f32) (v447 : FVec F S8x1 .f32) (v449 : FVec F S8x1 .f32) (v452 : FVec F S8x2048 .f32), FVec F S8x128 .f32 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v36 v426
  let v517 : FVec F S8x256 .f32 ← k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v438 v447 v449 v452 v475
  let v518 : Vec F S8x256 .f32 ← Prog.lift (.load arg21 (Rect.unit (s := S32x256) ![24, 0] S8x256.size inb_S32x256_S8x256_24_0).toLoadRect (View.loadsAt_vmem h_S8x256))
  let v522 : Vec F S8x256 .f32 ← Prog.lift (.load arg21 (Rect.unit (s := S32x256) ![24, 0] S8x256.size inb_S32x256_S8x256_24_0).toLoadRect (View.loadsAt_vmem h_S8x256))
  Prog.lift (.store arg21 (Rect.unit (s := S32x256) ![24, 0] S8x256.size inb_S32x256_S8x256_24_0) (k0_pay6 v449 v517 v518) Finset.univ (View.stores_vmem_bits_univ h_S8x256 rfl) (.inl rfl))
  pure ⟨⟩

/-- The last chunk of a batch row: normalise and rotate back. -/
noncomputable def finishS (i : grid0.Coords) (k0_h4 : k0_cond4 i = 1#1) (arg2 : Memref sig .tc .smem S3 .i32) (harg2 : arg2.IsWhole) (arg3 : Memref sig .tc .vmem S3x4096 .bf16) (harg3 : arg3.IsWhole) (arg4 : Memref sig .tc .vmem S3x8x128 .bf16) (harg4 : arg4.IsWhole) (arg5 : Memref sig .tc .vmem S3x8x128 .bf16) (harg5 : arg5.IsWhole) (arg6 : Memref sig .tc .vmem S1x8x64x2048 .i8) (harg6 : arg6.IsWhole) (arg7 : Memref sig .tc .vmem S1x8x64x2048 .i8) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S3x4096 .bf16) (harg10 : arg10.IsWhole) (arg11 : Memref sig .tc .vmem S3x8x64 .i32) (harg11 : arg11.IsWhole) (arg12 : Memref sig .tc .vmem S3x8x1 .f32) (harg12 : arg12.IsWhole) (arg13 : Memref sig .tc .vmem S3x8x64 .i32) (harg13 : arg13.IsWhole) (arg14 : Memref sig .tc .vmem S3x8x1 .f32) (harg14 : arg14.IsWhole) (arg15 : Memref sig .tc .vmem S32x8x128 .f32) (harg15 : arg15.IsWhole) (arg16 : Memref sig .tc .vmem S3x8x128 .f32) (harg16 : arg16.IsWhole) (arg17 : Memref sig .tc .vmem S3x32x256 .f32) (harg17 : arg17.IsWhole) (arg18 : Memref sig .tc .vmem S3x32x128 .f32) (harg18 : arg18.IsWhole) (arg19 : Memref sig .tc .vmem S3x32x128 .f32) (harg19 : arg19.IsWhole) (arg20 : Memref sig .tc .vmem S3x32x128 .f32) (harg20 : arg20.IsWhole) (arg21 : Memref sig .tc .vmem S32x256 .f32) (harg21 : arg21.IsWhole) (arg22 : Memref sig .tc .vmem S32x128 .f32) (harg22 : arg22.IsWhole) (arg23 : Memref sig .tc .vmem S32x128 .f32) (harg23 : arg23.IsWhole) :
    Prog (TpuEff nD τ sig (Elt F) Λ₀ .tc) PUnit := do
  let ⟨v48, v71, cst_22, cst_23⟩ : Σ' (v48 : FVec F S32x128 .f32) (v71 : IVec S128x128 1) (cst_22 : F .f32), F .f32 ← k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  let v79 : Vec F S1x32x128 .f32 ← Prog.lift (.load arg20 (Rect.unit (s := S3x32x128) (k0_off7 i) S1x32x128.size (k0_off7_inb i k0_h4)).toLoadRect (View.loadsAt_vmem h_S1x32x128))
  Prog.lift (.store arg20 (Rect.unit (s := S3x32x128) (k0_off7 i) S1x32x128.size (k0_off7_inb i k0_h4)) (k0_pay7 v48 v71 cst_22 cst_23) Finset.univ (View.stores_vmem_bits_univ h_S1x32x128 rfl) (.inl rfl))
  pure ⟨⟩

/-- The last point: the output rows. -/
noncomputable def emitS (i : grid0.Coords) (k0_h5 : k0_cond5 i = 1#1) (arg2 : Memref sig .tc .smem S3 .i32) (harg2 : arg2.IsWhole) (arg3 : Memref sig .tc .vmem S3x4096 .bf16) (harg3 : arg3.IsWhole) (arg4 : Memref sig .tc .vmem S3x8x128 .bf16) (harg4 : arg4.IsWhole) (arg5 : Memref sig .tc .vmem S3x8x128 .bf16) (harg5 : arg5.IsWhole) (arg6 : Memref sig .tc .vmem S1x8x64x2048 .i8) (harg6 : arg6.IsWhole) (arg7 : Memref sig .tc .vmem S1x8x64x2048 .i8) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S3x4096 .bf16) (harg10 : arg10.IsWhole) (arg11 : Memref sig .tc .vmem S3x8x64 .i32) (harg11 : arg11.IsWhole) (arg12 : Memref sig .tc .vmem S3x8x1 .f32) (harg12 : arg12.IsWhole) (arg13 : Memref sig .tc .vmem S3x8x64 .i32) (harg13 : arg13.IsWhole) (arg14 : Memref sig .tc .vmem S3x8x1 .f32) (harg14 : arg14.IsWhole) (arg15 : Memref sig .tc .vmem S32x8x128 .f32) (harg15 : arg15.IsWhole) (arg16 : Memref sig .tc .vmem S3x8x128 .f32) (harg16 : arg16.IsWhole) (arg17 : Memref sig .tc .vmem S3x32x256 .f32) (harg17 : arg17.IsWhole) (arg18 : Memref sig .tc .vmem S3x32x128 .f32) (harg18 : arg18.IsWhole) (arg19 : Memref sig .tc .vmem S3x32x128 .f32) (harg19 : arg19.IsWhole) (arg20 : Memref sig .tc .vmem S3x32x128 .f32) (harg20 : arg20.IsWhole) (arg21 : Memref sig .tc .vmem S32x256 .f32) (harg21 : arg21.IsWhole) (arg22 : Memref sig .tc .vmem S32x128 .f32) (harg22 : arg22.IsWhole) (arg23 : Memref sig .tc .vmem S32x128 .f32) (harg23 : arg23.IsWhole) :
    Prog (TpuEff nD τ sig (Elt F) Λ₀ .tc) PUnit := do
  k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  let v151 : Vec F S3x1x128 .f32 ← Prog.lift (.load arg20 (Rect.unit (s := S3x32x128) ![0, 30, 0] S3x1x128.size inb_S3x32x128_S3x1x128_0_30_0).toLoadRect (View.loadsAt_vmem h_S3x1x128))
  let v154 : Vec F S3x128 .bf16 ← Prog.lift (.load arg10 (Rect.unit (s := S3x4096) ![0, 3840] S3x128.size inb_S3x4096_S3x128_0_3840).toLoadRect (View.loadsAt_vmem h_S3x128))
  Prog.lift (.store arg10 (Rect.unit (s := S3x4096) ![0, 3840] S3x128.size inb_S3x4096_S3x128_0_3840) (k0_pay8 v151) Finset.univ (View.stores_vmem h_S3x128 (harg10.storeExact_slice_tiles rfl _ tilesbf16_S3x4096_S3x128_0_3840) (fun _ => rfl)) (.inl rfl))
  let v155 : Vec F S3x1x128 .f32 ← Prog.lift (.load arg20 (Rect.unit (s := S3x32x128) ![0, 31, 0] S3x1x128.size inb_S3x32x128_S3x1x128_0_31_0).toLoadRect (View.loadsAt_vmem h_S3x1x128))
  let v158 : Vec F S3x128 .bf16 ← Prog.lift (.load arg10 (Rect.unit (s := S3x4096) ![0, 3968] S3x128.size inb_S3x4096_S3x128_0_3968).toLoadRect (View.loadsAt_vmem h_S3x128))
  Prog.lift (.store arg10 (Rect.unit (s := S3x4096) ![0, 3968] S3x128.size inb_S3x4096_S3x128_0_3968) (k0_pay9 v155) Finset.univ (View.stores_vmem h_S3x128 (harg10.storeExact_slice_tiles rfl _ tilesbf16_S3x4096_S3x128_0_3968) (fun _ => rfl)) (.inl rfl))
  pure ⟨⟩

/-- The kernel body is its five stages, each under its condition. -/
noncomputable def bodyS (i : grid0.Coords) (arg2 : Memref sig .tc .smem S3 .i32) (harg2 : arg2.IsWhole) (arg3 : Memref sig .tc .vmem S3x4096 .bf16) (harg3 : arg3.IsWhole) (arg4 : Memref sig .tc .vmem S3x8x128 .bf16) (harg4 : arg4.IsWhole) (arg5 : Memref sig .tc .vmem S3x8x128 .bf16) (harg5 : arg5.IsWhole) (arg6 : Memref sig .tc .vmem S1x8x64x2048 .i8) (harg6 : arg6.IsWhole) (arg7 : Memref sig .tc .vmem S1x8x64x2048 .i8) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S3x4096 .bf16) (harg10 : arg10.IsWhole) (arg11 : Memref sig .tc .vmem S3x8x64 .i32) (harg11 : arg11.IsWhole) (arg12 : Memref sig .tc .vmem S3x8x1 .f32) (harg12 : arg12.IsWhole) (arg13 : Memref sig .tc .vmem S3x8x64 .i32) (harg13 : arg13.IsWhole) (arg14 : Memref sig .tc .vmem S3x8x1 .f32) (harg14 : arg14.IsWhole) (arg15 : Memref sig .tc .vmem S32x8x128 .f32) (harg15 : arg15.IsWhole) (arg16 : Memref sig .tc .vmem S3x8x128 .f32) (harg16 : arg16.IsWhole) (arg17 : Memref sig .tc .vmem S3x32x256 .f32) (harg17 : arg17.IsWhole) (arg18 : Memref sig .tc .vmem S3x32x128 .f32) (harg18 : arg18.IsWhole) (arg19 : Memref sig .tc .vmem S3x32x128 .f32) (harg19 : arg19.IsWhole) (arg20 : Memref sig .tc .vmem S3x32x128 .f32) (harg20 : arg20.IsWhole) (arg21 : Memref sig .tc .vmem S32x256 .f32) (harg21 : arg21.IsWhole) (arg22 : Memref sig .tc .vmem S32x128 .f32) (harg22 : arg22.IsWhole) (arg23 : Memref sig .tc .vmem S32x128 .f32) (harg23 : arg23.IsWhole) :
    Prog (TpuEff nD τ sig (Elt F) Λ₀ .tc) PUnit := do
  let arg0 : BitVec 32 := BitVec.ofNat 32 (i 0).val
  let arg1 : BitVec 32 := BitVec.ofNat 32 (i 1).val
  let v1 : Elt F .i32 ← smemLoad arg2 (Rect.unit (s := S3) (k0_off1 i) S1.size (k0_off1_inb i)) numel1_S1 rfl
  if k0_h1 : k0_cond1 i = 1#1 then prepS i k0_h1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 else pure ⟨⟩
  if k0_h2 : k0_cond2 i = 1#1 then initS i k0_h2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 else pure ⟨⟩
  if Scalar.cmpi .ne (Scalar.extui (Scalar.cmpi .slt (Scalar.muli arg1 2048#32) v1) : BitVec 32) 0#32 = 1#1 then stepS i arg0 arg1 v1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 else pure ⟨⟩
  if k0_h4 : k0_cond4 i = 1#1 then finishS i k0_h4 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 else pure ⟨⟩
  if k0_h5 : k0_cond5 i = 1#1 then emitS i k0_h5 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 else pure ⟨⟩
  pure ⟨⟩

set_option maxRecDepth 65536 in
theorem skel_eq_bodyS : cc0_kv4_decode_skel (F := F) = bodyS (F := F) := rfl

end Cert.KernelIdeal.Gen

end
-- ==== Proof.PrepIdeal.lean ====
/- The first stage run. -/
module

public import proofs.«01_k».proof.Proof.StagesIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first stage run. The pieces each written buffer ends with, and the triple. -/
noncomputable def runPrep (c : Dev nD) (i : grid0.Coords) (k0_h1 : k0_cond1 i = 1#1) (arg2 : Memref sig .tc .smem S3 .i32) (harg2 : arg2.IsWhole) (arg3 : Memref sig .tc .vmem S3x4096 .bf16) (harg3 : arg3.IsWhole) (arg4 : Memref sig .tc .vmem S3x8x128 .bf16) (harg4 : arg4.IsWhole) (arg5 : Memref sig .tc .vmem S3x8x128 .bf16) (harg5 : arg5.IsWhole) (arg6 : Memref sig .tc .vmem S1x8x64x2048 .i8) (harg6 : arg6.IsWhole) (arg7 : Memref sig .tc .vmem S1x8x64x2048 .i8) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S3x4096 .bf16) (harg10 : arg10.IsWhole) (arg11 : Memref sig .tc .vmem S3x8x64 .i32) (harg11 : arg11.IsWhole) (arg12 : Memref sig .tc .vmem S3x8x1 .f32) (harg12 : arg12.IsWhole) (arg13 : Memref sig .tc .vmem S3x8x64 .i32) (harg13 : arg13.IsWhole) (arg14 : Memref sig .tc .vmem S3x8x1 .f32) (harg14 : arg14.IsWhole) (arg15 : Memref sig .tc .vmem S32x8x128 .f32) (harg15 : arg15.IsWhole) (arg16 : Memref sig .tc .vmem S3x8x128 .f32) (harg16 : arg16.IsWhole) (arg17 : Memref sig .tc .vmem S3x32x256 .f32) (harg17 : arg17.IsWhole) (arg18 : Memref sig .tc .vmem S3x32x128 .f32) (harg18 : arg18.IsWhole) (arg19 : Memref sig .tc .vmem S3x32x128 .f32) (harg19 : arg19.IsWhole) (arg20 : Memref sig .tc .vmem S3x32x128 .f32) (harg20 : arg20.IsWhole) (arg21 : Memref sig .tc .vmem S32x256 .f32) (harg21 : arg21.IsWhole) (arg22 : Memref sig .tc .vmem S32x128 .f32) (harg22 : arg22.IsWhole) (arg23 : Memref sig .tc .vmem S32x128 .f32) (harg23 : arg23.IsWhole)
    (x3 : Vec F S3x4096 .bf16) (x4 : Vec F S3x8x128 .bf16) (x5 : Vec F S3x8x128 .bf16) :
    Σ' (L11 : List (View.Piece (Elt F) S3x8x64 .i32)), Σ' (L12 : List (View.Piece (Elt F) S3x8x1 .f32)), Σ' (L13 : List (View.Piece (Elt F) S3x8x64 .i32)), Σ' (L14 : List (View.Piece (Elt F) S3x8x1 .f32)), Σ' (L15 : List (View.Piece (Elt F) S32x8x128 .f32)), Σ' (L16 : List (View.Piece (Elt F) S3x8x128 .f32)), Σ' (L17 : List (View.Piece (Elt F) S3x32x256 .f32)), Σ' (L18 : List (View.Piece (Elt F) S3x32x128 .f32)), { L19 : List (View.Piece (Elt F) S3x32x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg3 fullShare x3 ∗ owns (c : Thread nD τ) arg4 fullShare x4 ∗ owns (c : Thread nD τ) arg5 fullShare x5 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19)) -∗ K ⟨⟩))
          ⊢ wp frame (wpE (defs₀ (F := F)) Variants.none c none) E (prepS i k0_h1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, fun E K => ?run⟩
  case run =>
    unfold prepS
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f3, %hf3, H3⟩, ⟨%f4, %hf4, H4⟩, ⟨%f5, %hf5, H5⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
    obtain rfl := harg3.eq_unread hf3; obtain rfl := harg4.eq_unread hf4; obtain rfl := harg5.eq_unread hf5
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.KernelIdeal.Gen

end
-- ==== Proof.InitIdeal.lean ====
/- The chunk loop's start run. -/
module

public import proofs.«01_k».proof.Proof.StagesIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The chunk loop's start run. The pieces each written buffer ends with, and the triple. -/
noncomputable def runInit (c : Dev nD) (i : grid0.Coords) (k0_h2 : k0_cond2 i = 1#1) (arg2 : Memref sig .tc .smem S3 .i32) (harg2 : arg2.IsWhole) (arg3 : Memref sig .tc .vmem S3x4096 .bf16) (harg3 : arg3.IsWhole) (arg4 : Memref sig .tc .vmem S3x8x128 .bf16) (harg4 : arg4.IsWhole) (arg5 : Memref sig .tc .vmem S3x8x128 .bf16) (harg5 : arg5.IsWhole) (arg6 : Memref sig .tc .vmem S1x8x64x2048 .i8) (harg6 : arg6.IsWhole) (arg7 : Memref sig .tc .vmem S1x8x64x2048 .i8) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S3x4096 .bf16) (harg10 : arg10.IsWhole) (arg11 : Memref sig .tc .vmem S3x8x64 .i32) (harg11 : arg11.IsWhole) (arg12 : Memref sig .tc .vmem S3x8x1 .f32) (harg12 : arg12.IsWhole) (arg13 : Memref sig .tc .vmem S3x8x64 .i32) (harg13 : arg13.IsWhole) (arg14 : Memref sig .tc .vmem S3x8x1 .f32) (harg14 : arg14.IsWhole) (arg15 : Memref sig .tc .vmem S32x8x128 .f32) (harg15 : arg15.IsWhole) (arg16 : Memref sig .tc .vmem S3x8x128 .f32) (harg16 : arg16.IsWhole) (arg17 : Memref sig .tc .vmem S3x32x256 .f32) (harg17 : arg17.IsWhole) (arg18 : Memref sig .tc .vmem S3x32x128 .f32) (harg18 : arg18.IsWhole) (arg19 : Memref sig .tc .vmem S3x32x128 .f32) (harg19 : arg19.IsWhole) (arg20 : Memref sig .tc .vmem S3x32x128 .f32) (harg20 : arg20.IsWhole) (arg21 : Memref sig .tc .vmem S32x256 .f32) (harg21 : arg21.IsWhole) (arg22 : Memref sig .tc .vmem S32x128 .f32) (harg22 : arg22.IsWhole) (arg23 : Memref sig .tc .vmem S32x128 .f32) (harg23 : arg23.IsWhole)
    (x18 : Vec F S3x32x128 .f32) (x19 : Vec F S3x32x128 .f32) :
    Σ' (L21 : List (View.Piece (Elt F) S32x256 .f32)), Σ' (L22 : List (View.Piece (Elt F) S32x128 .f32)), { L23 : List (View.Piece (Elt F) S32x128 .f32) //
      ∀ (E : Set ℕ) (K : PUnit → sProp 𝕄),
        iprop(owns (c : Thread nD τ) arg18 fullShare x18 ∗ owns (c : Thread nD τ) arg19 fullShare x19 ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg18 fullShare x18 ∗ owns (c : Thread nD τ) arg19 fullShare x19 ∗ (∃ f, arg21.view.loc (c : Thread nD τ) ↦[arg21.view.set]{fullShare} arg21.view.writes (Elt F) f L21) ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23)) -∗ K ⟨⟩))
          ⊢ wp frame (wpE (defs₀ (F := F)) Variants.none c none) E (initS i k0_h2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, fun E K => ?run⟩
  case run =>
    unfold initS
    simp only []
    unfold owns
    iintro ⟨⟨%f18, %hf18, H18⟩, ⟨%f19, %hf19, H19⟩, ⟨%d21, %f21, -, H21⟩, ⟨%d22, %f22, -, H22⟩, ⟨%d23, %f23, -, H23⟩, Hk⟩
    obtain rfl := harg18.eq_unread hf18; obtain rfl := harg19.eq_unread hf19
    sl_exec
    sl_step
    iapply Hk
    isplitl [H18]
    · iexists _; isplitr; · ipureintro; exact harg18.read_unread _
      iexact H18
    isplitl [H19]
    · iexists _; isplitr; · ipureintro; exact harg19.read_unread _
      iexact H19
    isplitl [H21]; · iexists _; iexact H21
    isplitl [H22]; · iexists _; iexact H22
    iexists _; iexact H23

end Cert.KernelIdeal.Gen

end
-- ==== Proof.StepIdeal.lean ====
/- One chunk run. -/
module

public import proofs.«01_k».proof.Proof.StagesIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- One chunk run. The pieces each written buffer ends with, and the triple. -/
noncomputable def runStep (c : Dev nD) (i : grid0.Coords) (arg0 arg1 v1 : BitVec 32) (arg2 : Memref sig .tc .smem S3 .i32) (harg2 : arg2.IsWhole) (arg3 : Memref sig .tc .vmem S3x4096 .bf16) (harg3 : arg3.IsWhole) (arg4 : Memref sig .tc .vmem S3x8x128 .bf16) (harg4 : arg4.IsWhole) (arg5 : Memref sig .tc .vmem S3x8x128 .bf16) (harg5 : arg5.IsWhole) (arg6 : Memref sig .tc .vmem S1x8x64x2048 .i8) (harg6 : arg6.IsWhole) (arg7 : Memref sig .tc .vmem S1x8x64x2048 .i8) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S3x4096 .bf16) (harg10 : arg10.IsWhole) (arg11 : Memref sig .tc .vmem S3x8x64 .i32) (harg11 : arg11.IsWhole) (arg12 : Memref sig .tc .vmem S3x8x1 .f32) (harg12 : arg12.IsWhole) (arg13 : Memref sig .tc .vmem S3x8x64 .i32) (harg13 : arg13.IsWhole) (arg14 : Memref sig .tc .vmem S3x8x1 .f32) (harg14 : arg14.IsWhole) (arg15 : Memref sig .tc .vmem S32x8x128 .f32) (harg15 : arg15.IsWhole) (arg16 : Memref sig .tc .vmem S3x8x128 .f32) (harg16 : arg16.IsWhole) (arg17 : Memref sig .tc .vmem S3x32x256 .f32) (harg17 : arg17.IsWhole) (arg18 : Memref sig .tc .vmem S3x32x128 .f32) (harg18 : arg18.IsWhole) (arg19 : Memref sig .tc .vmem S3x32x128 .f32) (harg19 : arg19.IsWhole) (arg20 : Memref sig .tc .vmem S3x32x128 .f32) (harg20 : arg20.IsWhole) (arg21 : Memref sig .tc .vmem S32x256 .f32) (harg21 : arg21.IsWhole) (arg22 : Memref sig .tc .vmem S32x128 .f32) (harg22 : arg22.IsWhole) (arg23 : Memref sig .tc .vmem S32x128 .f32) (harg23 : arg23.IsWhole)
    (x6 : Vec F S1x8x64x2048 .i8) (x7 : Vec F S1x8x64x2048 .i8) (x8 : Vec F S1x8x2048 .f32) (x9 : Vec F S1x8x2048 .f32) (x17 : Vec F S3x32x256 .f32) (x21 : Vec F S32x256 .f32) (x22 : Vec F S32x128 .f32) (x23 : Vec F S32x128 .f32) :
    Σ' (L21 : List (View.Piece (Elt F) S32x256 .f32)), Σ' (L22 : List (View.Piece (Elt F) S32x128 .f32)), { L23 : List (View.Piece (Elt F) S32x128 .f32) //
      ∀ (E : Set ℕ) (K : PUnit → sProp 𝕄),
        iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg17 fullShare x17 ∗ owns (c : Thread nD τ) arg21 fullShare x21 ∗ owns (c : Thread nD τ) arg22 fullShare x22 ∗ owns (c : Thread nD τ) arg23 fullShare x23
            ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg17 fullShare x17 ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22) ∗ (arg23.view.loc (c : Thread nD τ) ↦[arg23.view.set]{fullShare} arg23.view.writes (Elt F) (harg23.unread x23) L23)) -∗ K ⟨⟩))
          ⊢ wp frame (wpE (defs₀ (F := F)) Variants.none c none) E (stepS i arg0 arg1 v1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, fun E K => ?run⟩
  case run =>
    unfold stepS
    simp only [k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f6, %hf6, H6⟩, ⟨%f7, %hf7, H7⟩, ⟨%f8, %hf8, H8⟩, ⟨%f9, %hf9, H9⟩, ⟨%f17, %hf17, H17⟩, ⟨%f21, %hf21, H21⟩, ⟨%f22, %hf22, H22⟩, ⟨%f23, %hf23, H23⟩, Hk⟩
    obtain rfl := harg6.eq_unread hf6; obtain rfl := harg7.eq_unread hf7; obtain rfl := harg8.eq_unread hf8; obtain rfl := harg9.eq_unread hf9; obtain rfl := harg17.eq_unread hf17; obtain rfl := harg21.eq_unread hf21; obtain rfl := harg22.eq_unread hf22; obtain rfl := harg23.eq_unread hf23
    sl_exec
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H17]
    · iexists _; isplitr; · ipureintro; exact harg17.read_unread _
      iexact H17
    isplitl [H21]; · iexact H21
    isplitl [H22]; · iexact H22
    iexact H23

end Cert.KernelIdeal.Gen

end
-- ==== Proof.FinishIdeal.lean ====
/- A batch row's end run. -/
module

public import proofs.«01_k».proof.Proof.StagesIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A batch row's end run. The pieces each written buffer ends with, and the triple. -/
noncomputable def runFinish (c : Dev nD) (i : grid0.Coords) (k0_h4 : k0_cond4 i = 1#1) (arg2 : Memref sig .tc .smem S3 .i32) (harg2 : arg2.IsWhole) (arg3 : Memref sig .tc .vmem S3x4096 .bf16) (harg3 : arg3.IsWhole) (arg4 : Memref sig .tc .vmem S3x8x128 .bf16) (harg4 : arg4.IsWhole) (arg5 : Memref sig .tc .vmem S3x8x128 .bf16) (harg5 : arg5.IsWhole) (arg6 : Memref sig .tc .vmem S1x8x64x2048 .i8) (harg6 : arg6.IsWhole) (arg7 : Memref sig .tc .vmem S1x8x64x2048 .i8) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S3x4096 .bf16) (harg10 : arg10.IsWhole) (arg11 : Memref sig .tc .vmem S3x8x64 .i32) (harg11 : arg11.IsWhole) (arg12 : Memref sig .tc .vmem S3x8x1 .f32) (harg12 : arg12.IsWhole) (arg13 : Memref sig .tc .vmem S3x8x64 .i32) (harg13 : arg13.IsWhole) (arg14 : Memref sig .tc .vmem S3x8x1 .f32) (harg14 : arg14.IsWhole) (arg15 : Memref sig .tc .vmem S32x8x128 .f32) (harg15 : arg15.IsWhole) (arg16 : Memref sig .tc .vmem S3x8x128 .f32) (harg16 : arg16.IsWhole) (arg17 : Memref sig .tc .vmem S3x32x256 .f32) (harg17 : arg17.IsWhole) (arg18 : Memref sig .tc .vmem S3x32x128 .f32) (harg18 : arg18.IsWhole) (arg19 : Memref sig .tc .vmem S3x32x128 .f32) (harg19 : arg19.IsWhole) (arg20 : Memref sig .tc .vmem S3x32x128 .f32) (harg20 : arg20.IsWhole) (arg21 : Memref sig .tc .vmem S32x256 .f32) (harg21 : arg21.IsWhole) (arg22 : Memref sig .tc .vmem S32x128 .f32) (harg22 : arg22.IsWhole) (arg23 : Memref sig .tc .vmem S32x128 .f32) (harg23 : arg23.IsWhole)
    (x21 : Vec F S32x256 .f32) (x23 : Vec F S32x128 .f32) (x20 : Vec F S3x32x128 .f32) :
    { L20 : List (View.Piece (Elt F) S3x32x128 .f32) //
      ∀ (E : Set ℕ) (K : PUnit → sProp 𝕄),
        iprop(owns (c : Thread nD τ) arg21 fullShare x21 ∗ owns (c : Thread nD τ) arg23 fullShare x23 ∗ owns (c : Thread nD τ) arg20 fullShare x20
            ∗ (iprop(owns (c : Thread nD τ) arg21 fullShare x21 ∗ owns (c : Thread nD τ) arg23 fullShare x23 ∗ (arg20.view.loc (c : Thread nD τ) ↦[arg20.view.set]{fullShare} arg20.view.writes (Elt F) (harg20.unread x20) L20)) -∗ K ⟨⟩))
          ⊢ wp frame (wpE (defs₀ (F := F)) Variants.none c none) E (finishS i k0_h4 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, fun E K => ?run⟩
  case run =>
    unfold finishS
    simp only [k0_part38_eq_skeleton]
    unfold owns
    iintro ⟨⟨%f21, %hf21, H21⟩, ⟨%f23, %hf23, H23⟩, ⟨%f20, %hf20, H20⟩, Hk⟩
    obtain rfl := harg21.eq_unread hf21; obtain rfl := harg23.eq_unread hf23; obtain rfl := harg20.eq_unread hf20
    sl_exec
    sl_step
    iapply Hk
    isplitl [H21]
    · iexists _; isplitr; · ipureintro; exact harg21.read_unread _
      iexact H21
    isplitl [H23]
    · iexists _; isplitr; · ipureintro; exact harg23.read_unread _
      iexact H23
    iexact H20

end Cert.KernelIdeal.Gen

end
-- ==== Proof.EmitIdeal.lean ====
/- The output rows' stores run. -/
module

public import proofs.«01_k».proof.Proof.StagesIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The output rows' stores run. The pieces each written buffer ends with, and the triple. -/
noncomputable def runEmit (c : Dev nD) (i : grid0.Coords) (k0_h5 : k0_cond5 i = 1#1) (arg2 : Memref sig .tc .smem S3 .i32) (harg2 : arg2.IsWhole) (arg3 : Memref sig .tc .vmem S3x4096 .bf16) (harg3 : arg3.IsWhole) (arg4 : Memref sig .tc .vmem S3x8x128 .bf16) (harg4 : arg4.IsWhole) (arg5 : Memref sig .tc .vmem S3x8x128 .bf16) (harg5 : arg5.IsWhole) (arg6 : Memref sig .tc .vmem S1x8x64x2048 .i8) (harg6 : arg6.IsWhole) (arg7 : Memref sig .tc .vmem S1x8x64x2048 .i8) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S3x4096 .bf16) (harg10 : arg10.IsWhole) (arg11 : Memref sig .tc .vmem S3x8x64 .i32) (harg11 : arg11.IsWhole) (arg12 : Memref sig .tc .vmem S3x8x1 .f32) (harg12 : arg12.IsWhole) (arg13 : Memref sig .tc .vmem S3x8x64 .i32) (harg13 : arg13.IsWhole) (arg14 : Memref sig .tc .vmem S3x8x1 .f32) (harg14 : arg14.IsWhole) (arg15 : Memref sig .tc .vmem S32x8x128 .f32) (harg15 : arg15.IsWhole) (arg16 : Memref sig .tc .vmem S3x8x128 .f32) (harg16 : arg16.IsWhole) (arg17 : Memref sig .tc .vmem S3x32x256 .f32) (harg17 : arg17.IsWhole) (arg18 : Memref sig .tc .vmem S3x32x128 .f32) (harg18 : arg18.IsWhole) (arg19 : Memref sig .tc .vmem S3x32x128 .f32) (harg19 : arg19.IsWhole) (arg20 : Memref sig .tc .vmem S3x32x128 .f32) (harg20 : arg20.IsWhole) (arg21 : Memref sig .tc .vmem S32x256 .f32) (harg21 : arg21.IsWhole) (arg22 : Memref sig .tc .vmem S32x128 .f32) (harg22 : arg22.IsWhole) (arg23 : Memref sig .tc .vmem S32x128 .f32) (harg23 : arg23.IsWhole)
    (x20 : Vec F S3x32x128 .f32) :
    { L10 : List (View.Piece (Elt F) S3x4096 .bf16) //
      ∀ (E : Set ℕ) (K : PUnit → sProp 𝕄),
        iprop(owns (c : Thread nD τ) arg20 fullShare x20 ∗ (∃ d, owns (c : Thread nD τ) arg10 fullShare d)
            ∗ (iprop(owns (c : Thread nD τ) arg20 fullShare x20 ∗ (∃ f, arg10.view.loc (c : Thread nD τ) ↦[arg10.view.set]{fullShare} arg10.view.writes (Elt F) f L10)) -∗ K ⟨⟩))
          ⊢ wp frame (wpE (defs₀ (F := F)) Variants.none c none) E (emitS i k0_h5 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, fun E K => ?run⟩
  case run =>
    unfold emitS
    simp only [k0_part39_eq_skeleton, k0_part40_eq_skeleton, k0_part41_eq_skeleton, k0_part42_eq_skeleton, k0_part43_eq_skeleton]
    unfold owns
    iintro ⟨⟨%f20, %hf20, H20⟩, ⟨%d10, %f10, -, H10⟩, Hk⟩
    obtain rfl := harg20.eq_unread hf20
    sl_exec
    sl_step
    iapply Hk
    isplitl [H20]
    · iexists _; isplitr; · ipureintro; exact harg20.read_unread _
      iexact H20
    iexists _; iexact H10

end Cert.KernelIdeal.Gen

end
-- ==== Proof.StateIdeal.lean ====
/- The state the kernel carries from point to point, and what each stage makes of it. -/
module

public import proofs.«01_k».proof.Proof.PrepIdeal
public import proofs.«01_k».proof.Proof.InitIdeal
public import proofs.«01_k».proof.Proof.StepIdeal
public import proofs.«01_k».proof.Proof.FinishIdeal
public import proofs.«01_k».proof.Proof.EmitIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the scratch buffers carry: the queries, the new token's scores and value rows, the rows already finished, and
    the running accumulator, maximum and sum of the batch row being read. -/
structure St (F : FTy → Type) [FloatOps F] where
  q : Vec F S3x32x256 .f32
  sn : Vec F S3x32x128 .f32
  on : Vec F S3x32x128 .f32
  y : Vec F S3x32x128 .f32
  acc : Vec F S32x256 .f32
  mm : Vec F S32x128 .f32
  ll : Vec F S32x128 .f32

/-- The number of cached tokens of the point's batch row, read off the table. -/
def lenWord (hO : Ok m) (c : Dev nD) (t : Fin (cfgM m hO).N) : BitVec 32 :=
  tbM0_0.view.readAt (Elt F) (Rect.unit (s := S3) (k0_off1 (grid0.coords t)) S1.size (k0_off1_inb (grid0.coords t))).toLoadRect (tbl m 0) (Shape.Idx.first (numel1_S1.symm ▸ Nat.one_pos))

-- the input blocks at point `t`
def in3 (hO : Ok m) (c : Dev nD) (t : Fin (cfgM m hO).N) : Vec F S3x4096 .bf16 := iblk m hO c 0 t
def in4 (hO : Ok m) (c : Dev nD) (t : Fin (cfgM m hO).N) : Vec F S3x8x128 .bf16 := iblk m hO c 1 t
def in5 (hO : Ok m) (c : Dev nD) (t : Fin (cfgM m hO).N) : Vec F S3x8x128 .bf16 := iblk m hO c 2 t
def in6 (hO : Ok m) (c : Dev nD) (t : Fin (cfgM m hO).N) : Vec F S1x8x64x2048 .i8 := iblk m hO c 3 t
def in7 (hO : Ok m) (c : Dev nD) (t : Fin (cfgM m hO).N) : Vec F S1x8x64x2048 .i8 := iblk m hO c 4 t
def in8 (hO : Ok m) (c : Dev nD) (t : Fin (cfgM m hO).N) : Vec F S1x8x2048 .f32 := iblk m hO c 5 t
def in9 (hO : Ok m) (c : Dev nD) (t : Fin (cfgM m hO).N) : Vec F S1x8x2048 .f32 := iblk m hO c 6 t

/-- The stages at point `t`, on that point's buffers. -/
def prepR (hO : Ok m) (c : Dev nD) (t : Fin (cfgM m hO).N) (h : cond0_0 (grid0.coords t)) := runPrep (F := F) c (grid0.coords t) h tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (in3 m hO c t) (in4 m hO c t) (in5 m hO c t)
def initR (hO : Ok m) (c : Dev nD) (t : Fin (cfgM m hO).N) (h : cond0_1 (grid0.coords t)) (sn on : Vec F S3x32x128 .f32) := runInit (F := F) c (grid0.coords t) h tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) sn on
def stepR (hO : Ok m) (c : Dev nD) (t : Fin (cfgM m hO).N) (q : Vec F S3x32x256 .f32) (acc : Vec F S32x256 .f32) (mm ll : Vec F S32x128 .f32) := runStep (F := F) c (grid0.coords t) (BitVec.ofNat 32 ((grid0.coords t) 0).val) (BitVec.ofNat 32 ((grid0.coords t) 1).val) (lenWord m hO c t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (in6 m hO c t) (in7 m hO c t) (in8 m hO c t) (in9 m hO c t) q acc mm ll
def finishR (hO : Ok m) (c : Dev nD) (t : Fin (cfgM m hO).N) (h : cond0_3 (grid0.coords t)) (acc : Vec F S32x256 .f32) (ll : Vec F S32x128 .f32) (y : Vec F S3x32x128 .f32) := runFinish (F := F) c (grid0.coords t) h tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) acc ll y
def emitR (hO : Ok m) (c : Dev nD) (t : Fin (cfgM m hO).N) (h : cond0_4 (grid0.coords t)) (y : Vec F S3x32x128 .f32) := runEmit (F := F) c (grid0.coords t) h tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) y

/-- The contents a buffer held at `x` ends with after the writes `L`. -/
def over {S : Shape} {e : EltTy} {M : Memref sig .tc .vmem S e} (hM : M.IsWhole) (x : Vec F S e) (L : List (View.Piece (Elt F) S e)) : Vec F S e :=
  M.view.read (Elt F) (M.view.writes (Elt F) (hM.unread x) L)

/-- What each stage leaves in the buffers it writes. -/
def prepK (hO : Ok m) (c : Dev nD) (t : Fin (cfgM m hO).N) (h : cond0_0 (grid0.coords t)) : Vec F S3x8x64 .i32 := View.canon (prepR m hO c t h).1
def prepKs (hO : Ok m) (c : Dev nD) (t : Fin (cfgM m hO).N) (h : cond0_0 (grid0.coords t)) : Vec F S3x8x1 .f32 := View.canon (prepR m hO c t h).2.1
def prepV (hO : Ok m) (c : Dev nD) (t : Fin (cfgM m hO).N) (h : cond0_0 (grid0.coords t)) : Vec F S3x8x64 .i32 := View.canon (prepR m hO c t h).2.2.1
def prepVs (hO : Ok m) (c : Dev nD) (t : Fin (cfgM m hO).N) (h : cond0_0 (grid0.coords t)) : Vec F S3x8x1 .f32 := View.canon (prepR m hO c t h).2.2.2.1
def prepQ (hO : Ok m) (c : Dev nD) (t : Fin (cfgM m hO).N) (h : cond0_0 (grid0.coords t)) : Vec F S3x32x256 .f32 := View.canon (prepR m hO c t h).2.2.2.2.2.2.1
def prepSn (hO : Ok m) (c : Dev nD) (t : Fin (cfgM m hO).N) (h : cond0_0 (grid0.coords t)) : Vec F S3x32x128 .f32 := View.canon (prepR m hO c t h).2.2.2.2.2.2.2.1
def prepOn (hO : Ok m) (c : Dev nD) (t : Fin (cfgM m hO).N) (h : cond0_0 (grid0.coords t)) : Vec F S3x32x128 .f32 := View.canon (prepR m hO c t h).2.2.2.2.2.2.2.2.1
def initAcc (hO : Ok m) (c : Dev nD) (t : Fin (cfgM m hO).N) (h : cond0_1 (grid0.coords t)) (sn on : Vec F S3x32x128 .f32) : Vec F S32x256 .f32 := View.canon (initR m hO c t h sn on).1
def initM (hO : Ok m) (c : Dev nD) (t : Fin (cfgM m hO).N) (h : cond0_1 (grid0.coords t)) (sn on : Vec F S3x32x128 .f32) : Vec F S32x128 .f32 := View.canon (initR m hO c t h sn on).2.1
def initL (hO : Ok m) (c : Dev nD) (t : Fin (cfgM m hO).N) (h : cond0_1 (grid0.coords t)) (sn on : Vec F S3x32x128 .f32) : Vec F S32x128 .f32 := View.canon (initR m hO c t h sn on).2.2.1
def stepAcc (hO : Ok m) (c : Dev nD) (t : Fin (cfgM m hO).N) (q : Vec F S3x32x256 .f32) (acc : Vec F S32x256 .f32) (mm ll : Vec F S32x128 .f32) : Vec F S32x256 .f32 := over (Memref.isWhole_whole cc0_scratch6) acc (stepR m hO c t q acc mm ll).1
def stepM (hO : Ok m) (c : Dev nD) (t : Fin (cfgM m hO).N) (q : Vec F S3x32x256 .f32) (acc : Vec F S32x256 .f32) (mm ll : Vec F S32x128 .f32) : Vec F S32x128 .f32 := over (Memref.isWhole_whole cc0_scratch7) mm (stepR m hO c t q acc mm ll).2.1
def stepL (hO : Ok m) (c : Dev nD) (t : Fin (cfgM m hO).N) (q : Vec F S3x32x256 .f32) (acc : Vec F S32x256 .f32) (mm ll : Vec F S32x128 .f32) : Vec F S32x128 .f32 := over (Memref.isWhole_whole cc0_scratch8) ll (stepR m hO c t q acc mm ll).2.2.1
def finishY (hO : Ok m) (c : Dev nD) (t : Fin (cfgM m hO).N) (h : cond0_3 (grid0.coords t)) (acc : Vec F S32x256 .f32) (ll : Vec F S32x128 .f32) (y : Vec F S3x32x128 .f32) : Vec F S3x32x128 .f32 := over (Memref.isWhole_whole cc0_scratch5) y (finishR m hO c t h acc ll y).1
def emitO (hO : Ok m) (c : Dev nD) (t : Fin (cfgM m hO).N) (h : cond0_4 (grid0.coords t)) (y : Vec F S3x32x128 .f32) : Vec F S3x4096 .bf16 := View.canon (emitR m hO c t h y).1

/-- What each stage makes of the state. -/
def prepSt (hO : Ok m) (c : Dev nD) (t : Fin (cfgM m hO).N) (s : St F) : St F :=
  open Classical in if h : cond0_0 (grid0.coords t) then ⟨prepQ m hO c t h, prepSn m hO c t h, prepOn m hO c t h, s.y, s.acc, s.mm, s.ll⟩ else s
def initSt (hO : Ok m) (c : Dev nD) (t : Fin (cfgM m hO).N) (s : St F) : St F :=
  open Classical in if h : cond0_1 (grid0.coords t) then ⟨s.q, s.sn, s.on, s.y, initAcc m hO c t h s.sn s.on, initM m hO c t h s.sn s.on, initL m hO c t h s.sn s.on⟩ else s
def stepSt (hO : Ok m) (c : Dev nD) (t : Fin (cfgM m hO).N) (s : St F) : St F :=
  open Classical in if cond0_2 (grid0.coords t) (lenWord m hO c t) then ⟨s.q, s.sn, s.on, s.y, stepAcc m hO c t s.q s.acc s.mm s.ll, stepM m hO c t s.q s.acc s.mm s.ll, stepL m hO c t s.q s.acc s.mm s.ll⟩ else s
def finishSt (hO : Ok m) (c : Dev nD) (t : Fin (cfgM m hO).N) (s : St F) : St F :=
  open Classical in if h : cond0_3 (grid0.coords t) then ⟨s.q, s.sn, s.on, finishY m hO c t h s.acc s.ll s.y, s.acc, s.mm, s.ll⟩ else s
/-- One grid point: its stages in order. -/
def next (hO : Ok m) (c : Dev nD) (t : Fin (cfgM m hO).N) (s : St F) : St F := finishSt m hO c t (stepSt m hO c t (initSt m hO c t (prepSt m hO c t s)))

/-- What the last point leaves in the output rows' buffer. -/
def outRows (hO : Ok m) (c : Dev nD) (t : Fin (cfgM m hO).N) (s : St F) (d : Vec F S3x4096 .bf16) : Vec F S3x4096 .bf16 :=
  open Classical in if h : cond0_4 (grid0.coords t) then emitO m hO c t h s.y else d
/-- What the first point leaves in the new codes' and scales' buffers. -/
def outK (hO : Ok m) (c : Dev nD) (t : Fin (cfgM m hO).N) (d : Vec F S3x8x64 .i32) : Vec F S3x8x64 .i32 :=
  open Classical in if h : cond0_0 (grid0.coords t) then prepK m hO c t h else d
def outKs (hO : Ok m) (c : Dev nD) (t : Fin (cfgM m hO).N) (d : Vec F S3x8x1 .f32) : Vec F S3x8x1 .f32 :=
  open Classical in if h : cond0_0 (grid0.coords t) then prepKs m hO c t h else d
def outV (hO : Ok m) (c : Dev nD) (t : Fin (cfgM m hO).N) (d : Vec F S3x8x64 .i32) : Vec F S3x8x64 .i32 :=
  open Classical in if h : cond0_0 (grid0.coords t) then prepV m hO c t h else d
def outVs (hO : Ok m) (c : Dev nD) (t : Fin (cfgM m hO).N) (d : Vec F S3x8x1 .f32) : Vec F S3x8x1 .f32 :=
  open Classical in if h : cond0_0 (grid0.coords t) then prepVs m hO c t h else d

-- the stores of a stage fill the buffers it fills
theorem prepR_cover_0 (hO : Ok m) (c : Dev nD) (t : Fin (cfgM m hO).N) (h : cond0_0 (grid0.coords t)) (z) : ∃ p ∈ (prepR m hO c t h).1, z ∈ p.1.set :=
  View.cover_of_tiledL (prepR m hO c t h).1 S1x8x64.size (by unfold prepR; sl_kernel_rfl) z
theorem prepR_cover_1 (hO : Ok m) (c : Dev nD) (t : Fin (cfgM m hO).N) (h : cond0_0 (grid0.coords t)) (z) : ∃ p ∈ (prepR m hO c t h).2.1, z ∈ p.1.set :=
  View.cover_of_tiledL (prepR m hO c t h).2.1 S1x8x1.size (by unfold prepR; sl_kernel_rfl) z
theorem prepR_cover_2 (hO : Ok m) (c : Dev nD) (t : Fin (cfgM m hO).N) (h : cond0_0 (grid0.coords t)) (z) : ∃ p ∈ (prepR m hO c t h).2.2.1, z ∈ p.1.set :=
  View.cover_of_tiledL (prepR m hO c t h).2.2.1 S1x8x64.size (by unfold prepR; sl_kernel_rfl) z
theorem prepR_cover_3 (hO : Ok m) (c : Dev nD) (t : Fin (cfgM m hO).N) (h : cond0_0 (grid0.coords t)) (z) : ∃ p ∈ (prepR m hO c t h).2.2.2.1, z ∈ p.1.set :=
  View.cover_of_tiledL (prepR m hO c t h).2.2.2.1 S1x8x1.size (by unfold prepR; sl_kernel_rfl) z
theorem prepR_cover_4 (hO : Ok m) (c : Dev nD) (t : Fin (cfgM m hO).N) (h : cond0_0 (grid0.coords t)) (z) : ∃ p ∈ (prepR m hO c t h).2.2.2.2.2.2.1, z ∈ p.1.set :=
  View.cover_of_tiledL (prepR m hO c t h).2.2.2.2.2.2.1 S1x32x256.size (by unfold prepR; sl_kernel_rfl) z
theorem prepR_cover_5 (hO : Ok m) (c : Dev nD) (t : Fin (cfgM m hO).N) (h : cond0_0 (grid0.coords t)) (z) : ∃ p ∈ (prepR m hO c t h).2.2.2.2.2.2.2.1, z ∈ p.1.set :=
  View.cover_of_tiledL (prepR m hO c t h).2.2.2.2.2.2.2.1 S1x32x128.size (by unfold prepR; sl_kernel_rfl) z
theorem prepR_cover_6 (hO : Ok m) (c : Dev nD) (t : Fin (cfgM m hO).N) (h : cond0_0 (grid0.coords t)) (z) : ∃ p ∈ (prepR m hO c t h).2.2.2.2.2.2.2.2.1, z ∈ p.1.set :=
  View.cover_of_tiledL (prepR m hO c t h).2.2.2.2.2.2.2.2.1 S1x32x128.size (by unfold prepR; sl_kernel_rfl) z
theorem initR_cover_0 (hO : Ok m) (c : Dev nD) (t : Fin (cfgM m hO).N) (h : cond0_1 (grid0.coords t)) (sn on : Vec F S3x32x128 .f32) (z) : ∃ p ∈ (initR m hO c t h sn on).1, z ∈ p.1.set :=
  View.cover_of_tiledL (initR m hO c t h sn on).1 S32x256.size (by unfold initR; sl_kernel_rfl) z
theorem initR_cover_1 (hO : Ok m) (c : Dev nD) (t : Fin (cfgM m hO).N) (h : cond0_1 (grid0.coords t)) (sn on : Vec F S3x32x128 .f32) (z) : ∃ p ∈ (initR m hO c t h sn on).2.1, z ∈ p.1.set :=
  View.cover_of_tiledL (initR m hO c t h sn on).2.1 S32x128.size (by unfold initR; sl_kernel_rfl) z
theorem initR_cover_2 (hO : Ok m) (c : Dev nD) (t : Fin (cfgM m hO).N) (h : cond0_1 (grid0.coords t)) (sn on : Vec F S3x32x128 .f32) (z) : ∃ p ∈ (initR m hO c t h sn on).2.2.1, z ∈ p.1.set :=
  View.cover_of_tiledL (initR m hO c t h sn on).2.2.1 S32x128.size (by unfold initR; sl_kernel_rfl) z
theorem emitR_cover_0 (hO : Ok m) (c : Dev nD) (t : Fin (cfgM m hO).N) (h : cond0_4 (grid0.coords t)) (y : Vec F S3x32x128 .f32) (z) : ∃ p ∈ (emitR m hO c t h y).1, z ∈ p.1.set :=
  View.cover_of_tiledL (emitR m hO c t h y).1 S3x128.size (by unfold emitR; sl_kernel_rfl) z

end Cert.KernelIdeal.Gen

end
-- ==== Proof.StageWpIdeal.lean ====
/- The triple of one grid point: from the state before it to the state after it. -/
module

public import proofs.«01_k».proof.Proof.StateIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem prep_wp (hO : Ok m) (c : Dev nD) (t : Fin (cfgM m hO).N) (s : St F) (d11 : Vec F S3x8x64 .i32) (d12 : Vec F S3x8x1 .f32) (d13 : Vec F S3x8x64 .i32) (d14 : Vec F S3x8x1 .f32) (E : Set ℕ) (K : PUnit → sProp 𝕄) :
    iprop(owns (c : Thread nD τ) (ms0_0 m hO t) fullShare (in3 m hO c t) ∗ owns (c : Thread nD τ) (ms0_1 m hO t) fullShare (in4 m hO c t) ∗ owns (c : Thread nD τ) (ms0_2 m hO t) fullShare (in5 m hO c t) ∗ owns (c : Thread nD τ) (ms0_8 m hO t) fullShare d11 ∗ owns (c : Thread nD τ) (ms0_9 m hO t) fullShare d12 ∗ owns (c : Thread nD τ) (ms0_10 m hO t) fullShare d13 ∗ owns (c : Thread nD τ) (ms0_11 m hO t) fullShare d14 ∗ (∃ d, owns (c : Thread nD τ) scM0_0 fullShare d) ∗ (∃ d, owns (c : Thread nD τ) scM0_1 fullShare d) ∗ owns (c : Thread nD τ) scM0_2 fullShare (s).q ∗ owns (c : Thread nD τ) scM0_3 fullShare (s).sn ∗ owns (c : Thread nD τ) scM0_4 fullShare (s).on ∗ (iprop(owns (c : Thread nD τ) (ms0_0 m hO t) fullShare (in3 m hO c t) ∗ owns (c : Thread nD τ) (ms0_1 m hO t) fullShare (in4 m hO c t) ∗ owns (c : Thread nD τ) (ms0_2 m hO t) fullShare (in5 m hO c t) ∗ owns (c : Thread nD τ) (ms0_8 m hO t) fullShare (outK m hO c t d11) ∗ owns (c : Thread nD τ) (ms0_9 m hO t) fullShare (outKs m hO c t d12) ∗ owns (c : Thread nD τ) (ms0_10 m hO t) fullShare (outV m hO c t d13) ∗ owns (c : Thread nD τ) (ms0_11 m hO t) fullShare (outVs m hO c t d14) ∗ (∃ d, owns (c : Thread nD τ) scM0_0 fullShare d) ∗ (∃ d, owns (c : Thread nD τ) scM0_1 fullShare d) ∗ owns (c : Thread nD τ) scM0_2 fullShare (prepSt m hO c t s).q ∗ owns (c : Thread nD τ) scM0_3 fullShare (prepSt m hO c t s).sn ∗ owns (c : Thread nD τ) scM0_4 fullShare (prepSt m hO c t s).on) -∗ K ⟨⟩))
      ⊢ wp frame (wpE (defs₀ (F := F)) Variants.none c none) E (if h : k0_cond1 (grid0.coords t) = 1#1 then prepS (grid0.coords t) h tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) else pure ⟨⟩) K := by
  iintro ⟨H3, H4, H5, H11, H12, H13, H14, H15, H16, H17, H18, H19, Hk⟩
  by_cases h : k0_cond1 (grid0.coords t) = 1#1
  · rw [dif_pos h]
    simp only [prepSt, outK, outKs, outV, outVs, cond0_0, dif_pos h]
    iapply ((prepR m hO c t h).2.2.2.2.2.2.2.2.2 E K)
    isplitl [H3]; · iexact H3
    isplitl [H4]; · iexact H4
    isplitl [H5]; · iexact H5
    isplitl [H11]; · iexists _; iexact H11
    isplitl [H12]; · iexists _; iexact H12
    isplitl [H13]; · iexists _; iexact H13
    isplitl [H14]; · iexists _; iexact H14
    isplitl [H15]; · iexact H15
    isplitl [H16]; · iexact H16
    isplitl [H17]; · iexists _; iexact H17
    isplitl [H18]; · iexists _; iexact H18
    isplitl [H19]; · iexists _; iexact H19
    iintro ⟨H3, H4, H5, ⟨%eH11, H11⟩, ⟨%eH12, H12⟩, ⟨%eH13, H13⟩, ⟨%eH14, H14⟩, ⟨%eH15, H15⟩, ⟨%eH16, H16⟩, ⟨%eH17, H17⟩, ⟨%eH18, H18⟩, ⟨%eH19, H19⟩⟩
    iapply Hk
    isplitl [H3]
    · iexact H3
    isplitl [H4]
    · iexact H4
    isplitl [H5]
    · iexact H5
    isplitl [H11]
    · unfold owns; iexists _; isplitr
      swap; · iexact H11
      ipureintro; exact View.read_writes_eq_canon _ _ _ (prepR_cover_0 m hO c t h)
    isplitl [H12]
    · unfold owns; iexists _; isplitr
      swap; · iexact H12
      ipureintro; exact View.read_writes_eq_canon _ _ _ (prepR_cover_1 m hO c t h)
    isplitl [H13]
    · unfold owns; iexists _; isplitr
      swap; · iexact H13
      ipureintro; exact View.read_writes_eq_canon _ _ _ (prepR_cover_2 m hO c t h)
    isplitl [H14]
    · unfold owns; iexists _; isplitr
      swap; · iexact H14
      ipureintro; exact View.read_writes_eq_canon _ _ _ (prepR_cover_3 m hO c t h)
    isplitl [H15]
    · iexists _; unfold owns; iexists _; isplitr
      swap; · iexact H15
      ipureintro; rfl
    isplitl [H16]
    · iexists _; unfold owns; iexists _; isplitr
      swap; · iexact H16
      ipureintro; rfl
    isplitl [H17]
    · unfold owns; iexists _; isplitr
      swap; · iexact H17
      ipureintro; exact View.read_writes_eq_canon _ _ _ (prepR_cover_4 m hO c t h)
    isplitl [H18]
    · unfold owns; iexists _; isplitr
      swap; · iexact H18
      ipureintro; exact View.read_writes_eq_canon _ _ _ (prepR_cover_5 m hO c t h)
    unfold owns; iexists _; isplitr
    swap; · iexact H19
    ipureintro; exact View.read_writes_eq_canon _ _ _ (prepR_cover_6 m hO c t h)
  · rw [dif_neg h]
    simp only [prepSt, outK, outKs, outV, outVs, cond0_0, dif_neg h]
    sl_step
    iapply Hk
    isplitl [H3]; · iexact H3
    isplitl [H4]; · iexact H4
    isplitl [H5]; · iexact H5
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

set_option maxHeartbeats 4000000 in
theorem init_wp (hO : Ok m) (c : Dev nD) (t : Fin (cfgM m hO).N) (s : St F)  (E : Set ℕ) (K : PUnit → sProp 𝕄) :
    iprop(owns (c : Thread nD τ) scM0_3 fullShare (s).sn ∗ owns (c : Thread nD τ) scM0_4 fullShare (s).on ∗ owns (c : Thread nD τ) scM0_6 fullShare (s).acc ∗ owns (c : Thread nD τ) scM0_7 fullShare (s).mm ∗ owns (c : Thread nD τ) scM0_8 fullShare (s).ll ∗ (iprop(owns (c : Thread nD τ) scM0_3 fullShare (initSt m hO c t s).sn ∗ owns (c : Thread nD τ) scM0_4 fullShare (initSt m hO c t s).on ∗ owns (c : Thread nD τ) scM0_6 fullShare (initSt m hO c t s).acc ∗ owns (c : Thread nD τ) scM0_7 fullShare (initSt m hO c t s).mm ∗ owns (c : Thread nD τ) scM0_8 fullShare (initSt m hO c t s).ll) -∗ K ⟨⟩))
      ⊢ wp frame (wpE (defs₀ (F := F)) Variants.none c none) E (if h : k0_cond2 (grid0.coords t) = 1#1 then initS (grid0.coords t) h tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) else pure ⟨⟩) K := by
  iintro ⟨H18, H19, H21, H22, H23, Hk⟩
  by_cases h : k0_cond2 (grid0.coords t) = 1#1
  · rw [dif_pos h]
    simp only [initSt, cond0_1, dif_pos h]
    iapply ((initR m hO c t h s.sn s.on).2.2.2 E K)
    isplitl [H18]; · iexact H18
    isplitl [H19]; · iexact H19
    isplitl [H21]; · iexists _; iexact H21
    isplitl [H22]; · iexists _; iexact H22
    isplitl [H23]; · iexists _; iexact H23
    iintro ⟨H18, H19, ⟨%eH21, H21⟩, ⟨%eH22, H22⟩, ⟨%eH23, H23⟩⟩
    iapply Hk
    isplitl [H18]
    · iexact H18
    isplitl [H19]
    · iexact H19
    isplitl [H21]
    · unfold owns; iexists _; isplitr
      swap; · iexact H21
      ipureintro; exact View.read_writes_eq_canon _ _ _ (initR_cover_0 m hO c t h s.sn s.on)
    isplitl [H22]
    · unfold owns; iexists _; isplitr
      swap; · iexact H22
      ipureintro; exact View.read_writes_eq_canon _ _ _ (initR_cover_1 m hO c t h s.sn s.on)
    unfold owns; iexists _; isplitr
    swap; · iexact H23
    ipureintro; exact View.read_writes_eq_canon _ _ _ (initR_cover_2 m hO c t h s.sn s.on)
  · rw [dif_neg h]
    simp only [initSt, cond0_1, dif_neg h]
    sl_step
    iapply Hk
    isplitl [H18]; · iexact H18
    isplitl [H19]; · iexact H19
    isplitl [H21]; · iexact H21
    isplitl [H22]; · iexact H22
    iexact H23

set_option maxHeartbeats 4000000 in
theorem step_wp (hO : Ok m) (c : Dev nD) (t : Fin (cfgM m hO).N) (s : St F)  (E : Set ℕ) (K : PUnit → sProp 𝕄) :
    iprop(owns (c : Thread nD τ) (ms0_3 m hO t) fullShare (in6 m hO c t) ∗ owns (c : Thread nD τ) (ms0_4 m hO t) fullShare (in7 m hO c t) ∗ owns (c : Thread nD τ) (ms0_5 m hO t) fullShare (in8 m hO c t) ∗ owns (c : Thread nD τ) (ms0_6 m hO t) fullShare (in9 m hO c t) ∗ owns (c : Thread nD τ) scM0_2 fullShare (s).q ∗ owns (c : Thread nD τ) scM0_6 fullShare (s).acc ∗ owns (c : Thread nD τ) scM0_7 fullShare (s).mm ∗ owns (c : Thread nD τ) scM0_8 fullShare (s).ll ∗ (iprop(owns (c : Thread nD τ) (ms0_3 m hO t) fullShare (in6 m hO c t) ∗ owns (c : Thread nD τ) (ms0_4 m hO t) fullShare (in7 m hO c t) ∗ owns (c : Thread nD τ) (ms0_5 m hO t) fullShare (in8 m hO c t) ∗ owns (c : Thread nD τ) (ms0_6 m hO t) fullShare (in9 m hO c t) ∗ owns (c : Thread nD τ) scM0_2 fullShare (stepSt m hO c t s).q ∗ owns (c : Thread nD τ) scM0_6 fullShare (stepSt m hO c t s).acc ∗ owns (c : Thread nD τ) scM0_7 fullShare (stepSt m hO c t s).mm ∗ owns (c : Thread nD τ) scM0_8 fullShare (stepSt m hO c t s).ll) -∗ K ⟨⟩))
      ⊢ wp frame (wpE (defs₀ (F := F)) Variants.none c none) E (if Scalar.cmpi .ne (Scalar.extui (Scalar.cmpi .slt (Scalar.muli (BitVec.ofNat 32 ((grid0.coords t) 1).val) 2048#32) (lenWord m hO c t)) : BitVec 32) 0#32 = 1#1 then stepS (grid0.coords t) (BitVec.ofNat 32 ((grid0.coords t) 0).val) (BitVec.ofNat 32 ((grid0.coords t) 1).val) (lenWord m hO c t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) else pure ⟨⟩) K := by
  iintro ⟨H6, H7, H8, H9, H17, H21, H22, H23, Hk⟩
  by_cases h : cond0_2 (grid0.coords t) (lenWord m hO c t)
  · rw [if_pos h]
    simp only [stepSt, if_pos h]
    iapply ((stepR m hO c t s.q s.acc s.mm s.ll).2.2.2 E K)
    isplitl [H6]; · iexact H6
    isplitl [H7]; · iexact H7
    isplitl [H8]; · iexact H8
    isplitl [H9]; · iexact H9
    isplitl [H17]; · iexact H17
    isplitl [H21]; · iexact H21
    isplitl [H22]; · iexact H22
    isplitl [H23]; · iexact H23
    iintro ⟨H6, H7, H8, H9, H17, H21, H22, H23⟩
    iapply Hk
    isplitl [H6]
    · iexact H6
    isplitl [H7]
    · iexact H7
    isplitl [H8]
    · iexact H8
    isplitl [H9]
    · iexact H9
    isplitl [H17]
    · iexact H17
    isplitl [H21]
    · unfold owns; iexists _; isplitr
      swap; · iexact H21
      ipureintro; rfl
    isplitl [H22]
    · unfold owns; iexists _; isplitr
      swap; · iexact H22
      ipureintro; rfl
    unfold owns; iexists _; isplitr
    swap; · iexact H23
    ipureintro; rfl
  · rw [if_neg h]
    simp only [stepSt, if_neg h]
    sl_step
    iapply Hk
    isplitl [H6]; · iexact H6
    isplitl [H7]; · iexact H7
    isplitl [H8]; · iexact H8
    isplitl [H9]; · iexact H9
    isplitl [H17]; · iexact H17
    isplitl [H21]; · iexact H21
    isplitl [H22]; · iexact H22
    iexact H23

set_option maxHeartbeats 4000000 in
theorem finish_wp (hO : Ok m) (c : Dev nD) (t : Fin (cfgM m hO).N) (s : St F)  (E : Set ℕ) (K : PUnit → sProp 𝕄) :
    iprop(owns (c : Thread nD τ) scM0_6 fullShare (s).acc ∗ owns (c : Thread nD τ) scM0_8 fullShare (s).ll ∗ owns (c : Thread nD τ) scM0_5 fullShare (s).y ∗ (iprop(owns (c : Thread nD τ) scM0_6 fullShare (finishSt m hO c t s).acc ∗ owns (c : Thread nD τ) scM0_8 fullShare (finishSt m hO c t s).ll ∗ owns (c : Thread nD τ) scM0_5 fullShare (finishSt m hO c t s).y) -∗ K ⟨⟩))
      ⊢ wp frame (wpE (defs₀ (F := F)) Variants.none c none) E (if h : k0_cond4 (grid0.coords t) = 1#1 then finishS (grid0.coords t) h tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) else pure ⟨⟩) K := by
  iintro ⟨H21, H23, H20, Hk⟩
  by_cases h : k0_cond4 (grid0.coords t) = 1#1
  · rw [dif_pos h]
    simp only [finishSt, cond0_3, dif_pos h]
    iapply ((finishR m hO c t h s.acc s.ll s.y).2 E K)
    isplitl [H21]; · iexact H21
    isplitl [H23]; · iexact H23
    isplitl [H20]; · iexact H20
    iintro ⟨H21, H23, H20⟩
    iapply Hk
    isplitl [H21]
    · iexact H21
    isplitl [H23]
    · iexact H23
    unfold owns; iexists _; isplitr
    swap; · iexact H20
    ipureintro; rfl
  · rw [dif_neg h]
    simp only [finishSt, cond0_3, dif_neg h]
    sl_step
    iapply Hk
    isplitl [H21]; · iexact H21
    isplitl [H23]; · iexact H23
    iexact H20

set_option maxHeartbeats 4000000 in
theorem emit_wp (hO : Ok m) (c : Dev nD) (t : Fin (cfgM m hO).N) (s : St F) (d10 : Vec F S3x4096 .bf16) (E : Set ℕ) (K : PUnit → sProp 𝕄) :
    iprop(owns (c : Thread nD τ) scM0_5 fullShare (s).y ∗ owns (c : Thread nD τ) (ms0_7 m hO t) fullShare d10 ∗ (iprop(owns (c : Thread nD τ) scM0_5 fullShare (s).y ∗ owns (c : Thread nD τ) (ms0_7 m hO t) fullShare (outRows m hO c t s d10)) -∗ K ⟨⟩))
      ⊢ wp frame (wpE (defs₀ (F := F)) Variants.none c none) E (if h : k0_cond5 (grid0.coords t) = 1#1 then emitS (grid0.coords t) h tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) else pure ⟨⟩) K := by
  iintro ⟨H20, H10, Hk⟩
  by_cases h : k0_cond5 (grid0.coords t) = 1#1
  · rw [dif_pos h]
    simp only [outRows, cond0_4, dif_pos h]
    iapply ((emitR m hO c t h s.y).2 E K)
    isplitl [H20]; · iexact H20
    isplitl [H10]; · iexists _; iexact H10
    iintro ⟨H20, ⟨%eH10, H10⟩⟩
    iapply Hk
    isplitl [H20]
    · iexact H20
    unfold owns; iexists _; isplitr
    swap; · iexact H10
    ipureintro; exact View.read_writes_eq_canon _ _ _ (emitR_cover_0 m hO c t h s.y)
  · rw [dif_neg h]
    simp only [outRows, cond0_4, dif_neg h]
    sl_step
    iapply Hk
    isplitl [H20]; · iexact H20
    iexact H10

-- what a stage does not touch
theorem prepSt_y (hO : Ok m) (c : Dev nD) (t : Fin (cfgM m hO).N) (s : St F) : (prepSt m hO c t s).y = s.y := by unfold prepSt; split <;> rfl
theorem prepSt_acc (hO : Ok m) (c : Dev nD) (t : Fin (cfgM m hO).N) (s : St F) : (prepSt m hO c t s).acc = s.acc := by unfold prepSt; split <;> rfl
theorem prepSt_mm (hO : Ok m) (c : Dev nD) (t : Fin (cfgM m hO).N) (s : St F) : (prepSt m hO c t s).mm = s.mm := by unfold prepSt; split <;> rfl
theorem prepSt_ll (hO : Ok m) (c : Dev nD) (t : Fin (cfgM m hO).N) (s : St F) : (prepSt m hO c t s).ll = s.ll := by unfold prepSt; split <;> rfl
theorem initSt_q (hO : Ok m) (c : Dev nD) (t : Fin (cfgM m hO).N) (s : St F) : (initSt m hO c t s).q = s.q := by unfold initSt; split <;> rfl
theorem initSt_sn (hO : Ok m) (c : Dev nD) (t : Fin (cfgM m hO).N) (s : St F) : (initSt m hO c t s).sn = s.sn := by unfold initSt; split <;> rfl
theorem initSt_on (hO : Ok m) (c : Dev nD) (t : Fin (cfgM m hO).N) (s : St F) : (initSt m hO c t s).on = s.on := by unfold initSt; split <;> rfl
theorem initSt_y (hO : Ok m) (c : Dev nD) (t : Fin (cfgM m hO).N) (s : St F) : (initSt m hO c t s).y = s.y := by unfold initSt; split <;> rfl
theorem stepSt_q (hO : Ok m) (c : Dev nD) (t : Fin (cfgM m hO).N) (s : St F) : (stepSt m hO c t s).q = s.q := by unfold stepSt; split <;> rfl
theorem stepSt_sn (hO : Ok m) (c : Dev nD) (t : Fin (cfgM m hO).N) (s : St F) : (stepSt m hO c t s).sn = s.sn := by unfold stepSt; split <;> rfl
theorem stepSt_on (hO : Ok m) (c : Dev nD) (t : Fin (cfgM m hO).N) (s : St F) : (stepSt m hO c t s).on = s.on := by unfold stepSt; split <;> rfl
theorem stepSt_y (hO : Ok m) (c : Dev nD) (t : Fin (cfgM m hO).N) (s : St F) : (stepSt m hO c t s).y = s.y := by unfold stepSt; split <;> rfl
theorem finishSt_q (hO : Ok m) (c : Dev nD) (t : Fin (cfgM m hO).N) (s : St F) : (finishSt m hO c t s).q = s.q := by unfold finishSt; split <;> rfl
theorem finishSt_sn (hO : Ok m) (c : Dev nD) (t : Fin (cfgM m hO).N) (s : St F) : (finishSt m hO c t s).sn = s.sn := by unfold finishSt; split <;> rfl
theorem finishSt_on (hO : Ok m) (c : Dev nD) (t : Fin (cfgM m hO).N) (s : St F) : (finishSt m hO c t s).on = s.on := by unfold finishSt; split <;> rfl
theorem finishSt_acc (hO : Ok m) (c : Dev nD) (t : Fin (cfgM m hO).N) (s : St F) : (finishSt m hO c t s).acc = s.acc := by unfold finishSt; split <;> rfl
theorem finishSt_mm (hO : Ok m) (c : Dev nD) (t : Fin (cfgM m hO).N) (s : St F) : (finishSt m hO c t s).mm = s.mm := by unfold finishSt; split <;> rfl
theorem finishSt_ll (hO : Ok m) (c : Dev nD) (t : Fin (cfgM m hO).N) (s : St F) : (finishSt m hO c t s).ll = s.ll := by unfold finishSt; split <;> rfl

end Cert.KernelIdeal.Gen

end
-- ==== Proof.SeqIdeal.lean ====
/- The body as a sequence of conditional stages. -/
module

public import proofs.«01_k».proof.Proof.StagesIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem seq_dite {E : Type → Type 1} {β : Type} {p : Prop} [Decidable p] (a : p → Prog E PUnit) (k k' : Prog E β) (hk : k = k') :
    (if h : p then (a h >>= fun _ => k) else k) = ((if h : p then a h else pure ⟨⟩) >>= fun _ => k') := by
  subst hk; by_cases h : p
  · simp only [dif_pos h]
  · simp only [dif_neg h]; rfl
theorem seq_ite {E : Type → Type 1} {β : Type} {p : Prop} [Decidable p] (a : Prog E PUnit) (k k' : Prog E β) (hk : k = k') :
    (if p then (a >>= fun _ => k) else k) = ((if p then a else pure ⟨⟩) >>= fun _ => k') := by
  subst hk; by_cases h : p
  · simp only [if_pos h]
  · simp only [if_neg h]; rfl

/-- The body as a sequence of conditional stages. -/
theorem bodyS_seq (i : grid0.Coords) (arg2 : Memref sig .tc .smem S3 .i32) (harg2 : arg2.IsWhole) (arg3 : Memref sig .tc .vmem S3x4096 .bf16) (harg3 : arg3.IsWhole) (arg4 : Memref sig .tc .vmem S3x8x128 .bf16) (harg4 : arg4.IsWhole) (arg5 : Memref sig .tc .vmem S3x8x128 .bf16) (harg5 : arg5.IsWhole) (arg6 : Memref sig .tc .vmem S1x8x64x2048 .i8) (harg6 : arg6.IsWhole) (arg7 : Memref sig .tc .vmem S1x8x64x2048 .i8) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S3x4096 .bf16) (harg10 : arg10.IsWhole) (arg11 : Memref sig .tc .vmem S3x8x64 .i32) (harg11 : arg11.IsWhole) (arg12 : Memref sig .tc .vmem S3x8x1 .f32) (harg12 : arg12.IsWhole) (arg13 : Memref sig .tc .vmem S3x8x64 .i32) (harg13 : arg13.IsWhole) (arg14 : Memref sig .tc .vmem S3x8x1 .f32) (harg14 : arg14.IsWhole) (arg15 : Memref sig .tc .vmem S32x8x128 .f32) (harg15 : arg15.IsWhole) (arg16 : Memref sig .tc .vmem S3x8x128 .f32) (harg16 : arg16.IsWhole) (arg17 : Memref sig .tc .vmem S3x32x256 .f32) (harg17 : arg17.IsWhole) (arg18 : Memref sig .tc .vmem S3x32x128 .f32) (harg18 : arg18.IsWhole) (arg19 : Memref sig .tc .vmem S3x32x128 .f32) (harg19 : arg19.IsWhole) (arg20 : Memref sig .tc .vmem S3x32x128 .f32) (harg20 : arg20.IsWhole) (arg21 : Memref sig .tc .vmem S32x256 .f32) (harg21 : arg21.IsWhole) (arg22 : Memref sig .tc .vmem S32x128 .f32) (harg22 : arg22.IsWhole) (arg23 : Memref sig .tc .vmem S32x128 .f32) (harg23 : arg23.IsWhole) :
    bodyS (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = (smemLoad arg2 (Rect.unit (s := S3) (k0_off1 i) S1.size (k0_off1_inb i)) numel1_S1 rfl >>= fun v1 : BitVec 32 =>
      (if k0_h1 : k0_cond1 i = 1#1 then prepS i k0_h1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 else pure ⟨⟩) >>= fun _ =>
      (if k0_h2 : k0_cond2 i = 1#1 then initS i k0_h2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 else pure ⟨⟩) >>= fun _ =>
      (if Scalar.cmpi .ne (Scalar.extui (Scalar.cmpi .slt (Scalar.muli (BitVec.ofNat 32 (i 1).val) 2048#32) v1) : BitVec 32) 0#32 = 1#1 then stepS i (BitVec.ofNat 32 (i 0).val) (BitVec.ofNat 32 (i 1).val) v1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 else pure ⟨⟩) >>= fun _ =>
      (if k0_h4 : k0_cond4 i = 1#1 then finishS i k0_h4 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 else pure ⟨⟩) >>= fun _ =>
      (if k0_h5 : k0_cond5 i = 1#1 then emitS i k0_h5 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 else pure ⟨⟩) >>= fun _ => pure ⟨⟩) := by
  unfold bodyS
  refine congrArg (Bind.bind (smemLoad arg2 (Rect.unit (s := S3) (k0_off1 i) S1.size (k0_off1_inb i)) numel1_S1 rfl : Prog (TpuEff nD τ sig (Elt F) Λ₀ .tc) (Elt F .i32))) (funext fun v1 => ?_)
  by_cases h1 : k0_cond1 i = 1#1 <;> by_cases h2 : k0_cond2 i = 1#1 <;> by_cases h3 : Scalar.cmpi .ne (Scalar.extui (Scalar.cmpi .slt (Scalar.muli (BitVec.ofNat 32 (i 1).val) 2048#32) v1) : BitVec 32) 0#32 = 1#1 <;> by_cases h4 : k0_cond4 i = 1#1 <;> by_cases h5 : k0_cond5 i = 1#1 <;> simp only [h1, h2, h3, h4, h5, dif_pos, dif_neg, if_pos, if_neg, ↓reduceDIte, ↓reduceIte, not_false_eq_true] <;> rfl

end Cert.KernelIdeal.Gen

end
-- ==== Proof.BodyIdeal.lean ====
/- One grid point: the body from the state before it to the state after it. -/
module

public import proofs.«01_k».proof.Proof.StageWpIdeal
public import proofs.«01_k».proof.Proof.SeqIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem bodyAt_seq (hO : Ok m) (t : Fin (cfgM m hO).N) : bodyAt0 (adm m hO) t = (smemLoad tbM0_0 (Rect.unit (s := S3) (k0_off1 (grid0.coords t)) S1.size (k0_off1_inb (grid0.coords t))) numel1_S1 rfl >>= fun v1 : BitVec 32 =>
      (if k0_h1 : k0_cond1 (grid0.coords t) = 1#1 then prepS (grid0.coords t) k0_h1 tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) else pure ⟨⟩) >>= fun _ =>
      (if k0_h2 : k0_cond2 (grid0.coords t) = 1#1 then initS (grid0.coords t) k0_h2 tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) else pure ⟨⟩) >>= fun _ =>
      (if Scalar.cmpi .ne (Scalar.extui (Scalar.cmpi .slt (Scalar.muli (BitVec.ofNat 32 ((grid0.coords t) 1).val) 2048#32) v1) : BitVec 32) 0#32 = 1#1 then stepS (grid0.coords t) (BitVec.ofNat 32 ((grid0.coords t) 0).val) (BitVec.ofNat 32 ((grid0.coords t) 1).val) v1 tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) else pure ⟨⟩) >>= fun _ =>
      (if k0_h4 : k0_cond4 (grid0.coords t) = 1#1 then finishS (grid0.coords t) k0_h4 tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) else pure ⟨⟩) >>= fun _ =>
      (if k0_h5 : k0_cond5 (grid0.coords t) = 1#1 then emitS (grid0.coords t) k0_h5 tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) else pure ⟨⟩) >>= fun _ => pure ⟨⟩) := by
  unfold bodyAt0
  rw [cc0_kv4_decode_eq_skeleton, skel_eq_bodyS]
  exact bodyS_seq (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _)

set_option maxHeartbeats 4000000 in
theorem body_wp (hO : Ok m) (c : Dev nD) (t : Fin (cfgM m hO).N) (s : St F) (d10 : Vec F S3x4096 .bf16) (d11 : Vec F S3x8x64 .i32) (d12 : Vec F S3x8x1 .f32) (d13 : Vec F S3x8x64 .i32) (d14 : Vec F S3x8x1 .f32) (K : PUnit → sProp 𝕄) :
    iprop(owns (c : Thread nD τ) (ms0_0 m hO t) fullShare (in3 m hO c t) ∗ owns (c : Thread nD τ) (ms0_1 m hO t) fullShare (in4 m hO c t) ∗ owns (c : Thread nD τ) (ms0_2 m hO t) fullShare (in5 m hO c t) ∗ owns (c : Thread nD τ) (ms0_3 m hO t) fullShare (in6 m hO c t) ∗ owns (c : Thread nD τ) (ms0_4 m hO t) fullShare (in7 m hO c t) ∗ owns (c : Thread nD τ) (ms0_5 m hO t) fullShare (in8 m hO c t) ∗ owns (c : Thread nD τ) (ms0_6 m hO t) fullShare (in9 m hO c t) ∗ owns (c : Thread nD τ) (ms0_7 m hO t) fullShare d10 ∗ owns (c : Thread nD τ) (ms0_8 m hO t) fullShare d11 ∗ owns (c : Thread nD τ) (ms0_9 m hO t) fullShare d12 ∗ owns (c : Thread nD τ) (ms0_10 m hO t) fullShare d13 ∗ owns (c : Thread nD τ) (ms0_11 m hO t) fullShare d14 ∗ (∃ d, owns (c : Thread nD τ) scM0_0 fullShare d) ∗ (∃ d, owns (c : Thread nD τ) scM0_1 fullShare d) ∗ owns (c : Thread nD τ) scM0_2 fullShare (s).q ∗ owns (c : Thread nD τ) scM0_3 fullShare (s).sn ∗ owns (c : Thread nD τ) scM0_4 fullShare (s).on ∗ owns (c : Thread nD τ) scM0_5 fullShare (s).y ∗ owns (c : Thread nD τ) scM0_6 fullShare (s).acc ∗ owns (c : Thread nD τ) scM0_7 fullShare (s).mm ∗ owns (c : Thread nD τ) scM0_8 fullShare (s).ll ∗ tbPt0 c tbM0_0 (tbl m 0) ∗ (iprop(owns (c : Thread nD τ) (ms0_0 m hO t) fullShare (in3 m hO c t) ∗ owns (c : Thread nD τ) (ms0_1 m hO t) fullShare (in4 m hO c t) ∗ owns (c : Thread nD τ) (ms0_2 m hO t) fullShare (in5 m hO c t) ∗ owns (c : Thread nD τ) (ms0_3 m hO t) fullShare (in6 m hO c t) ∗ owns (c : Thread nD τ) (ms0_4 m hO t) fullShare (in7 m hO c t) ∗ owns (c : Thread nD τ) (ms0_5 m hO t) fullShare (in8 m hO c t) ∗ owns (c : Thread nD τ) (ms0_6 m hO t) fullShare (in9 m hO c t) ∗ owns (c : Thread nD τ) (ms0_7 m hO t) fullShare (outRows m hO c t (next m hO c t s) d10) ∗ owns (c : Thread nD τ) (ms0_8 m hO t) fullShare (outK m hO c t d11) ∗ owns (c : Thread nD τ) (ms0_9 m hO t) fullShare (outKs m hO c t d12) ∗ owns (c : Thread nD τ) (ms0_10 m hO t) fullShare (outV m hO c t d13) ∗ owns (c : Thread nD τ) (ms0_11 m hO t) fullShare (outVs m hO c t d14) ∗ (∃ d, owns (c : Thread nD τ) scM0_0 fullShare d) ∗ (∃ d, owns (c : Thread nD τ) scM0_1 fullShare d) ∗ owns (c : Thread nD τ) scM0_2 fullShare (next m hO c t s).q ∗ owns (c : Thread nD τ) scM0_3 fullShare (next m hO c t s).sn ∗ owns (c : Thread nD τ) scM0_4 fullShare (next m hO c t s).on ∗ owns (c : Thread nD τ) scM0_5 fullShare (next m hO c t s).y ∗ owns (c : Thread nD τ) scM0_6 fullShare (next m hO c t s).acc ∗ owns (c : Thread nD τ) scM0_7 fullShare (next m hO c t s).mm ∗ owns (c : Thread nD τ) scM0_8 fullShare (next m hO c t s).ll ∗ tbPt0 c tbM0_0 (tbl m 0)) -∗ K ⟨⟩))
      ⊢ wp frame (wpE (defs₀ (F := F)) Variants.none c none) Set.univ (bodyAt0 (adm m hO) t) K := by
  rw [bodyAt_seq]
  iintro ⟨H3, H4, H5, H6, H7, H8, H9, H10, H11, H12, H13, H14, H15, H16, H17, H18, H19, H20, H21, H22, H23, HT, Hk⟩
  rw [wp_bind]
  unfold tbPt0 smemLoad
  iapply (wp_smemLoadElt (m := tbM0_0) (r := Rect.unit (s := S3) (k0_off1 (grid0.coords t)) S1.size (k0_off1_inb (grid0.coords t))) (k := Prog.ret) (q := fullShare.right) (f := tbl m 0) Variants.none (c : Thread nD τ) none Set.univ (Finset.subset_univ _)) $$ HT
  iintro HT
  iapply (le_wp_ret frame (wpE (defs₀ (F := F)) Variants.none c none) Set.univ _ _)
  rw [wp_bind]
  iapply (prep_wp m hO c t s d11 d12 d13 d14 Set.univ _)
  isplitl [H3]; · iexact H3
  isplitl [H4]; · iexact H4
  isplitl [H5]; · iexact H5
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H3, H4, H5, H11, H12, H13, H14, H15, H16, H17, H18, H19⟩
  rw [wp_bind]
  iapply (init_wp m hO c t (prepSt m hO c t s) Set.univ _)
  isplitl [H18]; · iexact H18
  isplitl [H19]; · iexact H19
  isplitl [H21]; · rw [prepSt_acc]; iexact H21
  isplitl [H22]; · rw [prepSt_mm]; iexact H22
  isplitl [H23]; · rw [prepSt_ll]; iexact H23
  iintro ⟨H18, H19, H21, H22, H23⟩
  rw [wp_bind]
  iapply (step_wp m hO c t (initSt m hO c t (prepSt m hO c t s)) Set.univ _)
  isplitl [H6]; · iexact H6
  isplitl [H7]; · iexact H7
  isplitl [H8]; · iexact H8
  isplitl [H9]; · iexact H9
  isplitl [H17]; · rw [initSt_q]; iexact H17
  isplitl [H21]; · iexact H21
  isplitl [H22]; · iexact H22
  isplitl [H23]; · iexact H23
  iintro ⟨H6, H7, H8, H9, H17, H21, H22, H23⟩
  rw [wp_bind]
  iapply (finish_wp m hO c t (stepSt m hO c t (initSt m hO c t (prepSt m hO c t s))) Set.univ _)
  isplitl [H21]; · iexact H21
  isplitl [H23]; · iexact H23
  isplitl [H20]; · rw [stepSt_y, initSt_y, prepSt_y]; iexact H20
  iintro ⟨H21, H23, H20⟩
  rw [wp_bind]
  iapply (emit_wp m hO c t (finishSt m hO c t (stepSt m hO c t (initSt m hO c t (prepSt m hO c t s)))) d10 Set.univ _)
  isplitl [H20]; · iexact H20
  isplitl [H10]; · iexact H10
  iintro ⟨H20, H10⟩
  sl_step
  iapply Hk
  unfold next
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · rw [finishSt_q]; iexact H17
  isplitl [H18]; · rw [finishSt_sn, stepSt_sn]; iexact H18
  isplitl [H19]; · rw [finishSt_on, stepSt_on]; iexact H19
  isplitl [H20]; · iexact H20
  isplitl [H21]; · rw [finishSt_acc]; iexact H21
  isplitl [H22]; · rw [finishSt_mm]; iexact H22
  isplitl [H23]; · rw [finishSt_ll]; iexact H23
  iexact HT

end Cert.KernelIdeal.Gen

end
-- ==== Proof.InvIdeal.lean ====
/- What the scratch buffers hold before each grid point. -/
module

public import proofs.«01_k».proof.Proof.StateIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state with another content of the finished rows. -/
def St.withY (s : St F) (y : Vec F S3x32x128 .f32) : St F := ⟨s.q, s.sn, s.on, y, s.acc, s.mm, s.ll⟩

theorem prepSt_pos (hO : Ok m) (c : Dev nD) (t : Fin (cfgM m hO).N) (h : cond0_0 (grid0.coords t)) (s : St F) : prepSt m hO c t s = ⟨prepQ m hO c t h, prepSn m hO c t h, prepOn m hO c t h, s.y, s.acc, s.mm, s.ll⟩ := dif_pos h
theorem prepSt_neg (hO : Ok m) (c : Dev nD) (t : Fin (cfgM m hO).N) (h : ¬cond0_0 (grid0.coords t)) (s : St F) : prepSt m hO c t s = s := dif_neg h
theorem prepSt_withY (hO : Ok m) (c : Dev nD) (t : Fin (cfgM m hO).N) (s : St F) (y : Vec F S3x32x128 .f32) : prepSt m hO c t (s.withY y) = (prepSt m hO c t s).withY y := by
  by_cases h : cond0_0 (grid0.coords t)
  · rw [prepSt_pos m hO c t h, prepSt_pos m hO c t h]; simp only [St.withY]
  · rw [prepSt_neg m hO c t h, prepSt_neg m hO c t h]
theorem initSt_pos (hO : Ok m) (c : Dev nD) (t : Fin (cfgM m hO).N) (h : cond0_1 (grid0.coords t)) (s : St F) : initSt m hO c t s = ⟨s.q, s.sn, s.on, s.y, initAcc m hO c t h s.sn s.on, initM m hO c t h s.sn s.on, initL m hO c t h s.sn s.on⟩ := dif_pos h
theorem initSt_neg (hO : Ok m) (c : Dev nD) (t : Fin (cfgM m hO).N) (h : ¬cond0_1 (grid0.coords t)) (s : St F) : initSt m hO c t s = s := dif_neg h
theorem initSt_withY (hO : Ok m) (c : Dev nD) (t : Fin (cfgM m hO).N) (s : St F) (y : Vec F S3x32x128 .f32) : initSt m hO c t (s.withY y) = (initSt m hO c t s).withY y := by
  by_cases h : cond0_1 (grid0.coords t)
  · rw [initSt_pos m hO c t h, initSt_pos m hO c t h]; simp only [St.withY]
  · rw [initSt_neg m hO c t h, initSt_neg m hO c t h]
theorem stepSt_pos (hO : Ok m) (c : Dev nD) (t : Fin (cfgM m hO).N) (h : cond0_2 (grid0.coords t) (lenWord m hO c t)) (s : St F) : stepSt m hO c t s = ⟨s.q, s.sn, s.on, s.y, stepAcc m hO c t s.q s.acc s.mm s.ll, stepM m hO c t s.q s.acc s.mm s.ll, stepL m hO c t s.q s.acc s.mm s.ll⟩ := if_pos h
theorem stepSt_neg (hO : Ok m) (c : Dev nD) (t : Fin (cfgM m hO).N) (h : ¬cond0_2 (grid0.coords t) (lenWord m hO c t)) (s : St F) : stepSt m hO c t s = s := if_neg h
theorem stepSt_withY (hO : Ok m) (c : Dev nD) (t : Fin (cfgM m hO).N) (s : St F) (y : Vec F S3x32x128 .f32) : stepSt m hO c t (s.withY y) = (stepSt m hO c t s).withY y := by
  by_cases h : cond0_2 (grid0.coords t) (lenWord m hO c t)
  · rw [stepSt_pos m hO c t h, stepSt_pos m hO c t h]; simp only [St.withY]
  · rw [stepSt_neg m hO c t h, stepSt_neg m hO c t h]
theorem finishSt_pos (hO : Ok m) (c : Dev nD) (t : Fin (cfgM m hO).N) (h : cond0_3 (grid0.coords t)) (s : St F) : finishSt m hO c t s = ⟨s.q, s.sn, s.on, finishY m hO c t h s.acc s.ll s.y, s.acc, s.mm, s.ll⟩ := dif_pos h
theorem finishSt_neg (hO : Ok m) (c : Dev nD) (t : Fin (cfgM m hO).N) (h : ¬cond0_3 (grid0.coords t)) (s : St F) : finishSt m hO c t s = s := dif_neg h
theorem finishSt_withY (hO : Ok m) (c : Dev nD) (t : Fin (cfgM m hO).N) (s : St F) (y : Vec F S3x32x128 .f32) : finishSt m hO c t (s.withY y) = (finishSt m hO c t s).withY (finishSt m hO c t (s.withY y)).y := by
  by_cases h : cond0_3 (grid0.coords t)
  · rw [finishSt_pos m hO c t h, finishSt_pos m hO c t h]; simp only [St.withY]
  · rw [finishSt_neg m hO c t h, finishSt_neg m hO c t h]; simp only [St.withY]
/-- The state before the last stage of a point. -/
def mid (hO : Ok m) (c : Dev nD) (t : Fin (cfgM m hO).N) (s : St F) : St F := stepSt m hO c t (initSt m hO c t (prepSt m hO c t s))
theorem mid_withY (hO : Ok m) (c : Dev nD) (t : Fin (cfgM m hO).N) (s : St F) (y : Vec F S3x32x128 .f32) : mid m hO c t (s.withY y) = (mid m hO c t s).withY y := by
  unfold mid; rw [prepSt_withY, initSt_withY, stepSt_withY]
theorem mid_y (hO : Ok m) (c : Dev nD) (t : Fin (cfgM m hO).N) (s : St F) : (mid m hO c t s).y = s.y := by
  have h : mid m hO c t s = (mid m hO c t s).withY s.y := mid_withY m hO c t s s.y
  rw [h]; simp only [St.withY]
/-- At the first point nothing of the old state is kept but the finished rows. -/
theorem mid_zero (hO : Ok m) (c : Dev nD) (t : Fin (cfgM m hO).N) (h : t.val = 0) (s s' : St F) : mid m hO c t s = (mid m hO c t s').withY s.y := by
  have h0 : cond0_0 (grid0.coords t) := (hcond0_0 t).mpr (by omega)
  have h1 : cond0_1 (grid0.coords t) := (hcond0_1 t).mpr (by omega)
  have e : initSt m hO c t (prepSt m hO c t s) = (initSt m hO c t (prepSt m hO c t s')).withY s.y := by
    rw [prepSt_pos m hO c t h0, prepSt_pos m hO c t h0, initSt_pos m hO c t h1, initSt_pos m hO c t h1]; simp only [St.withY]
  unfold mid; rw [e, stepSt_withY]

set_option maxHeartbeats 2000000 in
/-- What the last stage stores does not depend on the rows already there. -/
theorem finishR_y (hO : Ok m) (c : Dev nD) (t : Fin (cfgM m hO).N) (h : cond0_3 (grid0.coords t)) (acc : Vec F S32x256 .f32) (ll : Vec F S32x128 .f32) (y y' : Vec F S3x32x128 .f32) : (finishR m hO c t h acc ll y).1 = (finishR m hO c t h acc ll y').1 := by
  unfold finishR runFinish; rfl

theorem off7_0 (t : Fin grid0.N) : k0_off7 (grid0.coords t) = ![t.val / 32, 0, 0] := by
  have ht : t.val < 96 := Nat.lt_of_lt_of_eq t.isLt N_0
  have e0 : (grid0.coords t 0).val = t.val / 32 % 3 := Pipeline.Grid.coords_val t 0 (by decide) rfl
  unfold k0_off7
  have e : (Scalar.indexCast (BitVec.ofNat 32 (grid0.coords t 0).val) : Index).toNat = t.val / 32 := by
    rw [e0]
    show (BitVec.ofNat 32 (t.val / 32 % 3)).toNat = t.val / 32
    rw [BitVec.toNat_ofNat]; omega
  rw [← e]

theorem finish_cover (hO : Ok m) (c : Dev nD) (t : Fin (cfgM m hO).N) (h : cond0_3 (grid0.coords t)) (acc : Vec F S32x256 .f32) (ll : Vec F S32x128 .f32) (y : Vec F S3x32x128 .f32) (z : S3x32x128.Idx) (hz : (z 0).val = t.val / 32) :
    ∃ p ∈ (finishR m hO c t h acc ll y).1, z ∈ p.1.set := by
  refine ⟨⟨Rect.unit (s := S3x32x128) (k0_off7 (grid0.coords t)) S1x32x128.size (k0_off7_inb (grid0.coords t) h), _⟩, List.mem_singleton.mpr rfl, ?_⟩
  refine (Rect.mem_set_unit (inb := k0_off7_inb (grid0.coords t) h)).mpr fun a => ?_
  rw [off7_0]
  have hb : ∀ a, (z a).val < S3x32x128.size a := fun a => (z a).isLt
  have h1 := hb 1
  have h2 := hb 2
  simp only [S3x32x128] at h1 h2
  match a with
  | 0 => exact ⟨hz ▸ le_refl _, hz ▸ Nat.lt_succ_self _⟩
  | 1 => exact ⟨Nat.zero_le _, lt_of_lt_of_eq h1 rfl⟩
  | 2 => exact ⟨Nat.zero_le _, lt_of_lt_of_eq h2 rfl⟩

/-- The sequence of states of the run, from one start. -/

def cs (hO : Ok m) (c : Dev nD) : ℕ → St F
  | 0 => ⟨fun _ => Scalar.ofBits .f32 0#32, fun _ => Scalar.ofBits .f32 0#32, fun _ => Scalar.ofBits .f32 0#32, fun _ => Scalar.ofBits .f32 0#32, fun _ => Scalar.ofBits .f32 0#32, fun _ => Scalar.ofBits .f32 0#32, fun _ => Scalar.ofBits .f32 0#32⟩
  | n + 1 => open Classical in if h : n < (cfgM m hO).N then next m hO c ⟨n, h⟩ (cs hO c n) else cs hO c n

/-- A state the run may be in before point `n`: after the first point all but the finished rows is the sequence's, and the
    rows of the batch rows already finished are too. -/
def Inv (hO : Ok m) (c : Dev nD) (n : ℕ) (s : St F) : Prop :=
  (n ≠ 0 → s = (cs m hO c n).withY s.y) ∧ ∀ y : S3x32x128.Idx, 32 * (y 0).val + 31 < n → s.y y = (cs m hO c n).y y

theorem inv_zero (hO : Ok m) (c : Dev nD) (s : St F) : Inv m hO c 0 s := ⟨fun h => absurd rfl h, fun _ h => absurd h (Nat.not_lt_zero _)⟩

theorem inv_next (hO : Ok m) (c : Dev nD) (t : Fin (cfgM m hO).N) (s : St F) (hs : Inv m hO c t.val s) : Inv m hO c (t.val + 1) (next m hO c t s) := by
  have hc : cs m hO c (t.val + 1) = next m hO c t (cs m hO c t.val) := by
    rw [cs, dif_pos t.isLt]
  have hm : mid m hO c t s = (mid m hO c t (cs m hO c t.val)).withY s.y := by
    by_cases h : t.val = 0
    · exact mid_zero m hO c t h s _
    · conv_lhs => rw [hs.1 h]
      exact mid_withY m hO c t _ _
  have hn : ∀ s, next m hO c t s = finishSt m hO c t (mid m hO c t s) := fun _ => rfl
  refine ⟨fun _ => ?_, fun y hy => ?_⟩
  · rw [hc, hn, hn, hm]; exact finishSt_withY m hO c t _ _
  · rw [hc, hn, hn, hm]
    have hmy : (mid m hO c t (cs m hO c t.val)).y = (cs m hO c t.val).y := mid_y m hO c t _
    by_cases h3 : cond0_3 (grid0.coords t)
    · rw [finishSt_pos m hO c t h3, finishSt_pos m hO c t h3]; simp only [St.withY]
      generalize hL : (finishR m hO c t h3 (mid m hO c t (cs m hO c t.val)).acc (mid m hO c t (cs m hO c t.val)).ll s.y).1 = L
      have hcv : (y 0).val = t.val / 32 → ∃ p ∈ L, y ∈ p.1.set := fun e => hL ▸ finish_cover m hO c t h3 _ _ _ y e
      unfold finishY
      rw [finishR_y m hO c t h3 _ _ (mid m hO c t (cs m hO c t.val)).y s.y, hL, hmy]
      by_cases hcov : ∃ p ∈ L, y ∈ p.1.set
      · exact View.read_writes_apply_eq _ _ _ _ y _ hcov
      · unfold over
        have hcov' : ∀ p ∈ L, y ∉ p.1.set := fun p hp hy => hcov ⟨p, hp, hy⟩
        rw [View.read_writes_apply_of_forall_not_mem _ _ y _ hcov', View.read_writes_apply_of_forall_not_mem _ _ y _ hcov']
        rw [(Memref.isWhole_whole cc0_scratch5).read_unread, (Memref.isWhole_whole cc0_scratch5).read_unread]
        exact hs.2 y (lt_of_le_of_ne (by omega) fun e => hcov (hcv (by omega)))
    · rw [finishSt_neg m hO c t h3, finishSt_neg m hO c t h3, hmy]; simp only [St.withY]
      have := (hcond0_3 t).not.mp h3
      exact hs.2 y (by omega)

/-- After the last point the finished rows are the sequence's. -/
theorem inv_last (hO : Ok m) (c : Dev nD) (s : St F) (hs : Inv m hO c 96 s) : s = cs m hO c 96 := by
  have hy : s.y = (cs m hO c 96).y := funext fun y => hs.2 y (by have := (y 0).isLt; simp only [S3x32x128] at this; have h3 : (y 0).val < 3 := (y 0).isLt; omega)
  have h := hs.1 (by decide)
  rw [hy] at h
  exact h

end Cert.KernelIdeal.Gen

end
-- ==== Proof.WindowsIdeal.lean ====
/- The pipeline: what every window holds at every point, the body obligation, and the run. -/
module

public import proofs.«01_k».proof.Proof.BodyIdeal
public import proofs.«01_k».proof.Proof.InvIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N96 (hO : Ok m) : (cfgM m hO).N = 96 := N_0
/-- The first point. -/
def pt0 (hO : Ok m) : Fin (cfgM m hO).N := ⟨0, by rw [N96]; decide⟩
/-- The last point. -/
def pt95 (hO : Ok m) : Fin (cfgM m hO).N := ⟨95, by rw [N96]; decide⟩
theorem pt0_cond (hO : Ok m) : cond0_0 (grid0.coords (pt0 m hO)) := (hcond0_0 _).mpr rfl
theorem pt95_cond (hO : Ok m) : cond0_4 (grid0.coords (pt95 m hO)) := (hcond0_4 _).mpr rfl

/-- What the five results' buffers end with. -/
def res7 (hO : Ok m) (c : Dev nD) : Vec F S3x4096 .bf16 := emitO m hO c (pt95 m hO) (pt95_cond m hO) (cs m hO c 96).y
def res8 (hO : Ok m) (c : Dev nD) : Vec F S3x8x64 .i32 := prepK m hO c (pt0 m hO) (pt0_cond m hO)
def res9 (hO : Ok m) (c : Dev nD) : Vec F S3x8x1 .f32 := prepKs m hO c (pt0 m hO) (pt0_cond m hO)
def res10 (hO : Ok m) (c : Dev nD) : Vec F S3x8x64 .i32 := prepV m hO c (pt0 m hO) (pt0_cond m hO)
def res11 (hO : Ok m) (c : Dev nD) : Vec F S3x8x1 .f32 := prepVs m hO c (pt0 m hO) (pt0_cond m hO)

/-- The invariant before point `n`: the scratch buffers at a state the run may be in, the generator register at some
    state, the table. -/
def PhiS (hO : Ok m) (c : Dev nD) (n : ℕ) : sProp 𝕄 :=
  iprop(iprop(∃ s : St F, ⌜Inv m hO c n s⌝ ∗ (∃ d, owns (c : Thread nD τ) scM0_0 fullShare d) ∗ (∃ d, owns (c : Thread nD τ) scM0_1 fullShare d) ∗ owns (c : Thread nD τ) scM0_2 fullShare (s).q ∗ owns (c : Thread nD τ) scM0_3 fullShare (s).sn ∗ owns (c : Thread nD τ) scM0_4 fullShare (s).on ∗ owns (c : Thread nD τ) scM0_5 fullShare (s).y ∗ owns (c : Thread nD τ) scM0_6 fullShare (s).acc ∗ owns (c : Thread nD τ) scM0_7 fullShare (s).mm ∗ owns (c : Thread nD τ) scM0_8 fullShare (s).ll) ∗ (∃ r, prngReg c r) ∗ tbPt0 c tbM0_0 (tbl m 0))

/-- The proof data of the pipeline: the inputs' buffers at their blocks, the results' at what they end with. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => res7 m hO c
    | ⟨8, _⟩ => res8 m hO c
    | ⟨9, _⟩ => res9 m hO c
    | ⟨10, _⟩ => res10 m hO c
    | ⟨11, _⟩ => res11 m hO c
  Φ t := PhiS m hO c t.val
  q _ := fullShare
  owed _ := 0

theorem Phi_castSucc (hO : Ok m) (c : Dev nD) (t : Fin (cfgM m hO).N) : (dats m hO 0 c).Φ t.castSucc = PhiS m hO c t.val := by
  dsimp only [dats]; rw [Fin.val_castSucc]
theorem Phi_succ (hO : Ok m) (c : Dev nD) (t : Fin (cfgM m hO).N) : (dats m hO 0 c).Φ t.succ = PhiS m hO c (t.val + 1) := by
  dsimp only [dats]; rw [Fin.val_succ]
theorem Phi_zero (hO : Ok m) (c : Dev nD) : (dats m hO 0 c).Φ 0 = PhiS m hO c 0 := by
  dsimp only [dats]; rw [Fin.val_zero]
theorem Phi_last (hO : Ok m) (c : Dev nD) : (dats m hO 0 c).Φ (Fin.last (cfgM m hO).N) = PhiS m hO c 96 := by
  dsimp only [dats]; rw [Fin.val_last, N96]

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem leaves0_0 (hO : Ok m) (c : Dev nD) (t : Fin (cfgM m hO).N) : (dats m hO 0 c).leavesExact 0 t = owns (c : Thread nD τ) (ms0_0 m hO t) fullShare (in3 m hO c t) := by
  unfold Dat.leavesExact; rw [liveAt0_0 m hO t]; show owns _ _ _ ((dats m hO 0 c).after 0 t) = _; rw [after0_0]; rfl
theorem after0_1 (hO : Ok m) (c : Dev nD) (t : Fin (cfgM m hO).N) : (dats m hO 0 c).after 1 t = iblk m hO c 1 t := by dsimp only [dats]; try rfl
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem leaves0_1 (hO : Ok m) (c : Dev nD) (t : Fin (cfgM m hO).N) : (dats m hO 0 c).leavesExact 1 t = owns (c : Thread nD τ) (ms0_1 m hO t) fullShare (in4 m hO c t) := by
  unfold Dat.leavesExact; rw [liveAt0_1 m hO t]; show owns _ _ _ ((dats m hO 0 c).after 1 t) = _; rw [after0_1]; rfl
theorem after0_2 (hO : Ok m) (c : Dev nD) (t : Fin (cfgM m hO).N) : (dats m hO 0 c).after 2 t = iblk m hO c 2 t := by dsimp only [dats]; try rfl
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem leaves0_2 (hO : Ok m) (c : Dev nD) (t : Fin (cfgM m hO).N) : (dats m hO 0 c).leavesExact 2 t = owns (c : Thread nD τ) (ms0_2 m hO t) fullShare (in5 m hO c t) := by
  unfold Dat.leavesExact; rw [liveAt0_2 m hO t]; show owns _ _ _ ((dats m hO 0 c).after 2 t) = _; rw [after0_2]; rfl
theorem after0_3 (hO : Ok m) (c : Dev nD) (t : Fin (cfgM m hO).N) : (dats m hO 0 c).after 3 t = iblk m hO c 3 t := by dsimp only [dats]; try rfl
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem leaves0_3 (hO : Ok m) (c : Dev nD) (t : Fin (cfgM m hO).N) : (dats m hO 0 c).leavesExact 3 t = owns (c : Thread nD τ) (ms0_3 m hO t) fullShare (in6 m hO c t) := by
  unfold Dat.leavesExact; rw [liveAt0_3 m hO t]; show owns _ _ _ ((dats m hO 0 c).after 3 t) = _; rw [after0_3]; rfl
theorem after0_4 (hO : Ok m) (c : Dev nD) (t : Fin (cfgM m hO).N) : (dats m hO 0 c).after 4 t = iblk m hO c 4 t := by dsimp only [dats]; try rfl
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem leaves0_4 (hO : Ok m) (c : Dev nD) (t : Fin (cfgM m hO).N) : (dats m hO 0 c).leavesExact 4 t = owns (c : Thread nD τ) (ms0_4 m hO t) fullShare (in7 m hO c t) := by
  unfold Dat.leavesExact; rw [liveAt0_4 m hO t]; show owns _ _ _ ((dats m hO 0 c).after 4 t) = _; rw [after0_4]; rfl
theorem after0_5 (hO : Ok m) (c : Dev nD) (t : Fin (cfgM m hO).N) : (dats m hO 0 c).after 5 t = iblk m hO c 5 t := by dsimp only [dats]; try rfl
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem leaves0_5 (hO : Ok m) (c : Dev nD) (t : Fin (cfgM m hO).N) : (dats m hO 0 c).leavesExact 5 t = owns (c : Thread nD τ) (ms0_5 m hO t) fullShare (in8 m hO c t) := by
  unfold Dat.leavesExact; rw [liveAt0_5 m hO t]; show owns _ _ _ ((dats m hO 0 c).after 5 t) = _; rw [after0_5]; rfl
theorem after0_6 (hO : Ok m) (c : Dev nD) (t : Fin (cfgM m hO).N) : (dats m hO 0 c).after 6 t = iblk m hO c 6 t := by dsimp only [dats]; try rfl
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem leaves0_6 (hO : Ok m) (c : Dev nD) (t : Fin (cfgM m hO).N) : (dats m hO 0 c).leavesExact 6 t = owns (c : Thread nD τ) (ms0_6 m hO t) fullShare (in9 m hO c t) := by
  unfold Dat.leavesExact; rw [liveAt0_6 m hO t]; show owns _ _ _ ((dats m hO 0 c).after 6 t) = _; rw [after0_6]; rfl
theorem after0_7 (hO : Ok m) (c : Dev nD) (t : Fin (cfgM m hO).N) : (dats m hO 0 c).after 7 t = res7 m hO c := by dsimp only [dats]; try rfl
theorem idle0_7 (hO : Ok m) (t : Fin (cfgM m hO).N) (h : ¬cond0_4 (grid0.coords t)) : (cfgM m hO).idle 7 (grid0.coords t) = true := by
  show (!(_ == 1#1)) = true
  rw [Bool.not_eq_true', beq_eq_false_iff_ne]; exact h
theorem live0_7 (hO : Ok m) (t : Fin (cfgM m hO).N) (h : cond0_4 (grid0.coords t)) : (cfgM m hO).idle 7 (grid0.coords t) = false := by
  show (!(_ == 1#1)) = false
  rw [Bool.not_eq_false', beq_iff_eq]; exact h
theorem noflush0_7 (hO : Ok m) (t : Fin (cfgM m hO).N) (h : t.val % 96 ≠ 95) : ((cfgM m hO).win 7).flush t = false :=
  Bool.eq_false_iff.mpr fun e => h ((flush0_7 (adm m hO) t).mp e)
theorem leaves0_7_live (hO : Ok m) (c : Dev nD) (t : Fin (cfgM m hO).N) (h : cond0_4 (grid0.coords t)) : (dats m hO 0 c).leavesExact 7 t = owns (c : Thread nD τ) (ms0_7 m hO t) fullShare (res7 m hO c) := by
  unfold Dat.leavesExact; rw [live0_7 m hO t h]; show owns _ _ _ ((dats m hO 0 c).after 7 t) = _; rw [after0_7]; rfl
theorem leaves0_7_idle (hO : Ok m) (c : Dev nD) (t : Fin (cfgM m hO).N) (h : ¬cond0_4 (grid0.coords t)) (hf : t.val % 96 ≠ 95) : (dats m hO 0 c).leavesExact 7 t = iprop(∃ d, owns (c : Thread nD τ) (ms0_7 m hO t) fullShare ((dats m hO 0 c).before 7 t d)) :=
  (dats m hO 0 c).leavesExact_idle 7 t (idle0_7 m hO t h) (noflush0_7 m hO t hf)
theorem after0_8 (hO : Ok m) (c : Dev nD) (t : Fin (cfgM m hO).N) : (dats m hO 0 c).after 8 t = res8 m hO c := by dsimp only [dats]; try rfl
theorem idle0_8 (hO : Ok m) (t : Fin (cfgM m hO).N) (h : ¬cond0_0 (grid0.coords t)) : (cfgM m hO).idle 8 (grid0.coords t) = true := by
  show (!(_ == 1#1)) = true
  rw [Bool.not_eq_true', beq_eq_false_iff_ne]; exact h
theorem live0_8 (hO : Ok m) (t : Fin (cfgM m hO).N) (h : cond0_0 (grid0.coords t)) : (cfgM m hO).idle 8 (grid0.coords t) = false := by
  show (!(_ == 1#1)) = false
  rw [Bool.not_eq_false', beq_iff_eq]; exact h
theorem noflush0_8 (hO : Ok m) (t : Fin (cfgM m hO).N) (h : t.val % 96 ≠ 95) : ((cfgM m hO).win 8).flush t = false :=
  Bool.eq_false_iff.mpr fun e => h ((flush0_8 (adm m hO) t).mp e)
theorem leaves0_8_live (hO : Ok m) (c : Dev nD) (t : Fin (cfgM m hO).N) (h : cond0_0 (grid0.coords t)) : (dats m hO 0 c).leavesExact 8 t = owns (c : Thread nD τ) (ms0_8 m hO t) fullShare (res8 m hO c) := by
  unfold Dat.leavesExact; rw [live0_8 m hO t h]; show owns _ _ _ ((dats m hO 0 c).after 8 t) = _; rw [after0_8]; rfl
theorem leaves0_8_idle (hO : Ok m) (c : Dev nD) (t : Fin (cfgM m hO).N) (h : ¬cond0_0 (grid0.coords t)) (hf : t.val % 96 ≠ 95) : (dats m hO 0 c).leavesExact 8 t = iprop(∃ d, owns (c : Thread nD τ) (ms0_8 m hO t) fullShare ((dats m hO 0 c).before 8 t d)) :=
  (dats m hO 0 c).leavesExact_idle 8 t (idle0_8 m hO t h) (noflush0_8 m hO t hf)
theorem before0_8 (hO : Ok m) (c : Dev nD) (d) : ∀ n : ℕ, (h : n < (cfgM m hO).N) → n ≠ 0 → (dats m hO 0 c).before 8 ⟨n, h⟩ d = res8 m hO c
  | 0, _, h0 => absurd rfl h0
  | n + 1, h, h0 => by
    have hN := N96 m hO
    refine ((dats m hO 0 c).before_of_pos 8 ⟨n + 1, h⟩ h0 rfl d).trans ?_
    refine (if_neg (Bool.eq_false_iff.mp (noflush0_8 m hO ⟨n, Nat.lt_of_succ_lt h⟩ (show n % 96 ≠ 95 by omega)))).trans ?_
    show (dats m hO 0 c).left 8 ⟨n, Nat.lt_of_succ_lt h⟩ d = _
    unfold Dat.left
    by_cases hn : n = 0
    · subst hn
      rw [live0_8 m hO ⟨0, _⟩ ((hcond0_0 _).mpr rfl)]
      exact after0_8 m hO c _
    · rw [idle0_8 m hO ⟨n, Nat.lt_of_succ_lt h⟩ (fun e => by have := (hcond0_0 _).mp e; simp only at this; omega)]
      exact before0_8 hO c d n (Nat.lt_of_succ_lt h) hn
theorem after0_9 (hO : Ok m) (c : Dev nD) (t : Fin (cfgM m hO).N) : (dats m hO 0 c).after 9 t = res9 m hO c := by dsimp only [dats]; try rfl
theorem idle0_9 (hO : Ok m) (t : Fin (cfgM m hO).N) (h : ¬cond0_0 (grid0.coords t)) : (cfgM m hO).idle 9 (grid0.coords t) = true := by
  show (!(_ == 1#1)) = true
  rw [Bool.not_eq_true', beq_eq_false_iff_ne]; exact h
theorem live0_9 (hO : Ok m) (t : Fin (cfgM m hO).N) (h : cond0_0 (grid0.coords t)) : (cfgM m hO).idle 9 (grid0.coords t) = false := by
  show (!(_ == 1#1)) = false
  rw [Bool.not_eq_false', beq_iff_eq]; exact h
theorem noflush0_9 (hO : Ok m) (t : Fin (cfgM m hO).N) (h : t.val % 96 ≠ 95) : ((cfgM m hO).win 9).flush t = false :=
  Bool.eq_false_iff.mpr fun e => h ((flush0_9 (adm m hO) t).mp e)
theorem leaves0_9_live (hO : Ok m) (c : Dev nD) (t : Fin (cfgM m hO).N) (h : cond0_0 (grid0.coords t)) : (dats m hO 0 c).leavesExact 9 t = owns (c : Thread nD τ) (ms0_9 m hO t) fullShare (res9 m hO c) := by
  unfold Dat.leavesExact; rw [live0_9 m hO t h]; show owns _ _ _ ((dats m hO 0 c).after 9 t) = _; rw [after0_9]; rfl
theorem leaves0_9_idle (hO : Ok m) (c : Dev nD) (t : Fin (cfgM m hO).N) (h : ¬cond0_0 (grid0.coords t)) (hf : t.val % 96 ≠ 95) : (dats m hO 0 c).leavesExact 9 t = iprop(∃ d, owns (c : Thread nD τ) (ms0_9 m hO t) fullShare ((dats m hO 0 c).before 9 t d)) :=
  (dats m hO 0 c).leavesExact_idle 9 t (idle0_9 m hO t h) (noflush0_9 m hO t hf)
theorem before0_9 (hO : Ok m) (c : Dev nD) (d) : ∀ n : ℕ, (h : n < (cfgM m hO).N) → n ≠ 0 → (dats m hO 0 c).before 9 ⟨n, h⟩ d = res9 m hO c
  | 0, _, h0 => absurd rfl h0
  | n + 1, h, h0 => by
    have hN := N96 m hO
    refine ((dats m hO 0 c).before_of_pos 9 ⟨n + 1, h⟩ h0 rfl d).trans ?_
    refine (if_neg (Bool.eq_false_iff.mp (noflush0_9 m hO ⟨n, Nat.lt_of_succ_lt h⟩ (show n % 96 ≠ 95 by omega)))).trans ?_
    show (dats m hO 0 c).left 9 ⟨n, Nat.lt_of_succ_lt h⟩ d = _
    unfold Dat.left
    by_cases hn : n = 0
    · subst hn
      rw [live0_9 m hO ⟨0, _⟩ ((hcond0_0 _).mpr rfl)]
      exact after0_9 m hO c _
    · rw [idle0_9 m hO ⟨n, Nat.lt_of_succ_lt h⟩ (fun e => by have := (hcond0_0 _).mp e; simp only at this; omega)]
      exact before0_9 hO c d n (Nat.lt_of_succ_lt h) hn
theorem after0_10 (hO : Ok m) (c : Dev nD) (t : Fin (cfgM m hO).N) : (dats m hO 0 c).after 10 t = res10 m hO c := by dsimp only [dats]; try rfl
theorem idle0_10 (hO : Ok m) (t : Fin (cfgM m hO).N) (h : ¬cond0_0 (grid0.coords t)) : (cfgM m hO).idle 10 (grid0.coords t) = true := by
  show (!(_ == 1#1)) = true
  rw [Bool.not_eq_true', beq_eq_false_iff_ne]; exact h
theorem live0_10 (hO : Ok m) (t : Fin (cfgM m hO).N) (h : cond0_0 (grid0.coords t)) : (cfgM m hO).idle 10 (grid0.coords t) = false := by
  show (!(_ == 1#1)) = false
  rw [Bool.not_eq_false', beq_iff_eq]; exact h
theorem noflush0_10 (hO : Ok m) (t : Fin (cfgM m hO).N) (h : t.val % 96 ≠ 95) : ((cfgM m hO).win 10).flush t = false :=
  Bool.eq_false_iff.mpr fun e => h ((flush0_10 (adm m hO) t).mp e)
theorem leaves0_10_live (hO : Ok m) (c : Dev nD) (t : Fin (cfgM m hO).N) (h : cond0_0 (grid0.coords t)) : (dats m hO 0 c).leavesExact 10 t = owns (c : Thread nD τ) (ms0_10 m hO t) fullShare (res10 m hO c) := by
  unfold Dat.leavesExact; rw [live0_10 m hO t h]; show owns _ _ _ ((dats m hO 0 c).after 10 t) = _; rw [after0_10]; rfl
theorem leaves0_10_idle (hO : Ok m) (c : Dev nD) (t : Fin (cfgM m hO).N) (h : ¬cond0_0 (grid0.coords t)) (hf : t.val % 96 ≠ 95) : (dats m hO 0 c).leavesExact 10 t = iprop(∃ d, owns (c : Thread nD τ) (ms0_10 m hO t) fullShare ((dats m hO 0 c).before 10 t d)) :=
  (dats m hO 0 c).leavesExact_idle 10 t (idle0_10 m hO t h) (noflush0_10 m hO t hf)
theorem before0_10 (hO : Ok m) (c : Dev nD) (d) : ∀ n : ℕ, (h : n < (cfgM m hO).N) → n ≠ 0 → (dats m hO 0 c).before 10 ⟨n, h⟩ d = res10 m hO c
  | 0, _, h0 => absurd rfl h0
  | n + 1, h, h0 => by
    have hN := N96 m hO
    refine ((dats m hO 0 c).before_of_pos 10 ⟨n + 1, h⟩ h0 rfl d).trans ?_
    refine (if_neg (Bool.eq_false_iff.mp (noflush0_10 m hO ⟨n, Nat.lt_of_succ_lt h⟩ (show n % 96 ≠ 95 by omega)))).trans ?_
    show (dats m hO 0 c).left 10 ⟨n, Nat.lt_of_succ_lt h⟩ d = _
    unfold Dat.left
    by_cases hn : n = 0
    · subst hn
      rw [live0_10 m hO ⟨0, _⟩ ((hcond0_0 _).mpr rfl)]
      exact after0_10 m hO c _
    · rw [idle0_10 m hO ⟨n, Nat.lt_of_succ_lt h⟩ (fun e => by have := (hcond0_0 _).mp e; simp only at this; omega)]
      exact before0_10 hO c d n (Nat.lt_of_succ_lt h) hn
theorem after0_11 (hO : Ok m) (c : Dev nD) (t : Fin (cfgM m hO).N) : (dats m hO 0 c).after 11 t = res11 m hO c := by dsimp only [dats]; try rfl
theorem idle0_11 (hO : Ok m) (t : Fin (cfgM m hO).N) (h : ¬cond0_0 (grid0.coords t)) : (cfgM m hO).idle 11 (grid0.coords t) = true := by
  show (!(_ == 1#1)) = true
  rw [Bool.not_eq_true', beq_eq_false_iff_ne]; exact h
theorem live0_11 (hO : Ok m) (t : Fin (cfgM m hO).N) (h : cond0_0 (grid0.coords t)) : (cfgM m hO).idle 11 (grid0.coords t) = false := by
  show (!(_ == 1#1)) = false
  rw [Bool.not_eq_false', beq_iff_eq]; exact h
theorem noflush0_11 (hO : Ok m) (t : Fin (cfgM m hO).N) (h : t.val % 96 ≠ 95) : ((cfgM m hO).win 11).flush t = false :=
  Bool.eq_false_iff.mpr fun e => h ((flush0_11 (adm m hO) t).mp e)
theorem leaves0_11_live (hO : Ok m) (c : Dev nD) (t : Fin (cfgM m hO).N) (h : cond0_0 (grid0.coords t)) : (dats m hO 0 c).leavesExact 11 t = owns (c : Thread nD τ) (ms0_11 m hO t) fullShare (res11 m hO c) := by
  unfold Dat.leavesExact; rw [live0_11 m hO t h]; show owns _ _ _ ((dats m hO 0 c).after 11 t) = _; rw [after0_11]; rfl
theorem leaves0_11_idle (hO : Ok m) (c : Dev nD) (t : Fin (cfgM m hO).N) (h : ¬cond0_0 (grid0.coords t)) (hf : t.val % 96 ≠ 95) : (dats m hO 0 c).leavesExact 11 t = iprop(∃ d, owns (c : Thread nD τ) (ms0_11 m hO t) fullShare ((dats m hO 0 c).before 11 t d)) :=
  (dats m hO 0 c).leavesExact_idle 11 t (idle0_11 m hO t h) (noflush0_11 m hO t hf)
theorem before0_11 (hO : Ok m) (c : Dev nD) (d) : ∀ n : ℕ, (h : n < (cfgM m hO).N) → n ≠ 0 → (dats m hO 0 c).before 11 ⟨n, h⟩ d = res11 m hO c
  | 0, _, h0 => absurd rfl h0
  | n + 1, h, h0 => by
    have hN := N96 m hO
    refine ((dats m hO 0 c).before_of_pos 11 ⟨n + 1, h⟩ h0 rfl d).trans ?_
    refine (if_neg (Bool.eq_false_iff.mp (noflush0_11 m hO ⟨n, Nat.lt_of_succ_lt h⟩ (show n % 96 ≠ 95 by omega)))).trans ?_
    show (dats m hO 0 c).left 11 ⟨n, Nat.lt_of_succ_lt h⟩ d = _
    unfold Dat.left
    by_cases hn : n = 0
    · subst hn
      rw [live0_11 m hO ⟨0, _⟩ ((hcond0_0 _).mpr rfl)]
      exact after0_11 m hO c _
    · rw [idle0_11 m hO ⟨n, Nat.lt_of_succ_lt h⟩ (fun e => by have := (hcond0_0 _).mp e; simp only at this; omega)]
      exact before0_11 hO c d n (Nat.lt_of_succ_lt h) hn

end Cert.KernelIdeal.Gen

end
-- ==== Proof.FrameIdeal.lean ====
/- The body obligation at every point, and the run. -/
module

public import proofs.«01_k».proof.Proof.WindowsIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem eq_pt0 (hO : Ok m) (t : Fin (cfgM m hO).N) (h : cond0_0 (grid0.coords t)) : t = pt0 m hO := by
  have ht : t.val < 96 := lt_of_lt_of_eq t.isLt (N96 m hO)
  have := (hcond0_0 t).mp h
  exact Fin.ext (show t.val = 0 by omega)
theorem eq_pt95 (hO : Ok m) (t : Fin (cfgM m hO).N) (h : cond0_4 (grid0.coords t)) : t = pt95 m hO := by
  have ht : t.val < 96 := lt_of_lt_of_eq t.isLt (N96 m hO)
  have := (hcond0_4 t).mp h
  exact Fin.ext (show t.val = 95 by omega)

theorem leaves0_8_of (hO : Ok m) (c : Dev nD) (t : Fin (cfgM m hO).N) (d) :
    (owns (c : Thread nD τ) (ms0_8 m hO t) fullShare (outK m hO c t ((dats m hO 0 c).before 8 t d)) : sProp 𝕄) ⊢ (dats m hO 0 c).leavesExact 8 t := by
  by_cases h : cond0_0 (grid0.coords t)
  · have e : ∀ x, outK m hO c t x = res8 m hO c := fun x => by obtain rfl := eq_pt0 m hO t h; exact dif_pos h
    rw [leaves0_8_live m hO c t h]
    exact Entails.of_eq (congrArg (owns (c : Thread nD τ) (ms0_8 m hO t) fullShare ) (e _))
  · have e : ∀ x, outK m hO c t x = x := fun x => dif_neg h
    by_cases h95 : t.val % 96 = 95
    · rw [show (dats m hO 0 c).leavesExact 8 t = owns (c : Thread nD τ) (ms0_8 m hO t) fullShare (res8 m hO c) from by
        unfold Dat.leavesExact; rw [idle0_8 m hO t h, (flush0_8 (adm m hO) t).mpr h95]; show owns _ _ _ ((dats m hO 0 c).after 8 t) = _; rw [after0_8]; rfl]
      exact Entails.of_eq (congrArg (owns (c : Thread nD τ) (ms0_8 m hO t) fullShare ) ((e _).trans (before0_8 m hO c d t.val t.isLt (by omega))))
    · rw [leaves0_8_idle m hO c t h h95]
      refine (Entails.of_eq (congrArg (owns (c : Thread nD τ) (ms0_8 m hO t) fullShare ) (e _))).trans ?_
      iintro H; iexists d; iexact H

theorem leaves0_9_of (hO : Ok m) (c : Dev nD) (t : Fin (cfgM m hO).N) (d) :
    (owns (c : Thread nD τ) (ms0_9 m hO t) fullShare (outKs m hO c t ((dats m hO 0 c).before 9 t d)) : sProp 𝕄) ⊢ (dats m hO 0 c).leavesExact 9 t := by
  by_cases h : cond0_0 (grid0.coords t)
  · have e : ∀ x, outKs m hO c t x = res9 m hO c := fun x => by obtain rfl := eq_pt0 m hO t h; exact dif_pos h
    rw [leaves0_9_live m hO c t h]
    exact Entails.of_eq (congrArg (owns (c : Thread nD τ) (ms0_9 m hO t) fullShare ) (e _))
  · have e : ∀ x, outKs m hO c t x = x := fun x => dif_neg h
    by_cases h95 : t.val % 96 = 95
    · rw [show (dats m hO 0 c).leavesExact 9 t = owns (c : Thread nD τ) (ms0_9 m hO t) fullShare (res9 m hO c) from by
        unfold Dat.leavesExact; rw [idle0_9 m hO t h, (flush0_9 (adm m hO) t).mpr h95]; show owns _ _ _ ((dats m hO 0 c).after 9 t) = _; rw [after0_9]; rfl]
      exact Entails.of_eq (congrArg (owns (c : Thread nD τ) (ms0_9 m hO t) fullShare ) ((e _).trans (before0_9 m hO c d t.val t.isLt (by omega))))
    · rw [leaves0_9_idle m hO c t h h95]
      refine (Entails.of_eq (congrArg (owns (c : Thread nD τ) (ms0_9 m hO t) fullShare ) (e _))).trans ?_
      iintro H; iexists d; iexact H

theorem leaves0_10_of (hO : Ok m) (c : Dev nD) (t : Fin (cfgM m hO).N) (d) :
    (owns (c : Thread nD τ) (ms0_10 m hO t) fullShare (outV m hO c t ((dats m hO 0 c).before 10 t d)) : sProp 𝕄) ⊢ (dats m hO 0 c).leavesExact 10 t := by
  by_cases h : cond0_0 (grid0.coords t)
  · have e : ∀ x, outV m hO c t x = res10 m hO c := fun x => by obtain rfl := eq_pt0 m hO t h; exact dif_pos h
    rw [leaves0_10_live m hO c t h]
    exact Entails.of_eq (congrArg (owns (c : Thread nD τ) (ms0_10 m hO t) fullShare ) (e _))
  · have e : ∀ x, outV m hO c t x = x := fun x => dif_neg h
    by_cases h95 : t.val % 96 = 95
    · rw [show (dats m hO 0 c).leavesExact 10 t = owns (c : Thread nD τ) (ms0_10 m hO t) fullShare (res10 m hO c) from by
        unfold Dat.leavesExact; rw [idle0_10 m hO t h, (flush0_10 (adm m hO) t).mpr h95]; show owns _ _ _ ((dats m hO 0 c).after 10 t) = _; rw [after0_10]; rfl]
      exact Entails.of_eq (congrArg (owns (c : Thread nD τ) (ms0_10 m hO t) fullShare ) ((e _).trans (before0_10 m hO c d t.val t.isLt (by omega))))
    · rw [leaves0_10_idle m hO c t h h95]
      refine (Entails.of_eq (congrArg (owns (c : Thread nD τ) (ms0_10 m hO t) fullShare ) (e _))).trans ?_
      iintro H; iexists d; iexact H

theorem leaves0_11_of (hO : Ok m) (c : Dev nD) (t : Fin (cfgM m hO).N) (d) :
    (owns (c : Thread nD τ) (ms0_11 m hO t) fullShare (outVs m hO c t ((dats m hO 0 c).before 11 t d)) : sProp 𝕄) ⊢ (dats m hO 0 c).leavesExact 11 t := by
  by_cases h : cond0_0 (grid0.coords t)
  · have e : ∀ x, outVs m hO c t x = res11 m hO c := fun x => by obtain rfl := eq_pt0 m hO t h; exact dif_pos h
    rw [leaves0_11_live m hO c t h]
    exact Entails.of_eq (congrArg (owns (c : Thread nD τ) (ms0_11 m hO t) fullShare ) (e _))
  · have e : ∀ x, outVs m hO c t x = x := fun x => dif_neg h
    by_cases h95 : t.val % 96 = 95
    · rw [show (dats m hO 0 c).leavesExact 11 t = owns (c : Thread nD τ) (ms0_11 m hO t) fullShare (res11 m hO c) from by
        unfold Dat.leavesExact; rw [idle0_11 m hO t h, (flush0_11 (adm m hO) t).mpr h95]; show owns _ _ _ ((dats m hO 0 c).after 11 t) = _; rw [after0_11]; rfl]
      exact Entails.of_eq (congrArg (owns (c : Thread nD τ) (ms0_11 m hO t) fullShare ) ((e _).trans (before0_11 m hO c d t.val t.isLt (by omega))))
    · rw [leaves0_11_idle m hO c t h h95]
      refine (Entails.of_eq (congrArg (owns (c : Thread nD τ) (ms0_11 m hO t) fullShare ) (e _))).trans ?_
      iintro H; iexists d; iexact H

theorem leaves0_7_of (hO : Ok m) (c : Dev nD) (t : Fin (cfgM m hO).N) (s : St F) (hs : Inv m hO c (t.val + 1) (next m hO c t s)) (d) :
    (owns (c : Thread nD τ) (ms0_7 m hO t) fullShare (outRows m hO c t (next m hO c t s) ((dats m hO 0 c).before 7 t d)) : sProp 𝕄) ⊢ (dats m hO 0 c).leavesExact 7 t := by
  by_cases h : cond0_4 (grid0.coords t)
  · have e : ∀ x, outRows m hO c t (next m hO c t s) x = res7 m hO c := fun x => by
      obtain rfl := eq_pt95 m hO t h
      rw [inv_last m hO c _ hs]; exact dif_pos h
    rw [leaves0_7_live m hO c t h]
    exact Entails.of_eq (congrArg (owns (c : Thread nD τ) (ms0_7 m hO t) fullShare ) (e _))
  · have e : ∀ x, outRows m hO c t (next m hO c t s) x = x := fun x => dif_neg h
    rw [leaves0_7_idle m hO c t h (fun e => h ((hcond0_4 t).mpr e))]
    refine (Entails.of_eq (congrArg (owns (c : Thread nD τ) (ms0_7 m hO t) fullShare ) (e _))).trans ?_
    iintro H; iexists d; iexact H

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d)))
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t)

set_option maxHeartbeats 4000000 in
/-- The body at any point: the inputs' buffers hold their blocks, the scratch a state the run may be in. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost
  simp only [before0_0, before0_1, before0_2, before0_3, before0_4, before0_5, before0_6, leaves0_0, leaves0_1, leaves0_2, leaves0_3, leaves0_4, leaves0_5, leaves0_6]
  rw [show (dats m hO 0 c).owesAt () t.succ = (dats m hO 0 c).owesAt () t.castSucc from rfl]
  rw [Phi_succ, Phi_castSucc]
  unfold PhiS
  iintro ⟨⟨⟨%s, %hs, HS0, HS1, HS2, HS3, HS4, HS5, HS6, HS7, HS8⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hn := inv_next m hO c t s hs
  iapply (body_wp m hO c t s ((dats m hO 0 c).before 7 t d7) ((dats m hO 0 c).before 8 t d8) ((dats m hO 0 c).before 9 t d9) ((dats m hO 0 c).before 10 t d10) ((dats m hO 0 c).before 11 t d11) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HT]; · iexact HT
  iintro ⟨H0, H1, H2, H3, H4, H5, H6, H7, H8, H9, H10, H11, HS0, HS1, HS2, HS3, HS4, HS5, HS6, HS7, HS8, HT⟩
  isplitl [HS0 HS1 HS2 HS3 HS4 HS5 HS6 HS7 HS8 Hg HT]
  · isplitl [HS0 HS1 HS2 HS3 HS4 HS5 HS6 HS7 HS8]
    · iexists (next m hO c t s)
      isplitr; · ipureintro; exact hn
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    isplitl [Hg]; · iexact Hg
    iexact HT
  isplitl [Ho]; · iexact Ho
  isplitl [H0]; · rw [leaves0_0 m hO c t]; iexact H0
  isplitl [H1]; · rw [leaves0_1 m hO c t]; iexact H1
  isplitl [H2]; · rw [leaves0_2 m hO c t]; iexact H2
  isplitl [H3]; · rw [leaves0_3 m hO c t]; iexact H3
  isplitl [H4]; · rw [leaves0_4 m hO c t]; iexact H4
  isplitl [H5]; · rw [leaves0_5 m hO c t]; iexact H5
  isplitl [H6]; · rw [leaves0_6 m hO c t]; iexact H6
  isplitl [H7]; · iapply (leaves0_7_of m hO c t s hn d7); iexact H7
  isplitl [H8]; · iapply (leaves0_8_of m hO c t d8); iexact H8
  isplitl [H9]; · iapply (leaves0_9_of m hO c t d9); iexact H9
  isplitl [H10]; · iapply (leaves0_10_of m hO c t d10); iexact H10
  iapply (leaves0_11_of m hO c t d11); iexact H11

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [Phi_zero, PhiA0_eq, PhiT0_eq]
  unfold PhiS
  iintro ⟨⟨⟨HS0, HS1, ⟨%q, HS2⟩, ⟨%sn, HS3⟩, ⟨%on, HS4⟩, ⟨%y, HS5⟩, ⟨%acc, HS6⟩, ⟨%mm, HS7⟩, ⟨%ll, HS8⟩⟩, Hg⟩, HT⟩
  isplitl [HS0 HS1 HS2 HS3 HS4 HS5 HS6 HS7 HS8]
  · iexists (⟨q, sn, on, y, acc, mm, ll⟩ : St F)
    isplitr; · ipureintro; exact inv_zero m hO c _
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexact HS8
  isplitl [Hg]; · iexact Hg
  iexact HT

theorem hout (hO : Ok m) (c : Dev nD) : (dats m hO 0 c).Φ (Fin.last (cfgM m hO).N) ⊢ Pipeline.ΦA spec0 c := by
  rw [Phi_last, PhiA0_eq]
  unfold PhiS
  iintro ⟨⟨%s, -, HS0, HS1, HS2, HS3, HS4, HS5, HS6, HS7, HS8⟩, Hg, -⟩
  isplitl [HS0 HS1 HS2 HS3 HS4 HS5 HS6 HS7 HS8]
  · isplitl [HS0]; · iexact HS0
    isplitl [HS1]; · iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8
  iexact Hg

set_option backward.isDefEq.respectTransparency.types false in
set_option maxHeartbeats 800000 in
/-- The run: every array of the pipeline ends at what the proof data say, every other buffer at what the host lines leave,
    every counter at zero. -/
theorem run_main_quiescent (hO : Ok m) : θ_run defs (onTc (τ := τ) (main (F := F))) (s₀ m ρ) (fun r => Pipeline.FramePost (Pipeline.pin pcfgs fun _ => adm m hO) (dats m hO) 0 (Pipeline.afterTail pcfgs (fun _ => adm m hO) (dats m hO) 0 (V0 m) [hostOps1]) r ∧ r.2.sem = fun _ => 0) :=
  Pipeline.θ_run_frameP_around_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

/-- The argument arrays end unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨((h.1 c).2 main_arg0 (by decide : main_arg0 ∈ Pipeline.restRefs sig spec0)).trans (W_main_arg0 m hO (dats m hO) c),
      ((h.1 c).2 main_arg1 (by decide : main_arg1 ∈ Pipeline.restRefs sig spec0)).trans (W_main_arg1 m hO (dats m hO) c),
      ((h.1 c).2 main_arg2 (by decide : main_arg2 ∈ Pipeline.restRefs sig spec0)).trans (W_main_arg2 m hO (dats m hO) c),
      ((h.1 c).2 main_arg3 (by decide : main_arg3 ∈ Pipeline.restRefs sig spec0)).trans (W_main_arg3 m hO (dats m hO) c),
      ((h.1 c).2 main_arg4 (by decide : main_arg4 ∈ Pipeline.restRefs sig spec0)).trans (W_main_arg4 m hO (dats m hO) c),
      ((h.1 c).2 main_arg5 (by decide : main_arg5 ∈ Pipeline.restRefs sig spec0)).trans (W_main_arg5 m hO (dats m hO) c),
      ((h.1 c).2 main_arg6 (by decide : main_arg6 ∈ Pipeline.restRefs sig spec0)).trans (W_main_arg6 m hO (dats m hO) c),
      ((h.1 c).2 main_arg7 (by decide : main_arg7 ∈ Pipeline.restRefs sig spec0)).trans (W_main_arg7 m hO (dats m hO) c)⟩, h.2⟩) (run_main_quiescent m ρ hO)

end Cert.KernelIdeal.Gen

end
-- ==== Proof.FrameKernel.lean ====
/- The kernel and its ideal program are one program, printed twice: what is proved of the one's text over any floats holds of the other's. -/
module

public import proofs.«01_k».proof.Proof.Gen.Kernel
public import proofs.«01_k».proof.Proof.OkKernelIdeal
public import proofs.«01_k».proof.Proof.FrameIdeal

@[expose] public section

set_option maxRecDepth 100000

noncomputable section

namespace Cert.Kernel.Gen

open Idealize.ShloMosaic Idealize.ShloMosaic.TcCoe Idealize.SL.Sem
variable {F : FTy → Type} [FloatOps F]

set_option maxHeartbeats 4000000 in
/-- The kernel bodies, the tables of bodies and the tables of the whole programs. -/
theorem body_eq : Cert.Kernel.cc0_kv4_decode (F := F) = Cert.KernelIdeal.cc0_kv4_decode (F := F) := rfl

set_option maxHeartbeats 4000000 in
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rw [body_eq]; rfl
  | ⟨n + 1, h⟩, _ => exact absurd h (Nat.not_lt.2 (Nat.le_add_left _ _))

set_option maxHeartbeats 4000000 in
theorem defs_eq : Cert.Kernel.defs (F := F) = Cert.KernelIdeal.defs (F := F) :=
  congrArg (Pipeline.defs Cert.KernelIdeal.pcfgs) defs₀_eq

variable (m : (ℓ : Loc nD τ sig) → Buf (Elt F) ℓ) (ρ : Dev nD → PrngReg)

set_option maxHeartbeats 4000000 in
/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  have h := Cert.KernelIdeal.Gen.frame (F := F) m ρ (Cert.KernelIdeal.Ok.ok _)
  rw [← defs_eq] at h
  exact h

end Cert.Kernel.Gen

end
-- ==== Proof.ReferenceFrame.lean ====
/- The reference ends with its arguments as they were. -/
module

public import proofs.«01_k».proof.Proof.Gen.ReferenceIdeal
public import Idealize.ShloMosaic.Lib.Claim
public import Idealize.ShloMosaic.Lib.Quiescent
public import proofs.«01_k».proof.Defs

@[expose] public section

set_option maxRecDepth 16384

noncomputable section

namespace Cert.ReferenceIdeal.Gen

open Idealize.ShloMosaic Idealize.ShloMosaic.TcCoe Idealize.SL.Sem

set_option maxHeartbeats 1600000 in
/-- The reference ends with its arguments as they were and every semaphore counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  hlo_run
  · exact fun _ => ⟨trivial, trivial, trivial, trivial, trivial, trivial, trivial, trivial⟩
  · exact sem_eq_zero_of_no_sems (by decide) _

end Cert.ReferenceIdeal.Gen

end
-- ==== Proof.RowValue.lean ====
/- One row of a new token: its rotation by the Hadamard matrix, its scale, its codes and its bytes, and the two ways the
   sign of an entry of the matrix is computed. -/
module

public import Idealize.ShloMosaic.Lib.Pointwise
public import Idealize.ShloMosaic.Lib.IdealHost
public import proofs.«01_k».proof.Defs

@[expose] public section

set_option maxRecDepth 16384

noncomputable section

namespace Cert.Row

open Idealize.ShloMosaic Idealize.ShloMosaic.TcCoe Idealize.SL.Sem

/-- Whether the number of common bits is even, counted. -/
def even (p : BitVec 32) : BitVec 1 := IntOp.cmpi .eq (IntOp.andi (IntOp.ctpop p) 1#32) 0#32

/-- Whether it is even, by folding the word onto itself. -/
def evenFold (p : BitVec 32) : BitVec 1 :=
  IntOp.cmpi .eq
    (IntOp.andi
      (IntOp.xori (IntOp.xori (IntOp.xori p (IntOp.shrsi .vector p 4#32)) (IntOp.shrsi .vector (IntOp.xori p (IntOp.shrsi .vector p 4#32)) 2#32))
        (IntOp.shrsi .vector (IntOp.xori (IntOp.xori p (IntOp.shrsi .vector p 4#32)) (IntOp.shrsi .vector (IntOp.xori p (IntOp.shrsi .vector p 4#32)) 2#32)) 1#32))
      1#32)
    0#32

theorem even_fold_fin : ∀ p : Fin 128, evenFold (BitVec.ofNat 32 p.val) = even (BitVec.ofNat 32 p.val) := by decide +kernel

theorem and_ofNat (i j : Fin 128) : IntOp.andi (BitVec.ofNat 32 i.val) (BitVec.ofNat 32 j.val) = BitVec.ofNat 32 (i.val &&& j.val) := by
  unfold IntOp.andi
  apply BitVec.eq_of_toNat_eq
  have hi := i.isLt
  have hj := j.isLt
  have hij : i.val &&& j.val ≤ i.val := Nat.and_le_left
  rw [BitVec.toNat_and, BitVec.toNat_ofNat, BitVec.toNat_ofNat, BitVec.toNat_ofNat, Nat.mod_eq_of_lt (by omega), Nat.mod_eq_of_lt (by omega), Nat.mod_eq_of_lt (by omega)]

/-- For two lanes of a row the two ways agree. -/
theorem even_fold (i j : Fin 128) :
    evenFold (IntOp.andi (BitVec.ofNat 32 i.val) (BitVec.ofNat 32 j.val)) = even (IntOp.andi (BitVec.ofNat 32 i.val) (BitVec.ofNat 32 j.val)) := by
  rw [and_ofNat]
  have hij : i.val &&& j.val ≤ i.val := Nat.and_le_left
  exact even_fold_fin ⟨i.val &&& j.val, by omega⟩

/-- The sign of an entry of the Hadamard matrix. -/
def sgn (i j : Fin 128) : EReal :=
  Scalar.select (even (IntOp.andi (BitVec.ofNat 32 i.val) (BitVec.ofNat 32 j.val))) 1 (Ideal.ofBits .f32 3212836864#32)

/-- The factor of the Hadamard matrix. -/
def unit : EReal := Ideal.ofBits .f32 1035273459#32

theorem unit_nonneg : 0 ≤ unit := by
  unfold unit
  simp only [Ideal.ofBits, Ideal.ieee]
  simp [-EReal.coe_mul]

theorem unit_ne_top : unit ≠ ⊤ := by
  unfold unit
  simp only [Ideal.ofBits, Ideal.ieee]
  simp [-EReal.coe_mul]

/-- The factor goes through a sum. -/
theorem sum_mul_unit {ι : Type} [Fintype ι] (f : ι → EReal) : (∑ x, f x) * unit = ∑ x, f x * unit := by
  classical
  have h : ∀ s : Finset ι, (∑ x ∈ s, f x) * unit = ∑ x ∈ s, f x * unit := by
    intro s
    induction s using Finset.induction_on with
    | empty => simp
    | insert a s ha ih =>
      rw [Finset.sum_insert ha, Finset.sum_insert ha, EReal.right_distrib_of_nonneg_of_ne_top unit_nonneg unit_ne_top, ih]
  exact h Finset.univ

/-- The row rotated. -/
def rot (v : Fin 128 → EReal) (e : Fin 128) : EReal := ∑ x, v x * (sgn x e * unit)

/-- The rotation may be scaled after the sum. -/
theorem rot_eq (v : Fin 128 → EReal) (e : Fin 128) : (∑ x, v x * sgn x e) * unit = rot v e := by
  rw [sum_mul_unit]
  exact Finset.sum_congr rfl fun x _ => mul_assoc _ _ _

/-- The largest magnitude of the rotated row. -/
def amax (v : Fin 128 → EReal) : EReal :=
  Finset.fold max (Ideal.ofBits .f32 4286578688#32) (fun x => FloatOps.absf (F := Ideal) (φ := .f32) (rot v x)) Finset.univ

/-- The scale. -/
def scale (v : Fin 128 → EReal) : EReal :=
  if amax v = 0 then 1 else Ideal.div (amax v) (Ideal.ofBits .f32 1088421888#32)

/-- The code of an entry. -/
def code (v : Fin 128 → EReal) (e : Fin 128) : EReal :=
  min (Ideal.ofBits .f32 1088421888#32) (max (Ideal.ofBits .f32 3235905536#32)
    (Ideal.liftRound Ideal.roundHalfEven (Ideal.div (rot v e) (scale v))))

/-- The code moved up by eight, as a word. -/
def up (v : Fin 128 → EReal) (e : Fin 128) : BitVec 32 :=
  IntOp.addi (FloatOps.fptosi (F := Ideal) (φ := .f32) 32 (code v e)) 8#32

/-- Two codes in one word. -/
def word (v : Fin 128 → EReal) (e : Fin 64) : BitVec 32 :=
  IntOp.ori (up v ⟨e.val, by omega⟩) (IntOp.shli .vector (up v ⟨64 + e.val, by omega⟩) 4#32)

theorem shli_host (x : BitVec 32) : IntOp.shli .host x 4#32 = IntOp.shli .vector x 4#32 := rfl

end Cert.Row

end
-- ==== Proof.QuantKernel.lean ====
/- What the kernel stores for the three batch rows of a new token, read at an index: the rows of `Row`. -/
module

public import proofs.«01_k».proof.Proof.Gen.KernelIdeal.Skeleton
public import proofs.«01_k».proof.Proof.RowValue

@[expose] public section

set_option maxRecDepth 16384

noncomputable section

namespace Cert.KernelIdeal.Gen

open Idealize.ShloMosaic Idealize.ShloMosaic.TcCoe Idealize.SL.Sem

theorem sgn_at (i j : Fin 128) : k0_pay10 (F := Ideal) (ix2 i j) = Row.sgn i j := by
  pointwise [k0_pay10]
  unfold Row.sgn
  rw [← Row.even_fold]
  rfl

variable (L : FVec Ideal S1x8x128 .bf16) (i : Fin 8)

/-- The rotation of a row, as the kernel does it: the factor after the sum. -/
theorem rot_at (e : Fin 128) : (∑ x, L (ix3 0 i x) * k0_pay10 (F := Ideal) (ix2 x e)) * Ideal.ofBits .f32 1035273459#32
    = Row.rot (fun d => L (ix3 0 i d)) e := by
  rw [← Row.rot_eq]
  exact congrArg (· * _) (Finset.sum_congr rfl fun x _ => congrArg _ (sgn_at x e))

theorem scale0_k : k0_pay63 (F := Ideal) (k0_pay55 (k0_pay53 k0_pay10 L) k0_pay54) (ix3 0 i 0) = Row.scale (fun d => L (ix3 0 i d)) := by
  pointwise [k0_pay63, k0_pay55, k0_pay54, k0_pay53, k0_pay52, rot_at]
  rfl
theorem scale1_k : k0_pay94 (F := Ideal) (k0_pay85 (k0_pay83 k0_pay10 L)) (ix3 0 i 0) = Row.scale (fun d => L (ix3 0 i d)) := by
  pointwise [k0_pay94, k0_pay85, k0_pay84, k0_pay83, rot_at]
  rfl
theorem scale2_k : k0_pay119 (F := Ideal) (k0_pay111 k0_pay10 L) (ix3 0 i 0) = Row.scale (fun d => L (ix3 0 i d)) := by
  pointwise [k0_pay119, k0_pay111, k0_pay110, rot_at]
  rfl
theorem scale0_v : k0_pay64 (F := Ideal) (k0_pay58 k0_pay10 L) (ix3 0 i 0) = Row.scale (fun d => L (ix3 0 i d)) := by
  pointwise [k0_pay64, k0_pay58, k0_pay57, rot_at]
  rfl
theorem scale1_v : k0_pay95 (F := Ideal) (k0_pay88 k0_pay10 L) (ix3 0 i 0) = Row.scale (fun d => L (ix3 0 i d)) := by
  pointwise [k0_pay95, k0_pay88, k0_pay87, rot_at]
  rfl
theorem scale2_v : k0_pay120 (F := Ideal) (k0_pay114 k0_pay10 L) (ix3 0 i 0) = Row.scale (fun d => L (ix3 0 i d)) := by
  pointwise [k0_pay120, k0_pay114, k0_pay113, rot_at]
  rfl

variable (j : Fin 64)

theorem word0_k : k0_pay61 (k0_pay60 (F := Ideal) (k0_pay52 k0_pay10 L) (k0_pay53 k0_pay10 L) k0_pay54) (ix3 0 i j) = Row.word (fun d => L (ix3 0 i d)) j := by
  pointwise [k0_pay61, k0_pay60, k0_pay56, k0_pay55, k0_pay54, k0_pay53, k0_pay52, rot_at]
  rfl
theorem word1_k : k0_pay92 (k0_pay90 (F := Ideal) (k0_pay83 k0_pay10 L)) k0_pay91 (ix3 0 i j) = Row.word (fun d => L (ix3 0 i d)) j := by
  pointwise [k0_pay92, k0_pay91, k0_pay90, k0_pay86, k0_pay85, k0_pay84, k0_pay83, rot_at]
  rfl
theorem word2_k : k0_pay117 (F := Ideal) (k0_pay112 k0_pay10 L) (ix3 0 i j) = Row.word (fun d => L (ix3 0 i d)) j := by
  pointwise [k0_pay117, k0_pay112, k0_pay111, k0_pay110, rot_at]
  rfl
theorem word0_v : k0_pay62 (F := Ideal) (k0_pay59 k0_pay10 L) (ix3 0 i j) = Row.word (fun d => L (ix3 0 i d)) j := by
  pointwise [k0_pay62, k0_pay59, k0_pay58, k0_pay57, rot_at]
  rfl
theorem word1_v : k0_pay93 (F := Ideal) (k0_pay89 k0_pay10 L) (ix3 0 i j) = Row.word (fun d => L (ix3 0 i d)) j := by
  pointwise [k0_pay93, k0_pay89, k0_pay88, k0_pay87, rot_at]
  rfl
theorem word2_v : k0_pay118 (F := Ideal) (k0_pay115 k0_pay10 L) (ix3 0 i j) = Row.word (fun d => L (ix3 0 i d)) j := by
  pointwise [k0_pay118, k0_pay116, k0_pay115, k0_pay114, k0_pay113, rot_at]
  rfl

end Cert.KernelIdeal.Gen

end
-- ==== Proof.ValueIdeal.lean ====
/- The kernel's quantised results: what the first grid point stores, and the arrays after the run. -/
module

public import proofs.«01_k».proof.Proof.WindowsIdeal
public import proofs.«01_k».proof.Proof.QuantKernel
public import Idealize.ShloMosaic.Lib.Pipeline.ValueKit
public import Idealize.ShloMosaic.Lib.Claim

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ)

/-- The region finds the new token's rows with the axis of length one dropped. -/
theorem V_main_v5 (c : Dev nD) : V m c main_v5 = shapeCast S3x8x128 (m ((c : Thread nD τ).loc main_arg1)) shapeCasts_S3x1x8x128_S3x8x128 := by
  show StableHlo.after [hostOps0].flatten (fun b => m (c, b)) (Proc.devRef .tc main_v5) = _
  simp only [hostOps0, List.flatten_cons, List.flatten_nil, List.append_nil]
  after_results
  rfl

/-- The region finds the new token's rows with the axis of length one dropped. -/
theorem V_main_v6 (c : Dev nD) : V m c main_v6 = shapeCast S3x8x128 (m ((c : Thread nD τ).loc main_arg2)) shapeCasts_S3x1x8x128_S3x8x128 := by
  show StableHlo.after [hostOps0].flatten (fun b => m (c, b)) (Proc.devRef .tc main_v6) = _
  simp only [hostOps0, List.flatten_cons, List.flatten_nil, List.append_nil]
  after_results
  rfl

theorem drop_at (X : FVec Ideal S3x1x8x128 .bf16) (b : Fin 3) (g : Fin 8) (d : Fin 128) :
    shapeCast S3x8x128 X shapeCasts_S3x1x8x128_S3x8x128 (ix3 b g d) = X (ix4 b 0 g d) := by
  pointwise

theorem in4_eq (hO : Ok m) (c : Dev nD) : in4 m hO c (pt0 m hO) = V m c main_v5 := by
  funext y
  show V m c main_v5 ((((cfgM m hO).win 1).blk (pt0 m hO)).view.emb y) = _
  congr 1
  funext a
  apply Fin.ext
  blk_simp
  have h : ((cfgM m hO).win 1).index (pt0 m hO) a = 0 := by
    match a with
    | ⟨0, _⟩ => rfl
    | ⟨1, _⟩ => rfl
    | ⟨2, _⟩ => rfl
  rw [h, Nat.zero_mul, Nat.zero_add]

/-- The block of the new rows is the argument. -/
theorem in4_at (hO : Ok m) (c : Dev nD) (b : Fin 3) (g : Fin 8) (d : Fin 128) :
    in4 m hO c (pt0 m hO) (ix3 b g d) = m ((c : Thread nD τ).loc main_arg1) (ix4 b 0 g d) := by
  rw [in4_eq, V_main_v5]
  exact drop_at _ b g d

theorem in5_eq (hO : Ok m) (c : Dev nD) : in5 m hO c (pt0 m hO) = V m c main_v6 := by
  funext y
  show V m c main_v6 ((((cfgM m hO).win 2).blk (pt0 m hO)).view.emb y) = _
  congr 1
  funext a
  apply Fin.ext
  blk_simp
  have h : ((cfgM m hO).win 2).index (pt0 m hO) a = 0 := by
    match a with
    | ⟨0, _⟩ => rfl
    | ⟨1, _⟩ => rfl
    | ⟨2, _⟩ => rfl
  rw [h, Nat.zero_mul, Nat.zero_add]

/-- The block of the new rows is the argument. -/
theorem in5_at (hO : Ok m) (c : Dev nD) (b : Fin 3) (g : Fin 8) (d : Fin 128) :
    in5 m hO c (pt0 m hO) (ix3 b g d) = m ((c : Thread nD τ).loc main_arg2) (ix4 b 0 g d) := by
  rw [in5_eq, V_main_v6]
  exact drop_at _ b g d

/-- The output rows are written back once, whole. -/
theorem arr7 (hO : Ok m) (c : Dev nD) : (dats m hO 0 c).arrAt 7 (cfgM m hO).N = res7 m hO c := by
  refine (dats m hO 0 c).arrAt_eq_of_after_last 7 (pt95 m hO) ⟨(flush0_7 _ _).mpr rfl, fun t hf => Fin.ext ?_, ?_⟩ _ fun j => ?_
  · have h1 := (flush0_7 _ t).mp hf
    have h2 : t.val < 96 := Nat.lt_of_lt_of_eq t.isLt (N96 m hO)
    show t.val = 95
    omega
  · intro a
    match a with
    | ⟨0, _⟩ => exact ⟨rfl, rfl⟩
    | ⟨1, _⟩ => exact ⟨rfl, rfl⟩
  · blk_simp
    rw [after0_7]
    rfl

/-- Result 1 is written back once, whole. -/
theorem arr8 (hO : Ok m) (c : Dev nD) : (dats m hO 0 c).arrAt 8 (cfgM m hO).N = res8 m hO c := by
  refine (dats m hO 0 c).arrAt_eq_of_after_last 8 (pt95 m hO) ⟨(flush0_8 _ _).mpr rfl, fun t hf => Fin.ext ?_, ?_⟩ _ fun j => ?_
  · have h1 := (flush0_8 _ t).mp hf
    have h2 : t.val < 96 := Nat.lt_of_lt_of_eq t.isLt (N96 m hO)
    show t.val = 95
    omega
  · intro a
    match a with
    | ⟨0, _⟩ => exact ⟨rfl, rfl⟩
    | ⟨1, _⟩ => exact ⟨rfl, rfl⟩
    | ⟨2, _⟩ => exact ⟨rfl, rfl⟩
  · blk_simp
    rw [after0_8]
    rfl

/-- Result 2 is written back once, whole. -/
theorem arr9 (hO : Ok m) (c : Dev nD) : (dats m hO 0 c).arrAt 9 (cfgM m hO).N = res9 m hO c := by
  refine (dats m hO 0 c).arrAt_eq_of_after_last 9 (pt95 m hO) ⟨(flush0_9 _ _).mpr rfl, fun t hf => Fin.ext ?_, ?_⟩ _ fun j => ?_
  · have h1 := (flush0_9 _ t).mp hf
    have h2 : t.val < 96 := Nat.lt_of_lt_of_eq t.isLt (N96 m hO)
    show t.val = 95
    omega
  · intro a
    match a with
    | ⟨0, _⟩ => exact ⟨rfl, rfl⟩
    | ⟨1, _⟩ => exact ⟨rfl, rfl⟩
    | ⟨2, _⟩ => exact ⟨rfl, rfl⟩
  · blk_simp
    rw [after0_9]
    rfl

/-- Result 3 is written back once, whole. -/
theorem arr10 (hO : Ok m) (c : Dev nD) : (dats m hO 0 c).arrAt 10 (cfgM m hO).N = res10 m hO c := by
  refine (dats m hO 0 c).arrAt_eq_of_after_last 10 (pt95 m hO) ⟨(flush0_10 _ _).mpr rfl, fun t hf => Fin.ext ?_, ?_⟩ _ fun j => ?_
  · have h1 := (flush0_10 _ t).mp hf
    have h2 : t.val < 96 := Nat.lt_of_lt_of_eq t.isLt (N96 m hO)
    show t.val = 95
    omega
  · intro a
    match a with
    | ⟨0, _⟩ => exact ⟨rfl, rfl⟩
    | ⟨1, _⟩ => exact ⟨rfl, rfl⟩
    | ⟨2, _⟩ => exact ⟨rfl, rfl⟩
  · blk_simp
    rw [after0_10]
    rfl

/-- Result 4 is written back once, whole. -/
theorem arr11 (hO : Ok m) (c : Dev nD) : (dats m hO 0 c).arrAt 11 (cfgM m hO).N = res11 m hO c := by
  refine (dats m hO 0 c).arrAt_eq_of_after_last 11 (pt95 m hO) ⟨(flush0_11 _ _).mpr rfl, fun t hf => Fin.ext ?_, ?_⟩ _ fun j => ?_
  · have h1 := (flush0_11 _ t).mp hf
    have h2 : t.val < 96 := Nat.lt_of_lt_of_eq t.isLt (N96 m hO)
    show t.val = 95
    omega
  · intro a
    match a with
    | ⟨0, _⟩ => exact ⟨rfl, rfl⟩
    | ⟨1, _⟩ => exact ⟨rfl, rfl⟩
    | ⟨2, _⟩ => exact ⟨rfl, rfl⟩
  · blk_simp
    rw [after0_11]
    rfl

theorem res8_at (hO : Ok m) (c : Dev nD) (b : Fin 3) (g : Fin 8) (e : Fin 64) :
    res8 m hO c (ix3 b g e) = Row.word (fun d => m ((c : Thread nD τ).loc main_arg1) (ix4 b 0 g d)) e := by
  unfold res8 prepK prepR runPrep
  dsimp only
  canon_tiles x h
  all_goals (try frame_out)
  · obtain ⟨i, j, rfl⟩ : ∃ (i : Fin 8) (j : Fin 64), x = ix3 0 i j := ⟨x 1, x 2, by idx_ext <;> omega⟩
    refine (word2_k _ i j).trans ?_
    have hb : b = 2 := Fin.ext h0
    have hg : g = i := Fin.ext h1
    have he : e = j := Fin.ext h2
    subst he
    subst hb hg
    refine congrArg (fun v => Row.word v e) (funext fun d => ?_)
    refine Eq.trans ?_ (in4_at m hO c 2 g d)
    pointwise
  · obtain ⟨i, j, rfl⟩ : ∃ (i : Fin 8) (j : Fin 64), x = ix3 0 i j := ⟨x 1, x 2, by idx_ext <;> omega⟩
    refine (word1_k _ i j).trans ?_
    have hb : b = 1 := Fin.ext h0
    have hg : g = i := Fin.ext h1
    have he : e = j := Fin.ext h2
    subst he
    subst hb hg
    refine congrArg (fun v => Row.word v e) (funext fun d => ?_)
    refine Eq.trans ?_ (in4_at m hO c 1 g d)
    pointwise
  · obtain ⟨i, j, rfl⟩ : ∃ (i : Fin 8) (j : Fin 64), x = ix3 0 i j := ⟨x 1, x 2, by idx_ext <;> omega⟩
    refine (word0_k _ i j).trans ?_
    have hb : b = 0 := Fin.ext h0
    have hg : g = i := Fin.ext h1
    have he : e = j := Fin.ext h2
    subst he
    subst hb hg
    refine congrArg (fun v => Row.word v e) (funext fun d => ?_)
    refine Eq.trans ?_ (in4_at m hO c 0 g d)
    pointwise

theorem res9_at (hO : Ok m) (c : Dev nD) (b : Fin 3) (g : Fin 8) :
    res9 m hO c (ix3 b g 0) = Row.scale (fun d => m ((c : Thread nD τ).loc main_arg1) (ix4 b 0 g d)) := by
  unfold res9 prepKs prepR runPrep
  dsimp only
  canon_tiles x h
  all_goals (try frame_out)
  · obtain ⟨i, rfl⟩ : ∃ i : Fin 8, x = ix3 0 i 0 := ⟨x 1, by idx_ext <;> omega⟩
    refine (scale2_k _ i).trans ?_
    have hb : b = 2 := Fin.ext h0
    have hg : g = i := Fin.ext h1
    subst hb hg
    refine congrArg (fun v => Row.scale v) (funext fun d => ?_)
    refine Eq.trans ?_ (in4_at m hO c 2 g d)
    pointwise
  · obtain ⟨i, rfl⟩ : ∃ i : Fin 8, x = ix3 0 i 0 := ⟨x 1, by idx_ext <;> omega⟩
    refine (scale1_k _ i).trans ?_
    have hb : b = 1 := Fin.ext h0
    have hg : g = i := Fin.ext h1
    subst hb hg
    refine congrArg (fun v => Row.scale v) (funext fun d => ?_)
    refine Eq.trans ?_ (in4_at m hO c 1 g d)
    pointwise
  · obtain ⟨i, rfl⟩ : ∃ i : Fin 8, x = ix3 0 i 0 := ⟨x 1, by idx_ext <;> omega⟩
    refine (scale0_k _ i).trans ?_
    have hb : b = 0 := Fin.ext h0
    have hg : g = i := Fin.ext h1
    subst hb hg
    refine congrArg (fun v => Row.scale v) (funext fun d => ?_)
    refine Eq.trans ?_ (in4_at m hO c 0 g d)
    pointwise

theorem res10_at (hO : Ok m) (c : Dev nD) (b : Fin 3) (g : Fin 8) (e : Fin 64) :
    res10 m hO c (ix3 b g e) = Row.word (fun d => m ((c : Thread nD τ).loc main_arg2) (ix4 b 0 g d)) e := by
  unfold res10 prepV prepR runPrep
  dsimp only
  canon_tiles x h
  all_goals (try frame_out)
  · obtain ⟨i, j, rfl⟩ : ∃ (i : Fin 8) (j : Fin 64), x = ix3 0 i j := ⟨x 1, x 2, by idx_ext <;> omega⟩
    refine (word2_v _ i j).trans ?_
    have hb : b = 2 := Fin.ext h0
    have hg : g = i := Fin.ext h1
    have he : e = j := Fin.ext h2
    subst he
    subst hb hg
    refine congrArg (fun v => Row.word v e) (funext fun d => ?_)
    refine Eq.trans ?_ (in5_at m hO c 2 g d)
    pointwise
  · obtain ⟨i, j, rfl⟩ : ∃ (i : Fin 8) (j : Fin 64), x = ix3 0 i j := ⟨x 1, x 2, by idx_ext <;> omega⟩
    refine (word1_v _ i j).trans ?_
    have hb : b = 1 := Fin.ext h0
    have hg : g = i := Fin.ext h1
    have he : e = j := Fin.ext h2
    subst he
    subst hb hg
    refine congrArg (fun v => Row.word v e) (funext fun d => ?_)
    refine Eq.trans ?_ (in5_at m hO c 1 g d)
    pointwise
  · obtain ⟨i, j, rfl⟩ : ∃ (i : Fin 8) (j : Fin 64), x = ix3 0 i j := ⟨x 1, x 2, by idx_ext <;> omega⟩
    refine (word0_v _ i j).trans ?_
    have hb : b = 0 := Fin.ext h0
    have hg : g = i := Fin.ext h1
    have he : e = j := Fin.ext h2
    subst he
    subst hb hg
    refine congrArg (fun v => Row.word v e) (funext fun d => ?_)
    refine Eq.trans ?_ (in5_at m hO c 0 g d)
    pointwise

theorem res11_at (hO : Ok m) (c : Dev nD) (b : Fin 3) (g : Fin 8) :
    res11 m hO c (ix3 b g 0) = Row.scale (fun d => m ((c : Thread nD τ).loc main_arg2) (ix4 b 0 g d)) := by
  unfold res11 prepVs prepR runPrep
  dsimp only
  canon_tiles x h
  all_goals (try frame_out)
  · obtain ⟨i, rfl⟩ : ∃ i : Fin 8, x = ix3 0 i 0 := ⟨x 1, by idx_ext <;> omega⟩
    refine (scale2_v _ i).trans ?_
    have hb : b = 2 := Fin.ext h0
    have hg : g = i := Fin.ext h1
    subst hb hg
    refine congrArg (fun v => Row.scale v) (funext fun d => ?_)
    refine Eq.trans ?_ (in5_at m hO c 2 g d)
    pointwise
  · obtain ⟨i, rfl⟩ : ∃ i : Fin 8, x = ix3 0 i 0 := ⟨x 1, by idx_ext <;> omega⟩
    refine (scale1_v _ i).trans ?_
    have hb : b = 1 := Fin.ext h0
    have hg : g = i := Fin.ext h1
    subst hb hg
    refine congrArg (fun v => Row.scale v) (funext fun d => ?_)
    refine Eq.trans ?_ (in5_at m hO c 1 g d)
    pointwise
  · obtain ⟨i, rfl⟩ : ∃ i : Fin 8, x = ix3 0 i 0 := ⟨x 1, by idx_ext <;> omega⟩
    refine (scale0_v _ i).trans ?_
    have hb : b = 0 := Fin.ext h0
    have hg : g = i := Fin.ext h1
    subst hb hg
    refine congrArg (fun v => Row.scale v) (funext fun d => ?_)
    refine Eq.trans ?_ (in5_at m hO c 0 g d)
    pointwise

end Cert.KernelIdeal.Gen

end
-- ==== Proof.TailIdeal.lean ====
/- The kernel's run with its results: the host lines after the call. -/
module

public import proofs.«01_k».proof.Proof.ValueIdeal
public import proofs.«01_k».proof.Proof.FrameIdeal

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ)

theorem arrRef_inj : Function.Injective (Pipeline.arrRef spec0) := by decide

/-- What the call leaves in `main_v7_0`. -/
theorem exit7 (hO : Ok m) (c : Dev nD) :
    Pipeline.withArrays (Pipeline.pin pcfgs (fun _ => adm m hO) 0).spec c (V0 m c) (fun w => (dats m hO 0 c).arrAt w (Pipeline.pin pcfgs (fun _ => adm m hO) 0).N) (Proc.tc.devRef main_v7_0)
      = res7 m hO c :=
  (Pipeline.withArrays_arr spec0 arrRef_inj c (V0 m c) _ 7).trans (arr7 m hO c)

theorem W_main_v8 (hO : Ok m) (c : Dev nD) :
    Pipeline.afterTail pcfgs (fun _ => adm m hO) (dats m hO) 0 (V0 m) [hostOps1] c main_v8 = shapeCast S3x1x4096 (res7 m hO c) shapeCasts_S3x4096_S3x1x4096 := by
  unfold Pipeline.afterTail
  simp only [hostOps1, List.flatten_cons, List.flatten_nil, List.append_nil]
  after_results
  rw [exit7]
  rfl

/-- What the call leaves in `main_v7_1`. -/
theorem exit8 (hO : Ok m) (c : Dev nD) :
    Pipeline.withArrays (Pipeline.pin pcfgs (fun _ => adm m hO) 0).spec c (V0 m c) (fun w => (dats m hO 0 c).arrAt w (Pipeline.pin pcfgs (fun _ => adm m hO) 0).N) (Proc.tc.devRef main_v7_1)
      = res8 m hO c :=
  (Pipeline.withArrays_arr spec0 arrRef_inj c (V0 m c) _ 8).trans (arr8 m hO c)

theorem W_main_v10 (hO : Ok m) (c : Dev nD) :
    Pipeline.afterTail pcfgs (fun _ => adm m hO) (dats m hO) 0 (V0 m) [hostOps1] c main_v10 = shapeCast S3x1x8x64 (trunci 8 (res8 m hO c) natLt_8_32) shapeCasts_S3x8x64_S3x1x8x64 := by
  unfold Pipeline.afterTail
  simp only [hostOps1, List.flatten_cons, List.flatten_nil, List.append_nil]
  after_results
  rw [exit8]
  rfl

/-- What the call leaves in `main_v7_2`. -/
theorem exit9 (hO : Ok m) (c : Dev nD) :
    Pipeline.withArrays (Pipeline.pin pcfgs (fun _ => adm m hO) 0).spec c (V0 m c) (fun w => (dats m hO 0 c).arrAt w (Pipeline.pin pcfgs (fun _ => adm m hO) 0).N) (Proc.tc.devRef main_v7_2)
      = res9 m hO c :=
  (Pipeline.withArrays_arr spec0 arrRef_inj c (V0 m c) _ 9).trans (arr9 m hO c)

theorem W_main_v11 (hO : Ok m) (c : Dev nD) :
    Pipeline.afterTail pcfgs (fun _ => adm m hO) (dats m hO) 0 (V0 m) [hostOps1] c main_v11 = shapeCast S3x1x8 (res9 m hO c) shapeCasts_S3x8x1_S3x1x8 := by
  unfold Pipeline.afterTail
  simp only [hostOps1, List.flatten_cons, List.flatten_nil, List.append_nil]
  after_results
  rw [exit9]
  rfl

/-- What the call leaves in `main_v7_3`. -/
theorem exit10 (hO : Ok m) (c : Dev nD) :
    Pipeline.withArrays (Pipeline.pin pcfgs (fun _ => adm m hO) 0).spec c (V0 m c) (fun w => (dats m hO 0 c).arrAt w (Pipeline.pin pcfgs (fun _ => adm m hO) 0).N) (Proc.tc.devRef main_v7_3)
      = res10 m hO c :=
  (Pipeline.withArrays_arr spec0 arrRef_inj c (V0 m c) _ 10).trans (arr10 m hO c)

theorem W_main_v13 (hO : Ok m) (c : Dev nD) :
    Pipeline.afterTail pcfgs (fun _ => adm m hO) (dats m hO) 0 (V0 m) [hostOps1] c main_v13 = shapeCast S3x1x8x64 (trunci 8 (res10 m hO c) natLt_8_32) shapeCasts_S3x8x64_S3x1x8x64 := by
  unfold Pipeline.afterTail
  simp only [hostOps1, List.flatten_cons, List.flatten_nil, List.append_nil]
  after_results
  rw [exit10]
  rfl

/-- What the call leaves in `main_v7_4`. -/
theorem exit11 (hO : Ok m) (c : Dev nD) :
    Pipeline.withArrays (Pipeline.pin pcfgs (fun _ => adm m hO) 0).spec c (V0 m c) (fun w => (dats m hO 0 c).arrAt w (Pipeline.pin pcfgs (fun _ => adm m hO) 0).N) (Proc.tc.devRef main_v7_4)
      = res11 m hO c :=
  (Pipeline.withArrays_arr spec0 arrRef_inj c (V0 m c) _ 11).trans (arr11 m hO c)

theorem W_main_v14 (hO : Ok m) (c : Dev nD) :
    Pipeline.afterTail pcfgs (fun _ => adm m hO) (dats m hO) 0 (V0 m) [hostOps1] c main_v14 = shapeCast S3x1x8 (res11 m hO c) shapeCasts_S3x8x1_S3x1x8 := by
  unfold Pipeline.afterTail
  simp only [hostOps1, List.flatten_cons, List.flatten_nil, List.append_nil]
  after_results
  rw [exit11]
  rfl

theorem unpackR (X : FVec Ideal S3x4096 .bf16) (b : Fin 3) (d : Fin 4096) :
    shapeCast S3x1x4096 X shapeCasts_S3x4096_S3x1x4096 (ix3 b 0 d) = X (ix2 b d) := by
  pointwise

theorem unpackW (X : IVec S3x8x64 32) (b : Fin 3) (g : Fin 8) (e : Fin 64) :
    shapeCast S3x1x8x64 (trunci 8 X natLt_8_32) shapeCasts_S3x8x64_S3x1x8x64 (ix4 b 0 g e) = BitVec.setWidth 8 (X (ix3 b g e)) := by
  pointwise

theorem unpackS (X : FVec Ideal S3x8x1 .f32) (b : Fin 3) (g : Fin 8) :
    shapeCast S3x1x8 X shapeCasts_S3x8x1_S3x1x8 (ix3 b 0 g) = X (ix3 b g 0) := by
  pointwise

/-- The kernel's run: its arguments stay, and the results are what the host lines make of what the call
    leaves. -/
theorem run (ρ : Dev nD → PrngReg) (hO : Ok m) :
    θ_run defs (onTc (τ := τ) (main (F := Ideal))) ⟨m, fun _ => 0, ρ⟩ (fun r => ∀ c : Dev nD,
      (r.2.mem ((c.tc : Thread nD τ).loc main_v8) = shapeCast S3x1x4096 (res7 m hO c) shapeCasts_S3x4096_S3x1x4096
      ∧ r.2.mem ((c.tc : Thread nD τ).loc main_v10) = shapeCast S3x1x8x64 (trunci 8 (res8 m hO c) natLt_8_32) shapeCasts_S3x8x64_S3x1x8x64
      ∧ r.2.mem ((c.tc : Thread nD τ).loc main_v11) = shapeCast S3x1x8 (res9 m hO c) shapeCasts_S3x8x1_S3x1x8
      ∧ r.2.mem ((c.tc : Thread nD τ).loc main_v13) = shapeCast S3x1x8x64 (trunci 8 (res10 m hO c) natLt_8_32) shapeCasts_S3x8x64_S3x1x8x64
      ∧ r.2.mem ((c.tc : Thread nD τ).loc main_v14) = shapeCast S3x1x8 (res11 m hO c) shapeCasts_S3x8x1_S3x1x8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨⟨((h.1 c).2 main_v8 (by decide : main_v8 ∈ Pipeline.restRefs sig spec0)).trans (W_main_v8 m hO c),
      ((h.1 c).2 main_v10 (by decide : main_v10 ∈ Pipeline.restRefs sig spec0)).trans (W_main_v10 m hO c),
      ((h.1 c).2 main_v11 (by decide : main_v11 ∈ Pipeline.restRefs sig spec0)).trans (W_main_v11 m hO c),
      ((h.1 c).2 main_v13 (by decide : main_v13 ∈ Pipeline.restRefs sig spec0)).trans (W_main_v13 m hO c),
      ((h.1 c).2 main_v14 (by decide : main_v14 ∈ Pipeline.restRefs sig spec0)).trans (W_main_v14 m hO c)⟩,
      ((h.1 c).2 main_arg0 (by decide : main_arg0 ∈ Pipeline.restRefs sig spec0)).trans (W_main_arg0 m hO (dats m hO) c),
      ((h.1 c).2 main_arg1 (by decide : main_arg1 ∈ Pipeline.restRefs sig spec0)).trans (W_main_arg1 m hO (dats m hO) c),
      ((h.1 c).2 main_arg2 (by decide : main_arg2 ∈ Pipeline.restRefs sig spec0)).trans (W_main_arg2 m hO (dats m hO) c),
      ((h.1 c).2 main_arg3 (by decide : main_arg3 ∈ Pipeline.restRefs sig spec0)).trans (W_main_arg3 m hO (dats m hO) c),
      ((h.1 c).2 main_arg4 (by decide : main_arg4 ∈ Pipeline.restRefs sig spec0)).trans (W_main_arg4 m hO (dats m hO) c),
      ((h.1 c).2 main_arg5 (by decide : main_arg5 ∈ Pipeline.restRefs sig spec0)).trans (W_main_arg5 m hO (dats m hO) c),
      ((h.1 c).2 main_arg6 (by decide : main_arg6 ∈ Pipeline.restRefs sig spec0)).trans (W_main_arg6 m hO (dats m hO) c),
      ((h.1 c).2 main_arg7 (by decide : main_arg7 ∈ Pipeline.restRefs sig spec0)).trans (W_main_arg7 m hO (dats m hO) c)⟩)
    (run_main_quiescent m ρ hO)

end Cert.KernelIdeal.Gen

end
-- ==== Proof.ReferenceValue.lean ====
/- What the reference computes of its quantised results, as terms over an argument. -/
module

public import proofs.«01_k».proof.Proof.Gen.ReferenceIdeal
public import Idealize.ShloMosaic.Lib.Claim
public import Idealize.ShloMosaic.Lib.Pointwise
public import proofs.«01_k».proof.Defs

@[expose] public section

set_option maxRecDepth 16384

noncomputable section

namespace Cert.ReferenceIdeal.Gen

open Idealize.ShloMosaic Idealize.ShloMosaic.TcCoe Idealize.SL.Sem

/-- The Hadamard matrix, scaled. -/
def HAD : FVec Ideal S128x128 .f32 :=
  mulf (select (cmpi .eq (andi (ctpop (andi (iotaInDim S128x128 32 0) (iotaInDim S128x128 32 1)))
        (broadcastInDim S128x128 ![] bcast_S_S128x128 (constantI S_ 32 1#32)))
      (broadcastInDim S128x128 ![] bcast_S_S128x128 (constantI S_ 32 0#32)))
    (broadcastInDim S128x128 ![] bcast_S_S128x128 (constant (F := Ideal) S_ .f32 1065353216#32))
    (broadcastInDim S128x128 ![] bcast_S_S128x128 (constant (F := Ideal) S_ .f32 3212836864#32)))
  (broadcastInDim S128x128 ![] bcast_S_S128x128 (constant (F := Ideal) S_ .f32 1035273459#32))

/-- The new rows, rotated. -/
def ROT (X : FVec Ideal S3x1x8x128 .bf16) : FVec Ideal S3x1x8x128 .f32 :=
  Host.dotGeneral dot_S3x1x8x128_S128x128_S3x1x8x128_3_0_012_1_n_n (some .fp32) (extf .f32 X bitsLt_bf16_f32) HAD

/-- The largest magnitude of each rotated row. -/
def AMAX (X : FVec Ideal S3x1x8x128 .bf16) : FVec Ideal S3x1x8 .f32 :=
  Host.reduce FloatOps.maximumf (Host.absf (ROT X)) (constant S_ .f32 4286578688#32) reducesTo_S3x1x8x128_S3x1x8_d3 h_S_

/-- The scale of each row: a seventh of it, or one. -/
def SCALE (X : FVec Ideal S3x1x8x128 .bf16) : FVec Ideal S3x1x8 .f32 :=
  select (cmpf .oeq (AMAX X) (broadcastInDim S3x1x8 ![] bcast_S_S3x1x8 (constant (F := Ideal) S_ .f32 0#32)))
    (broadcastInDim S3x1x8 ![] bcast_S_S3x1x8 (constant (F := Ideal) S_ .f32 1065353216#32))
    (Host.divf (AMAX X) (broadcastInDim S3x1x8 ![] bcast_S_S3x1x8 (constant (F := Ideal) S_ .f32 1088421888#32)))

/-- The codes: the row over its scale, rounded and clipped. -/
def CODES (X : FVec Ideal S3x1x8x128 .bf16) : FVec Ideal S3x1x8x128 .f32 :=
  minimumf (broadcastInDim S3x1x8x128 ![] bcast_S_S3x1x8x128 (constant (F := Ideal) S_ .f32 1088421888#32))
    (maximumf (broadcastInDim S3x1x8x128 ![] bcast_S_S3x1x8x128 (constant (F := Ideal) S_ .f32 3235905536#32))
      (Host.roundeven (Host.divf (ROT X)
        (broadcastInDim S3x1x8x128 ![0, 1, 2, 3]
          bcast_S3x1x8x1_S3x1x8x128_0_1_2_3 (broadcastInDim S3x1x8x1 ![0, 1, 2] bcast_S3x1x8_S3x1x8x1_0_1_2 (SCALE X))))))

/-- The codes moved up by eight, as words. -/
def UP (X : FVec Ideal S3x1x8x128 .bf16) : IVec S3x1x8x128 32 :=
  addi (fptosi 32 (CODES X)) (broadcastInDim S3x1x8x128 ![] bcast_S_S3x1x8x128 (constantI S_ 32 8#32))

/-- Two codes to a byte: the first half of the row low, the second high. -/
def PACK (X : FVec Ideal S3x1x8x128 .bf16) : IVec S3x1x8x64 8 :=
  trunci 8 (ori (extractStridedSlice S3x1x8x64 ![0, 0, 0, 0] (UP X) slices_S3x1x8x128_S3x1x8x64_0_0_0_0)
    (Host.shli (extractStridedSlice S3x1x8x64 ![0, 0, 0, 64] (UP X) slices_S3x1x8x128_S3x1x8x64_0_0_0_64)
      (broadcastInDim S3x1x8x64 ![] bcast_S_S3x1x8x64 (constantI S_ 32 4#32)))) natLt_8_32

/-- The queries, rotated. -/
def QR (X : FVec Ideal S3x1x4096 .bf16) : FVec Ideal S3x1x8x4x128 .bf16 :=
  truncf .bf16 (Host.dotGeneral dot_S3x1x8x4x128_S128x128_S3x1x8x4x128_4_0_0123_1_n_n (some .fp32)
    (shapeCast S3x1x8x4x128 (extf .f32 X bitsLt_bf16_f32) shapeCasts_S3x1x4096_S3x1x8x4x128) HAD) bitsLt_bf16_f32

/-- The low and the high nibbles of a cache, moved down by eight. -/
def LOW (C : IVec S3x65536x8x64 8) : FVec Ideal S3x65536x8x64 .bf16 :=
  sitofp .bf16 (subi (andi (extui 32 C natLt_8_32) (broadcastInDim S3x65536x8x64 ![] bcast_S_S3x65536x8x64 (constantI S_ 32 15#32)))
    (broadcastInDim S3x65536x8x64 ![] bcast_S_S3x65536x8x64 (constantI S_ 32 8#32)))
def HIGH (C : IVec S3x65536x8x64 8) : FVec Ideal S3x65536x8x64 .bf16 :=
  sitofp .bf16 (subi (Host.shrsi (extui 32 C natLt_8_32) (broadcastInDim S3x65536x8x64 ![] bcast_S_S3x65536x8x64 (constantI S_ 32 4#32)))
    (broadcastInDim S3x65536x8x64 ![] bcast_S_S3x65536x8x64 (constantI S_ 32 8#32)))

/-- A cache's scales, a copy for every head of the group. -/
def SCALES (S : FVec Ideal S3x65536x8 .f32) : FVec Ideal S3x1x8x4x65536 .f32 :=
  broadcastInDim S3x1x8x4x65536 ![0, 1, 2, 3, 4] bcast_S3x1x8x1x65536_S3x1x8x4x65536_0_1_2_3_4
    (broadcastInDim S3x1x8x1x65536 ![0, 2, 4] bcast_S3x8x65536_S3x1x8x1x65536_0_2_4
      (transpose S3x8x65536 [0, 2, 1] S transposes_S3x65536x8_S3x8x65536_0_2_1))

/-- The products of the queries with the cached keys. -/
def DOTS (Q : FVec Ideal S3x1x8x4x128 .bf16) (C : IVec S3x65536x8x64 8) : FVec Ideal S3x1x8x4x65536 .f32 :=
  addf
    (transpose S3x1x8x4x65536 [0, 3, 1, 4, 2] (Host.dotGeneral dot_S3x65536x8x64_S3x1x8x4x64_S3x8x65536x1x4_3_4_1_13_02_02 none (LOW C)
      (extractStridedSlice S3x1x8x4x64 ![0, 0, 0, 0, 0] Q slices_S3x1x8x4x128_S3x1x8x4x64_0_0_0_0_0)) transposes_S3x8x65536x1x4_S3x1x8x4x65536_0_3_1_4_2)
    (transpose S3x1x8x4x65536 [0, 3, 1, 4, 2] (Host.dotGeneral dot_S3x65536x8x64_S3x1x8x4x64_S3x8x65536x1x4_3_4_1_13_02_02 none (HIGH C)
      (extractStridedSlice S3x1x8x4x64 ![0, 0, 0, 0, 64] Q slices_S3x1x8x4x128_S3x1x8x4x64_0_0_0_0_64)) transposes_S3x8x65536x1x4_S3x1x8x4x65536_0_3_1_4_2)

/-- Which tokens are a batch row's. -/
def VALID (L : IVec S3 32) : IVec S3x1x1x1x65536 1 :=
  broadcastInDim S3x1x1x1x65536 ![0, 4] bcast_S3x65536_S3x1x1x1x65536_0_4
    (cmpi .slt (iotaInDim S3x65536 32 1) (broadcastInDim S3x65536 ![0, 1] bcast_S3x1_S3x65536_0_1 (broadcastInDim S3x1 ![0] bcast_S3_S3x1_0 L)))

/-- The scores of the cached tokens. -/
def SCORE (Q : FVec Ideal S3x1x8x4x128 .bf16) (C : IVec S3x65536x8x64 8) (S : FVec Ideal S3x65536x8 .f32) (L : IVec S3 32) : FVec Ideal S3x1x8x4x65536 .f32 :=
  select (broadcastInDim S3x1x8x4x65536 ![0, 1, 2, 3, 4] bcast_S3x1x1x1x65536_S3x1x8x4x65536_0_1_2_3_4 (VALID L))
    (mulf (mulf (DOTS Q C) (SCALES S)) (broadcastInDim S3x1x8x4x65536 ![] bcast_S_S3x1x8x4x65536 (constant (F := Ideal) S_ .f32 1035273459#32)))
    (broadcastInDim S3x1x8x4x65536 ![] bcast_S_S3x1x8x4x65536 (constant (F := Ideal) S_ .f32 4286578688#32))

/-- The score of the new token. -/
def NEWS (Q : FVec Ideal S3x1x8x4x128 .bf16) (K : FVec Ideal S3x1x8x128 .bf16) : FVec Ideal S3x1x8x4 .f32 :=
  mulf (mulf (Host.dotGeneral dot_S3x1x8x4x128_S3x1x8x128_S3x1x8x4_4_3_3_n_012_012 none Q (truncf .bf16 (CODES K) bitsLt_bf16_f32))
    (broadcastInDim S3x1x8x4 ![0, 1, 2, 3] bcast_S3x1x8x1_S3x1x8x4_0_1_2_3 (broadcastInDim S3x1x8x1 ![0, 1, 2] bcast_S3x1x8_S3x1x8x1_0_1_2 (SCALE K))))
    (broadcastInDim S3x1x8x4 ![] bcast_S_S3x1x8x4 (constant (F := Ideal) S_ .f32 1035273459#32))

/-- A value for every head, once for every token. -/
def EACH (v : FVec Ideal S3x1x8x4 .f32) : FVec Ideal S3x1x8x4x65536 .f32 :=
  broadcastInDim S3x1x8x4x65536 ![0, 1, 2, 3, 4] bcast_S3x1x8x4x1_S3x1x8x4x65536_0_1_2_3_4
    (broadcastInDim S3x1x8x4x1 ![0, 1, 2, 3] bcast_S3x1x8x4_S3x1x8x4x1_0_1_2_3 v)

/-- The largest score. -/
def TOP (s : FVec Ideal S3x1x8x4x65536 .f32) (n : FVec Ideal S3x1x8x4 .f32) : FVec Ideal S3x1x8x4 .f32 :=
  maximumf (Host.reduce FloatOps.maximumf s (constant S_ .f32 4286578688#32) reducesTo_S3x1x8x4x65536_S3x1x8x4_d4 h_S_) n

/-- The weights of the cached tokens and of the new one, and one over their sum. -/
def WEIGHT (s : FVec Ideal S3x1x8x4x65536 .f32) (n : FVec Ideal S3x1x8x4 .f32) : FVec Ideal S3x1x8x4x65536 .f32 := Host.exp (subf s (EACH (TOP s n)))
def NEWW (s : FVec Ideal S3x1x8x4x65536 .f32) (n : FVec Ideal S3x1x8x4 .f32) : FVec Ideal S3x1x8x4 .f32 := Host.exp (subf n (TOP s n))
def INV (s : FVec Ideal S3x1x8x4x65536 .f32) (n : FVec Ideal S3x1x8x4 .f32) : FVec Ideal S3x1x8x4 .f32 :=
  Host.divf (broadcastInDim S3x1x8x4 ![] bcast_S_S3x1x8x4 (constant (F := Ideal) S_ .f32 1065353216#32))
    (addf (Host.reduceAdd (WEIGHT s n) (constant S_ .f32 0#32) reducesTo_S3x1x8x4x65536_S3x1x8x4_d4 h_S_) (NEWW s n))

/-- The weights times the value rows' scales. -/
def PROB (s : FVec Ideal S3x1x8x4x65536 .f32) (n : FVec Ideal S3x1x8x4 .f32) (S : FVec Ideal S3x65536x8 .f32) : FVec Ideal S3x1x8x4x65536 .bf16 :=
  truncf .bf16 (mulf (mulf (WEIGHT s n) (EACH (INV s n))) (SCALES S)) bitsLt_bf16_f32
def NEWP (s : FVec Ideal S3x1x8x4x65536 .f32) (n : FVec Ideal S3x1x8x4 .f32) (V : FVec Ideal S3x1x8x128 .bf16) : FVec Ideal S3x1x8x4 .bf16 :=
  truncf .bf16 (mulf (mulf (NEWW s n) (INV s n))
    (broadcastInDim S3x1x8x4 ![0, 1, 2, 3] bcast_S3x1x8x1_S3x1x8x4_0_1_2_3 (broadcastInDim S3x1x8x1 ![0, 1, 2] bcast_S3x1x8_S3x1x8x1_0_1_2 (SCALE V)))) bitsLt_bf16_f32

/-- The new token's share of the weighted sum of the value rows. -/
def SHARE (p : FVec Ideal S3x1x8x4 .bf16) (V : FVec Ideal S3x1x8x128 .bf16) : FVec Ideal S3x1x8x4x128 .f32 :=
  mulf (broadcastInDim S3x1x8x4x128 ![0, 1, 2, 3, 4] bcast_S3x1x8x4x1_S3x1x8x4x128_0_1_2_3_4 (broadcastInDim S3x1x8x4x1 ![0, 1, 2, 3] bcast_S3x1x8x4_S3x1x8x4x1_0_1_2_3 (extf .f32 p bitsLt_bf16_f32)))
    (broadcastInDim S3x1x8x4x128 ![0, 1, 2, 3, 4] bcast_S3x1x8x1x128_S3x1x8x4x128_0_1_2_3_4 (broadcastInDim S3x1x8x1x128 ![0, 1, 2, 4] bcast_S3x1x8x128_S3x1x8x1x128_0_1_2_4
      (extf .f32 (truncf .bf16 (CODES V) bitsLt_bf16_f32) bitsLt_bf16_f32)))

/-- Half of the weighted sum, for the nibbles `N` of that half. -/
def PART (N : FVec Ideal S3x65536x8x64 .bf16) (p : FVec Ideal S3x1x8x4x65536 .bf16) (h : FVec Ideal S3x1x8x4x64 .f32) : FVec Ideal S3x1x8x4x64 .f32 :=
  addf (transpose S3x1x8x4x64 [0, 3, 1, 4, 2] (Host.dotGeneral dot_S3x65536x8x64_S3x1x8x4x65536_S3x8x64x1x4_1_4_3_13_02_02 none N p) transposes_S3x8x64x1x4_S3x1x8x4x64_0_3_1_4_2) h

/-- The weighted sum of the value rows, rotated back. -/
def BACK (l h : FVec Ideal S3x1x8x4x64 .f32) : FVec Ideal S3x1x4096 .bf16 :=
  truncf .bf16 (shapeCast S3x1x4096 (addf
    (Host.dotGeneral dot_S3x1x8x4x64_S64x128_S3x1x8x4x128_4_0_0123_1_n_n (some .fp32) l (extractStridedSlice S64x128 ![0, 0] HAD slices_S128x128_S64x128_0_0))
    (Host.dotGeneral dot_S3x1x8x4x64_S64x128_S3x1x8x4x128_4_0_0123_1_n_n (some .fp32) h (extractStridedSlice S64x128 ![64, 0] HAD slices_S128x128_S64x128_64_0)))
    shapeCasts_S3x1x8x4x128_S3x1x4096) bitsLt_bf16_f32

/-- The attention output from the scores. -/
def MIX (s : FVec Ideal S3x1x8x4x65536 .f32) (n : FVec Ideal S3x1x8x4 .f32) (V : FVec Ideal S3x1x8x128 .bf16) (C : IVec S3x65536x8x64 8) (S : FVec Ideal S3x65536x8 .f32) : FVec Ideal S3x1x4096 .bf16 :=
  BACK
    (PART (LOW C) (PROB s n S) (extractStridedSlice S3x1x8x4x64 ![0, 0, 0, 0, 0] (SHARE (NEWP s n V) V) slices_S3x1x8x4x128_S3x1x8x4x64_0_0_0_0_0))
    (PART (HIGH C) (PROB s n S) (extractStridedSlice S3x1x8x4x64 ![0, 0, 0, 0, 64] (SHARE (NEWP s n V) V) slices_S3x1x8x4x128_S3x1x8x4x64_0_0_0_0_64))

/-- The attention output. -/
def OUT (X : FVec Ideal S3x1x4096 .bf16) (K V : FVec Ideal S3x1x8x128 .bf16) (KC VC : IVec S3x65536x8x64 8) (KS VS : FVec Ideal S3x65536x8 .f32) (L : IVec S3 32) : FVec Ideal S3x1x4096 .bf16 :=
  MIX (SCORE (QR X) KC KS L) (NEWS (QR X) K) V VC VS

end Cert.ReferenceIdeal.Gen

end
-- ==== Proof.ReferenceRun.lean ====
/- The reference's run: its results as terms over its arguments. -/
module

public import proofs.«01_k».proof.Proof.ReferenceValue
public import Idealize.ShloMosaic.Lib.Quiescent

@[expose] public section

set_option maxRecDepth 16384

noncomputable section

namespace Cert.ReferenceIdeal.Gen

open Idealize.ShloMosaic Idealize.ShloMosaic.TcCoe Idealize.SL.Sem

set_option maxHeartbeats 1600000 in
/-- The reference ends with its arguments as they were, and its results are the terms above. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      (r.2.mem ((c.tc : Thread nD τ).loc main_v139) = OUT (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v148) = PACK (m ((c.tc : Thread nD τ).loc main_arg1))
      ∧ r.2.mem ((c.tc : Thread nD τ).loc main_v20) = SCALE (m ((c.tc : Thread nD τ).loc main_arg1))
      ∧ r.2.mem ((c.tc : Thread nD τ).loc main_v157) = PACK (m ((c.tc : Thread nD τ).loc main_arg2))
      ∧ r.2.mem ((c.tc : Thread nD τ).loc main_v34) = SCALE (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  hlo_run
  all_goals first | rfl | exact ⟨trivial, trivial, trivial, trivial, trivial, trivial, trivial, trivial⟩

end Cert.ReferenceIdeal.Gen

end
-- ==== Proof.QuantReference.lean ====
/- The reference's quantised rows, read at an index, are the rows of `Row`. -/
module

public import proofs.«01_k».proof.Proof.ReferenceValue
public import proofs.«01_k».proof.Proof.RowValue

@[expose] public section

set_option maxRecDepth 16384

noncomputable section

namespace Cert.ReferenceIdeal.Gen

open Idealize.ShloMosaic Idealize.ShloMosaic.TcCoe Idealize.SL.Sem

variable (X : FVec Ideal S3x1x8x128 .bf16) (b : Fin 3) (g : Fin 8)

theorem HAD_at (i j : Fin 128) : HAD (ix2 i j) = Row.sgn i j * Row.unit := by
  pointwise [HAD]
  rfl

theorem ROT_at (e : Fin 128) : ROT X (ix4 b 0 g e) = Row.rot (fun d => X (ix4 b 0 g d)) e := by
  pointwise [ROT]
  exact Finset.sum_congr rfl fun x _ => congrArg _ (HAD_at x e)

theorem AMAX_at : AMAX X (ix3 b 0 g) = Row.amax (fun d => X (ix4 b 0 g d)) := by
  pointwise [AMAX]
  unfold Row.amax
  exact congrArg (fun f => Finset.fold max _ f Finset.univ) (funext fun x => congrArg _ (ROT_at X b g x))

theorem SCALE_at : SCALE X (ix3 b 0 g) = Row.scale (fun d => X (ix4 b 0 g d)) := by
  pointwise [SCALE]
  unfold Row.scale
  rw [← AMAX_at X b g]

theorem CODES_at (e : Fin 128) : CODES X (ix4 b 0 g e) = Row.code (fun d => X (ix4 b 0 g d)) e := by
  pointwise [CODES]
  unfold Row.code
  rw [← ROT_at X b g e, ← SCALE_at X b g]

theorem UP_at (e : Fin 128) : UP X (ix4 b 0 g e) = Row.up (fun d => X (ix4 b 0 g d)) e := by
  pointwise [UP]
  unfold Row.up
  rw [← CODES_at X b g e]

theorem PACK_at (e : Fin 64) : PACK X (ix4 b 0 g e) = BitVec.setWidth 8 (Row.word (fun d => X (ix4 b 0 g d)) e) := by
  pointwise [PACK]
  unfold Row.word
  rw [← UP_at X b g, ← UP_at X b g]
  rfl

end Cert.ReferenceIdeal.Gen

end
-- ==== Proof.AttendValue.lean ====
/- One query against the cache: the numbers in the nibbles of a cached row, the scores, the weights and the output row. -/
module

public import proofs.«01_k».proof.Proof.RowValue

@[expose] public section

set_option maxRecDepth 16384

noncomputable section

namespace Cert.Row

open Idealize.ShloMosaic Idealize.ShloMosaic.TcCoe Idealize.SL.Sem

/-- The low nibble of a byte, less eight, as a word. -/
def lo (w : BitVec 8) : BitVec 32 := IntOp.subi (IntOp.andi (w.setWidth 32) 15#32) 8#32

/-- The high nibble of a byte, less eight, as a word. -/
def hi (w : BitVec 8) : BitVec 32 := IntOp.subi (IntOp.shrsi .host (w.setWidth 32) 4#32) 8#32

/-- The nibbles of the byte with its sign bits flipped, widened with their signs, are the same. -/
theorem lo_eq (w : BitVec 8) :
    IntOp.shrsi .vector (IntOp.shli .vector ((w ^^^ 0x88#8).signExtend 32) 28#32) 28#32 = lo w := by
  revert w; decide +kernel

theorem hi_eq (w : BitVec 8) :
    IntOp.shrsi .vector (IntOp.shli .vector ((w ^^^ 0x88#8).signExtend 32) 24#32) 28#32 = hi w := by
  revert w; decide +kernel

/-- Entry `d` of a cached row: the first half of the row in the low nibbles, the second in the high ones. -/
def entry (w : Fin 64 → BitVec 8) (d : Fin 128) : EReal :=
  if h : d.val < 64 then FloatOps.sitofp (F := Ideal) .bf16 (lo (w ⟨d.val, h⟩))
  else FloatOps.sitofp (F := Ideal) .bf16 (hi (w ⟨d.val - 64, by omega⟩))

/-- The entry a lane of the nibble order holds. -/
def dim (j : Fin 128) : Fin 128 := ⟨j.val / 2 + 64 * (j.val % 2), by omega⟩

theorem ofBits_bot : Ideal.ofBits .f32 4286578688#32 = ⊥ := by
  simp [Ideal.ofBits, Ideal.ieee]

theorem dim_bijective : Function.Bijective dim := by
  refine (Fintype.bijective_iff_injective_and_card dim).mpr ⟨fun a b h => ?_, rfl⟩
  have h : a.val / 2 + 64 * (a.val % 2) = b.val / 2 + 64 * (b.val % 2) := congrArg Fin.val h
  ext
  omega

/-- A sum over a row in the nibble order. -/
theorem sum_dim (f : Fin 128 → EReal) : ∑ j, f (dim j) = ∑ d, f d :=
  Function.Bijective.sum_comp dim_bijective f

/-- A sum over two rows laid one after the other. -/
theorem sum_two (f : Fin 256 → EReal) :
    ∑ x, f x = (∑ j : Fin 128, f ⟨j.val, by omega⟩) + ∑ j : Fin 128, f ⟨128 + j.val, by omega⟩ :=
  Fin.sum_univ_add (a := 128) (b := 128) f

/-- A sum over a row by its halves. -/
theorem sum_halves (f : Fin 128 → EReal) :
    ∑ x, f x = (∑ j : Fin 64, f ⟨j.val, by omega⟩) + ∑ j : Fin 64, f ⟨64 + j.val, by omega⟩ :=
  Fin.sum_univ_add (a := 64) (b := 64) f

end Cert.Row

end
-- ==== Proof.SoftmaxValue.lean ====
/- Weights of the exponential kind, summed in one go and chunk by chunk with a running maximum. -/
module

public import Idealize.ShloMosaic.Lib.Pointwise
public import Idealize.ShloMosaic.Lib.IdealHost

@[expose] public section

noncomputable section

namespace Cert.Softmax

open Idealize.ShloMosaic

theorem exp_nonneg (x : EReal) : 0 ≤ Ideal.exp x := by
  induction x with
  | bot => simp
  | top => simp
  | coe r => rw [Ideal.exp_coe]; exact_mod_cast (Real.exp_pos r).le

theorem exp_sub_ne_top {x y : EReal} (h : x ≤ y) : Ideal.exp (x - y) ≠ ⊤ := by
  induction y with
  | bot =>
    have : x = ⊥ := le_bot_iff.mp h
    subst this
    simp
  | top => simp
  | coe r =>
    induction x with
    | bot => simp
    | top => exact absurd h (by simp)
    | coe s => rw [← EReal.coe_sub, Ideal.exp_coe]; exact EReal.coe_ne_top _

/-- Weights relative to one bound become weights relative to a larger one. -/
theorem exp_rescale {s a b : EReal} (hs : s ≤ a) (hab : a ≤ b) (ha : a ≠ ⊥) :
    Ideal.exp (s - a) * Ideal.exp (a - b) = Ideal.exp (s - b) := by
  induction b with
  | bot => exact absurd (le_bot_iff.mp hab) ha
  | top => simp
  | coe b =>
    induction a with
    | bot => exact absurd rfl ha
    | top => exact absurd hab (by simp)
    | coe a =>
      induction s with
      | bot => simp
      | top => exact absurd hs (by simp)
      | coe s =>
        rw [← EReal.coe_sub, ← EReal.coe_sub, ← EReal.coe_sub, Ideal.exp_coe, Ideal.exp_coe, Ideal.exp_coe, ← EReal.coe_mul,
          ← Real.exp_add]
        congr 2
        ring

theorem sum_mul {ι : Type} (S : Finset ι) (f : ι → EReal) {c : EReal} (h0 : 0 ≤ c) (ht : c ≠ ⊤) :
    (∑ x ∈ S, f x) * c = ∑ x ∈ S, f x * c := by
  classical
  induction S using Finset.induction_on with
  | empty => simp
  | insert a s ha ih =>
    rw [Finset.sum_insert ha, Finset.sum_insert ha, EReal.right_distrib_of_nonneg_of_ne_top h0 ht, ih]

variable {ι : Type} [DecidableEq ι] (s : ι → EReal) (n : EReal)

/-- The bound after the tokens of `S`. -/
def top (S : Finset ι) : EReal := max n (S.sup s)

/-- The weighted sum of `f` after the tokens of `S`, with `a` for the new token. -/
def mass (S : Finset ι) (f : ι → EReal) (a : EReal) : EReal :=
  Ideal.exp (n - top s n S) * a + ∑ t ∈ S, Ideal.exp (s t - top s n S) * f t

theorem top_empty : top s n ∅ = n := by simp [top]

theorem top_union (S C : Finset ι) : top s n (S ∪ C) = max (top s n S) (C.sup s) := by
  simp only [top, Finset.sup_union]
  exact (max_assoc _ _ _).symm

/-- Entries of weight zero change nothing. -/
theorem top_union_bot (S C : Finset ι) (h : ∀ t ∈ C, s t = ⊥) : top s n (S ∪ C) = top s n S := by
  rw [top_union, (Finset.sup_eq_bot_iff s C).mpr h]
  exact max_bot_right _

theorem mass_union_bot (S C : Finset ι) (hd : Disjoint S C) (h : ∀ t ∈ C, s t = ⊥) (f : ι → EReal) (a : EReal) :
    mass s n (S ∪ C) f a = mass s n S f a := by
  unfold mass
  rw [top_union_bot s n S C h, Finset.sum_union hd, Finset.sum_eq_zero (s := C) fun t ht => by rw [h t ht, EReal.bot_sub, Ideal.exp_bot, zero_mul], add_zero]

theorem mass_empty (hn : n ≠ ⊥) (hn' : n ≠ ⊤) (f : ι → EReal) (a : EReal) : mass s n ∅ f a = a := by
  have h : Ideal.exp (n - n) = 1 := by
    induction n with
    | bot => exact absurd rfl hn
    | top => exact absurd rfl hn'
    | coe r => rw [← EReal.coe_sub, Ideal.exp_coe]; simp
  simp [mass, top_empty, h]

/-- A further chunk: the old sum scaled down to the new bound, and the chunk's own. -/
theorem mass_union (hn : n ≠ ⊥) (S C : Finset ι) (hd : Disjoint S C) (f : ι → EReal) (a : EReal) :
    mass s n (S ∪ C) f a
      = mass s n S f a * Ideal.exp (top s n S - top s n (S ∪ C)) + ∑ t ∈ C, Ideal.exp (s t - top s n (S ∪ C)) * f t := by
  have hle : top s n S ≤ top s n (S ∪ C) := by rw [top_union]; exact le_max_left _ _
  have hb : top s n S ≠ ⊥ := fun h => hn (le_bot_iff.mp (h ▸ le_max_left n (S.sup s)))
  have h0 := exp_nonneg (top s n S - top s n (S ∪ C))
  have ht := exp_sub_ne_top hle
  unfold mass
  rw [EReal.right_distrib_of_nonneg_of_ne_top h0 ht, sum_mul S _ h0 ht, Finset.sum_union hd, ← add_assoc]
  congr 1
  congr 1
  · rw [mul_right_comm, exp_rescale (a := top s n S) (le_max_left _ _) hle hb]
  · refine Finset.sum_congr rfl fun t h => ?_
    rw [mul_right_comm, exp_rescale (a := top s n S) ((Finset.le_sup (f := s) h).trans (le_max_right _ _)) hle hb]

/-- The plain sum of the weights. -/
def total (S : Finset ι) : EReal := (∑ t ∈ S, Ideal.exp (s t - top s n S)) + Ideal.exp (n - top s n S)

/-- The sums of classes of tokens together are the plain sum. -/
theorem sum_mass {κ : Type} [Fintype κ] [DecidableEq κ] (S : Finset ι) (k : ι → κ) (k0 : κ) :
    ∑ l, mass s n S (fun t => if k t = l then 1 else 0) (if k0 = l then 1 else 0) = total s n S := by
  unfold mass total
  rw [Finset.sum_add_distrib, Finset.sum_comm]
  simp only [mul_ite, mul_one, mul_zero, Finset.sum_ite_eq, Finset.mem_univ, if_true]
  exact add_comm _ _

/-- The sum divided at the end is the sum of the divided weights. -/
theorem mass_div (hn : n ≠ ⊥) (hn' : n ≠ ⊤) (S : Finset ι) (f : ι → EReal) (a : EReal) :
    mass s n S f a * Ideal.div 1 (total s n S)
      = (∑ t ∈ S, Ideal.exp (s t - top s n S) * Ideal.div 1 (total s n S) * f t)
        + Ideal.exp (n - top s n S) * Ideal.div 1 (total s n S) * a := by
  by_cases hM : top s n S = ⊤
  · unfold mass
    rw [hM]
    simp
  · have hb : top s n S ≠ ⊥ := fun h => hn (le_bot_iff.mp (h ▸ le_max_left n (S.sup s)))
    have hpos : 0 < Ideal.exp (n - top s n S) := by
      generalize top s n S = M at hM hb
      induction M with
      | bot => exact absurd rfl hb
      | top => exact absurd rfl hM
      | coe M =>
        induction n with
        | bot => exact absurd rfl hn
        | top => exact absurd rfl hn'
        | coe r => rw [← EReal.coe_sub, Ideal.exp_coe]; exact_mod_cast Real.exp_pos _
    have htot : 0 < total s n S :=
      lt_of_lt_of_le hpos (le_add_of_nonneg_left (Finset.sum_nonneg fun t _ => exp_nonneg _))
    have hd : Ideal.div 1 (total s n S) = (total s n S)⁻¹ := by
      unfold Ideal.div
      rw [if_neg htot.ne', one_mul]
    have h0 : 0 ≤ (total s n S)⁻¹ := EReal.inv_nonneg_of_nonneg htot.le
    have ht : (total s n S)⁻¹ ≠ ⊤ := by
      generalize total s n S = Z at htot
      induction Z with
      | bot => simp
      | top => simp
      | coe z => rw [← EReal.coe_inv]; exact EReal.coe_ne_top _
    rw [hd]
    unfold mass
    rw [EReal.right_distrib_of_nonneg_of_ne_top h0 ht, sum_mul S _ h0 ht, add_comm]
    congr 1
    · exact Finset.sum_congr rfl fun t _ => mul_right_comm _ _ _
    · exact mul_right_comm _ _ _

end Cert.Softmax

end
-- ==== Proof.AttendReference.lean ====
/- The reference's attention output, element by element. -/
module

public import proofs.«01_k».proof.Proof.ReferenceValue
public import proofs.«01_k».proof.Proof.QuantReference
public import proofs.«01_k».proof.Proof.AttendValue
public import proofs.«01_k».proof.Proof.SoftmaxValue

@[expose] public section

set_option maxRecDepth 16384

noncomputable section

namespace Cert.ReferenceIdeal.Gen

open Idealize.ShloMosaic Idealize.ShloMosaic.TcCoe Idealize.SL.Sem

/-- A head of a group. -/
def hd (g : Fin 8) (r : Fin 4) : Fin 32 := ⟨4 * g.val + r.val, by omega⟩

theorem QR_at (X : FVec Ideal S3x1x4096 .bf16) (b : Fin 3) (g : Fin 8) (r : Fin 4) (e : Fin 128) :
    QR X (ix5 b 0 g r e) = Row.rot (fun d => X (ix3 b 0 ⟨128 * (hd g r).val + d.val, by omega⟩)) e := by
  pointwise [QR]
  unfold Row.rot
  refine Finset.sum_congr rfl fun x _ => ?_
  rw [HAD_at]
  have hi : (⟨g.val * 512 + r.val * 128 + x.val, by omega⟩ : Fin 4096) = ⟨128 * (hd g r).val + x.val, by have := (hd g r).isLt; omega⟩ :=
    Fin.ext (by show g.val * 512 + r.val * 128 + x.val = 128 * (4 * g.val + r.val) + x.val; omega)
  rw [hi]

theorem LOW_at (C : IVec S3x65536x8x64 8) (b : Fin 3) (t : Fin 65536) (g : Fin 8) (e : Fin 64) :
    LOW C (ix4 b t g e) = Row.entry (fun e => C (ix4 b t g e)) ⟨e.val, by omega⟩ := by
  unfold Row.entry
  rw [dif_pos (show e.val < 64 from e.isLt)]
  pointwise [LOW]
  rfl

theorem HIGH_at (C : IVec S3x65536x8x64 8) (b : Fin 3) (t : Fin 65536) (g : Fin 8) (e : Fin 64) :
    HIGH C (ix4 b t g e) = Row.entry (fun e => C (ix4 b t g e)) ⟨64 + e.val, by omega⟩ := by
  unfold Row.entry
  rw [dif_neg (show ¬ (64 + e.val < 64) by omega)]
  have h1 : HIGH C (ix4 b t g e) = FloatOps.sitofp (F := Ideal) .bf16 (Row.hi (C (ix4 b t g e))) := by
    pointwise [HIGH]
    unfold Row.hi
    rfl
  rw [h1]
  have he : (⟨64 + e.val - 64, by omega⟩ : Fin 64) = e := Fin.ext (by show 64 + e.val - 64 = e.val; omega)
  exact congrArg (fun z => FloatOps.sitofp (F := Ideal) .bf16 (Row.hi (C (ix4 b t g z)))) he.symm

theorem SCALES_at (S : FVec Ideal S3x65536x8 .f32) (b : Fin 3) (g : Fin 8) (r : Fin 4) (t : Fin 65536) :
    SCALES S (ix5 b 0 g r t) = S (ix3 b t g) := by
  pointwise [SCALES]

theorem VALID_at (L : IVec S3 32) (b : Fin 3) (t : Fin 65536) : VALID L (ix5 b 0 0 0 t) = 1#1 ↔ (t.val : Int) < (L (ix1 b)).toInt := by
  have ei : (BitVec.ofNat 32 t.val).toInt = (t.val : Int) := by
    rw [BitVec.toInt_eq_toNat_cond, BitVec.toNat_ofNat, Nat.mod_eq_of_lt (by omega), if_pos (by omega)]
  pointwise [VALID]
  rw [← ei, ← BitVec.slt_iff_toInt_lt]
  unfold IntOp.cmpi
  cases h : (BitVec.ofNat 32 t.val).slt (L (ix1 b)) <;> simp [h]

theorem DOTS_at (Q : FVec Ideal S3x1x8x4x128 .bf16) (C : IVec S3x65536x8x64 8) (b : Fin 3) (g : Fin 8) (r : Fin 4) (t : Fin 65536) :
    DOTS Q C (ix5 b 0 g r t) = ∑ d : Fin 128, Q (ix5 b 0 g r d) * Row.entry (fun e => C (ix4 b t g e)) d := by
  pointwise [DOTS, LOW_at, HIGH_at]
  rw [Row.sum_halves]
  exact congrArg₂ (· + ·) (Finset.sum_congr rfl fun x _ => mul_comm _ _) (Finset.sum_congr rfl fun x _ => mul_comm _ _)

theorem SCORE_at (Q : FVec Ideal S3x1x8x4x128 .bf16) (C : IVec S3x65536x8x64 8) (S : FVec Ideal S3x65536x8 .f32) (L : IVec S3 32) (b : Fin 3) (g : Fin 8) (r : Fin 4) (t : Fin 65536) :
    SCORE Q C S L (ix5 b 0 g r t) = if (t.val : Int) < (L (ix1 b)).toInt then
      ((∑ d : Fin 128, Q (ix5 b 0 g r d) * Row.entry (fun e => C (ix4 b t g e)) d) * S (ix3 b t g)) * Row.unit else ⊥ := by
  refine Eq.trans ?_ (if_congr (VALID_at L b t) rfl rfl)
  rw [← DOTS_at, ← SCALES_at S b g r t]
  pointwise [SCORE]
  rw [Row.ofBits_bot]
  rfl

theorem NEWS_at (Q : FVec Ideal S3x1x8x4x128 .bf16) (K : FVec Ideal S3x1x8x128 .bf16) (b : Fin 3) (g : Fin 8) (r : Fin 4) :
    NEWS Q K (ix4 b 0 g r) = ((∑ d : Fin 128, Q (ix5 b 0 g r d) * Row.code (fun d => K (ix4 b 0 g d)) d) * Row.scale (fun d => K (ix4 b 0 g d))) * Row.unit := by
  pointwise [NEWS, CODES_at, SCALE_at]
  rfl

/-- A maximum along the last axis. -/
theorem max_last {T : ℕ} (s : FVec Ideal ⟨5, ![3, 1, 8, 4, T]⟩ .f32) (h : (⟨5, ![3, 1, 8, 4, T]⟩ : Shape).ReducesTo [4] S3x1x8x4) (b : Fin 3) (g : Fin 8) (r : Fin 4) :
    Host.reduce FloatOps.maximumf s (constant S_ .f32 4286578688#32) h h_S_ (ix4 b 0 g r) = Finset.univ.sup fun t => s (ix5 b 0 g r t) := by
  pointwise
  rw [Row.ofBits_bot]
  rfl

theorem top_last {T : ℕ} (s : FVec Ideal ⟨5, ![3, 1, 8, 4, T]⟩ .f32) (n : FVec Ideal S3x1x8x4 .f32) (h : (⟨5, ![3, 1, 8, 4, T]⟩ : Shape).ReducesTo [4] S3x1x8x4) (b : Fin 3) (g : Fin 8) (r : Fin 4) :
    maximumf (Host.reduce FloatOps.maximumf s (constant S_ .f32 4286578688#32) h h_S_) n (ix4 b 0 g r)
      = Softmax.top (fun t => s (ix5 b 0 g r t)) (n (ix4 b 0 g r)) Finset.univ :=
  (congrArg (fun z => max z (n (ix4 b 0 g r))) (max_last s h b g r)).trans (max_comm _ _)

section mix
variable (s : FVec Ideal S3x1x8x4x65536 .f32) (n : FVec Ideal S3x1x8x4 .f32) (b : Fin 3) (g : Fin 8) (r : Fin 4)

/-- A head's scores. -/
def sOf : Fin 65536 → EReal := fun t => s (ix5 b 0 g r t)
/-- Its score of the new token. -/
def nOf : EReal := n (ix4 b 0 g r)

theorem TOP_at : TOP s n (ix4 b 0 g r) = Softmax.top (sOf s b g r) (nOf n b g r) Finset.univ := by
  unfold TOP sOf nOf
  exact top_last s n _ b g r

theorem EACH_at (v : FVec Ideal S3x1x8x4 .f32) (t : Fin 65536) : EACH v (ix5 b 0 g r t) = v (ix4 b 0 g r) := by
  pointwise [EACH]

theorem WEIGHT_at (t : Fin 65536) : WEIGHT s n (ix5 b 0 g r t) = Ideal.exp (sOf s b g r t - Softmax.top (sOf s b g r) (nOf n b g r) Finset.univ) := by
  rw [← TOP_at, ← EACH_at b g r (TOP s n) t]
  rfl

theorem NEWW_at : NEWW s n (ix4 b 0 g r) = Ideal.exp (nOf n b g r - Softmax.top (sOf s b g r) (nOf n b g r) Finset.univ) := by
  rw [← TOP_at]
  rfl

theorem INV_at : INV s n (ix4 b 0 g r) = Ideal.div 1 (Softmax.total (sOf s b g r) (nOf n b g r) Finset.univ) := by
  unfold Softmax.total
  rw [← NEWW_at]
  pointwise [INV, WEIGHT_at]

theorem PROB_at (S : FVec Ideal S3x65536x8 .f32) (t : Fin 65536) : PROB s n S (ix5 b 0 g r t)
    = Ideal.exp (sOf s b g r t - Softmax.top (sOf s b g r) (nOf n b g r) Finset.univ) * Ideal.div 1 (Softmax.total (sOf s b g r) (nOf n b g r) Finset.univ) * S (ix3 b t g) := by
  rw [← INV_at, ← WEIGHT_at, ← SCALES_at S b g r t, ← EACH_at b g r (INV s n) t]
  rfl

theorem NEWP_at (V : FVec Ideal S3x1x8x128 .bf16) : NEWP s n V (ix4 b 0 g r)
    = Ideal.exp (nOf n b g r - Softmax.top (sOf s b g r) (nOf n b g r) Finset.univ) * Ideal.div 1 (Softmax.total (sOf s b g r) (nOf n b g r) Finset.univ) * Row.scale (fun d => V (ix4 b 0 g d)) := by
  rw [← INV_at, ← NEWW_at]
  pointwise [NEWP, SCALE_at]

theorem SHARE_at (p : FVec Ideal S3x1x8x4 .bf16) (V : FVec Ideal S3x1x8x128 .bf16) (e : Fin 128) :
    SHARE p V (ix5 b 0 g r e) = p (ix4 b 0 g r) * Row.code (fun d => V (ix4 b 0 g d)) e := by
  pointwise [SHARE, CODES_at]

theorem PART_at (N : FVec Ideal S3x65536x8x64 .bf16) (p : FVec Ideal S3x1x8x4x65536 .bf16) (h : FVec Ideal S3x1x8x4x64 .f32) (e : Fin 64) :
    PART N p h (ix5 b 0 g r e) = (∑ t : Fin 65536, N (ix4 b t g e) * p (ix5 b 0 g r t)) + h (ix5 b 0 g r e) := by
  pointwise [PART]

theorem BACK_at (l h : FVec Ideal S3x1x8x4x64 .f32) (e : Fin 128) :
    BACK l h (ix3 b 0 ⟨128 * (hd g r).val + e.val, by omega⟩)
      = (∑ d : Fin 64, l (ix5 b 0 g r d) * (Row.sgn ⟨d.val, by omega⟩ e * Row.unit)) + ∑ d : Fin 64, h (ix5 b 0 g r d) * (Row.sgn ⟨64 + d.val, by omega⟩ e * Row.unit) := by
  have e1 : (⟨(128 * (hd g r).val + e.val) / 512, by have := (hd g r).isLt; omega⟩ : Fin 8) = g :=
    Fin.ext (by show (128 * (4 * g.val + r.val) + e.val) / 512 = g.val; omega)
  have e2 : (⟨(128 * (hd g r).val + e.val) / 128 % 4, by omega⟩ : Fin 4) = r :=
    Fin.ext (by show (128 * (4 * g.val + r.val) + e.val) / 128 % 4 = r.val; omega)
  pointwise [BACK, HAD_at]
  rw [e1, e2]

/-- The attention output: every head's weighted value rows, rotated back. -/
theorem MIX_at (V : FVec Ideal S3x1x8x128 .bf16) (C : IVec S3x65536x8x64 8) (S : FVec Ideal S3x65536x8 .f32) (e : Fin 128) :
    MIX s n V C S (ix3 b 0 ⟨128 * (hd g r).val + e.val, by omega⟩) = Row.rot (fun d =>
      (∑ t : Fin 65536, Row.entry (fun e => C (ix4 b t g e)) d * PROB s n S (ix5 b 0 g r t))
        + NEWP s n V (ix4 b 0 g r) * Row.code (fun d => V (ix4 b 0 g d)) d) e := by
  unfold MIX Row.rot
  rw [BACK_at, Row.sum_halves]
  refine congrArg₂ (· + ·) (Finset.sum_congr rfl fun d _ => ?_) (Finset.sum_congr rfl fun d _ => ?_)
  · have hs : extractStridedSlice S3x1x8x4x64 ![0, 0, 0, 0, 0] (SHARE (NEWP s n V) V) slices_S3x1x8x4x128_S3x1x8x4x64_0_0_0_0_0 (ix5 b 0 g r d)
        = SHARE (NEWP s n V) V (ix5 b 0 g r ⟨d.val, by omega⟩) := by
      pointwise
    rw [PART_at, hs, SHARE_at]
    simp only [LOW_at]
  · have hs : extractStridedSlice S3x1x8x4x64 ![0, 0, 0, 0, 64] (SHARE (NEWP s n V) V) slices_S3x1x8x4x128_S3x1x8x4x64_0_0_0_0_64 (ix5 b 0 g r d)
        = SHARE (NEWP s n V) V (ix5 b 0 g r ⟨64 + d.val, by omega⟩) := by
      pointwise
    rw [PART_at, hs, SHARE_at]
    simp only [HIGH_at]

/-- The same with the division at the end, for a new token whose score is finite. -/
theorem MIX_mass (hn : nOf n b g r ≠ ⊥) (hn' : nOf n b g r ≠ ⊤) (V : FVec Ideal S3x1x8x128 .bf16) (C : IVec S3x65536x8x64 8) (S : FVec Ideal S3x65536x8 .f32) (e : Fin 128) :
    MIX s n V C S (ix3 b 0 ⟨128 * (hd g r).val + e.val, by omega⟩) = (∑ d : Fin 128,
      (Softmax.mass (sOf s b g r) (nOf n b g r) Finset.univ (fun t => id (α := EReal) (S (ix3 b t g)) * Row.entry (fun e => C (ix4 b t g e)) d)
        (Row.scale (fun d => V (ix4 b 0 g d)) * Row.code (fun d => V (ix4 b 0 g d)) d)
        * Ideal.div 1 (Softmax.total (sOf s b g r) (nOf n b g r) Finset.univ)) * Row.sgn d e) * Row.unit := by
  rw [MIX_at, Row.rot_eq]
  refine congrArg (Row.rot · e) (funext fun d => ?_)
  rw [Softmax.mass_div _ _ hn hn', NEWP_at]
  refine congrArg₂ (· + ·) (Finset.sum_congr rfl fun t _ => ?_) (mul_assoc _ _ _)
  rw [PROB_at]
  exact (mul_comm _ _).trans (mul_assoc _ _ _)
end mix

end Cert.ReferenceIdeal.Gen

end
-- ==== Proof.FiniteRow.lean ====
/- Rows of finite entries: their rotation, their codes and the score of the new token. -/
module

public import proofs.«01_k».proof.Proof.RowValue
public import proofs.«01_k».proof.Proof.SoftmaxValue

@[expose] public section

noncomputable section

namespace Cert.Row

open Idealize.ShloMosaic

/-- A value that is a real number. -/
def IsReal (x : EReal) : Prop := ∃ r : ℝ, x = r

theorem IsReal.of {x : EReal} (h : x ≠ ⊥) (h' : x ≠ ⊤) : IsReal x := ⟨x.toReal, (EReal.coe_toReal h' h).symm⟩
theorem IsReal.ne_bot {x : EReal} (h : IsReal x) : x ≠ ⊥ := by obtain ⟨r, rfl⟩ := h; exact EReal.coe_ne_bot r
theorem IsReal.ne_top {x : EReal} (h : IsReal x) : x ≠ ⊤ := by obtain ⟨r, rfl⟩ := h; exact EReal.coe_ne_top r
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.sum {ι : Type} [Fintype ι] {f : ι → EReal} (h : ∀ i, IsReal (f i)) : IsReal (∑ i, f i) := by
  classical
  have hs : ∀ s : Finset ι, IsReal (∑ i ∈ s, f i) := by
    intro s
    induction s using Finset.induction_on with
    | empty => exact ⟨0, by simp⟩
    | insert a s ha ih =>
      rw [Finset.sum_insert ha]
      obtain ⟨x, hx⟩ := h a
      obtain ⟨y, hy⟩ := ih
      exact ⟨x + y, by rw [hx, hy, EReal.coe_add]⟩
  exact hs Finset.univ

theorem real_unit : IsReal unit := .of (fun h => by have := unit_nonneg; rw [h] at this; exact absurd this (by simp)) unit_ne_top

theorem real_minus : IsReal (Ideal.ofBits .f32 3212836864#32) := by
  refine .of ?_ ?_ <;>
  · simp only [Ideal.ofBits, Ideal.ieee]
    simp [-EReal.coe_mul]

theorem seven : ∃ r : ℝ, 0 < r ∧ Ideal.ofBits .f32 1088421888#32 = (r : EReal) := by
  refine ⟨7, by norm_num, ?_⟩
  simp only [Ideal.ofBits, Ideal.ieee]
  simp [-EReal.coe_mul]
  norm_num

theorem minus_seven : ∃ r : ℝ, r < 0 ∧ Ideal.ofBits .f32 3235905536#32 = (r : EReal) := by
  refine ⟨-7, by norm_num, ?_⟩
  simp only [Ideal.ofBits, Ideal.ieee]
  simp [-EReal.coe_mul]
  norm_num

theorem real_sgn (i j : Fin 128) : IsReal (sgn i j) := by
  unfold sgn Scalar.select
  split
  · exact ⟨1, by simp⟩
  · exact real_minus

theorem real_rot {v : Fin 128 → EReal} (h : ∀ d, IsReal (v d)) (e : Fin 128) : IsReal (rot v e) :=
  .sum fun x => (h x).mul ((real_sgn x e).mul real_unit)

variable (v : Fin 128 → EReal)

theorem real_code (e : Fin 128) : IsReal (code v e) := by
  obtain ⟨p, _, hp⟩ := seven
  obtain ⟨q, _, hq⟩ := minus_seven
  unfold code
  rw [hp, hq]
  refine .of (ne_of_gt ?_) (ne_of_lt ?_)
  · exact lt_min (EReal.bot_lt_coe p) (lt_max_of_lt_left (EReal.bot_lt_coe q))
  · exact lt_of_le_of_lt (min_le_left _ _) (EReal.coe_lt_top p)

theorem absf_nonneg (x : EReal) : 0 ≤ max x (-x) := by
  rcases le_total 0 x with h | h
  · exact h.trans (le_max_left _ _)
  · exact (EReal.neg_nonneg.mpr h).trans (le_max_right _ _)

theorem amax_nonneg : 0 ≤ amax v := by
  unfold amax
  exact (Finset.le_fold_max _).mpr (.inr ⟨0, Finset.mem_univ _, absf_nonneg (rot v 0)⟩)

theorem scale_nonneg : 0 ≤ scale v := by
  obtain ⟨p, h, hp⟩ := seven
  unfold scale
  split
  · exact zero_le_one
  · unfold Ideal.div
    rw [hp, if_neg (by exact_mod_cast h.ne')]
    exact mul_nonneg (amax_nonneg v) (EReal.inv_nonneg_of_nonneg (by exact_mod_cast h.le))

/-- A row of infinite scale has no code but zero. -/
theorem code_of_top (h : scale v = ⊤) (e : Fin 128) : code v e = 0 := by
  obtain ⟨p, h0, hp⟩ := seven
  obtain ⟨q, h1, hq⟩ := minus_seven
  unfold code
  have hz : Ideal.liftRound Ideal.roundHalfEven (Ideal.div (rot v e) (scale v)) = 0 := by
    rw [h]
    unfold Ideal.div
    rw [if_neg (by simp), EReal.inv_top, mul_zero]
    show ((Ideal.roundHalfEven 0 : ℝ) : EReal) = 0
    simp [Ideal.roundHalfEven]
  rw [hz, hp, hq, max_eq_right (by exact_mod_cast h1.le), min_eq_right (by exact_mod_cast h0.le)]

theorem real_code_scale (e : Fin 128) : IsReal (code v e * scale v) := by
  by_cases h : scale v = ⊤
  · rw [code_of_top v h, zero_mul]
    exact ⟨0, by simp⟩
  · exact (real_code v e).mul (.of (fun h' => by have := scale_nonneg v; rw [h'] at this; exact absurd this (by simp)) h)

/-- The scale goes through the sum of the new token's score. -/
theorem sum_code (q : Fin 128 → EReal) : ∑ d, q d * (code v d * scale v) = (∑ d, q d * code v d) * scale v := by
  by_cases h : scale v = ⊤
  · simp only [code_of_top v h, zero_mul, mul_zero, Finset.sum_const_zero]
  · rw [Softmax.sum_mul _ _ (scale_nonneg v) h]
    exact Finset.sum_congr rfl fun d _ => (mul_assoc _ _ _).symm

end Cert.Row

end
-- ==== Proof.PrepValue.lean ====
/- What the first grid point prepares for a step of tokens, read at an index: the rotated query rows in the nibble
   order, the new token's score, and the new token's row in the nibble order. -/
module

public import proofs.«01_k».proof.Proof.QuantKernel
public import proofs.«01_k».proof.Proof.AttendValue
public import Idealize.ShloMosaic.Lib.Pipeline.ValueKit
public import Idealize.ShloMosaic.Lib.IdealHost

@[expose] public section

set_option maxRecDepth 16384

noncomputable section

namespace Cert.KernelIdeal.Gen

open Idealize.ShloMosaic Idealize.ShloMosaic.TcCoe Idealize.SL.Sem

/-- One row, repeated for the four query heads of its group. -/
def four (v : FVec Ideal S1x1x128 .f32) : FVec Ideal S4x128 .f32 :=
  broadcastTo S4x128 (shapeCast S1x128 (shapeCast S1x128 v shapeCasts_S1x1x128_S1x128) shapeCasts_S1x128_S1x128) broadcasts_S1x128_S4x128

/-- Eight rows, each repeated for the four query heads of its group. -/
def heads (v0 v1 v2 v3 v4 v5 v6 v7 : FVec Ideal S1x1x128 .f32) : FVec Ideal S32x128 .f32 :=
  concatenate S32x128 0 [⟨S4x128, four v0⟩, ⟨S4x128, four v1⟩, ⟨S4x128, four v2⟩, ⟨S4x128, four v3⟩, ⟨S4x128, four v4⟩, ⟨S4x128, four v5⟩, ⟨S4x128, four v6⟩, ⟨S4x128, four v7⟩] concatenates_S4x128_S4x128_S4x128_S4x128_S4x128_S4x128_S4x128_S4x128_S32x128_d0

theorem four_at (v : FVec Ideal S1x1x128 .f32) (r : Fin 4) (d : Fin 128) : four v (ix2 r d) = v (ix3 0 0 d) := by
  pointwise [four]

theorem heads_at (v0 v1 v2 v3 v4 v5 v6 v7 : FVec Ideal S1x1x128 .f32) (f : Fin 8 → Fin 128 → EReal)
    (h0 : ∀ d, v0 (ix3 0 0 d) = f 0 d) (h1 : ∀ d, v1 (ix3 0 0 d) = f 1 d) (h2 : ∀ d, v2 (ix3 0 0 d) = f 2 d) (h3 : ∀ d, v3 (ix3 0 0 d) = f 3 d)
    (h4 : ∀ d, v4 (ix3 0 0 d) = f 4 d) (h5 : ∀ d, v5 (ix3 0 0 d) = f 5 d) (h6 : ∀ d, v6 (ix3 0 0 d) = f 6 d) (h7 : ∀ d, v7 (ix3 0 0 d) = f 7 d)
    (i : Fin 32) (d : Fin 128) : heads v0 v1 v2 v3 v4 v5 v6 v7 (ix2 i d) = f ⟨i.val / 4, by omega⟩ d := by
  obtain ⟨g, r, rfl⟩ : ∃ (g : Fin 8) (r : Fin 4), i = ⟨4 * g.val + r.val, by omega⟩ := ⟨⟨i.val / 4, by omega⟩, ⟨i.val % 4, by omega⟩, Fin.ext (by show i.val = 4 * (i.val / 4) + i.val % 4; omega)⟩
  have e : (⟨(4 * g.val + r.val) / 4, by omega⟩ : Fin 8) = g := Fin.ext (by show (4 * g.val + r.val) / 4 = g.val; omega)
  refine Eq.trans ?_ (congrArg (fun k => f k d) e).symm
  match g with
  | 0 => exact Eq.trans (by pointwise [heads, four]) (h0 d)
  | 1 => exact Eq.trans (by pointwise [heads, four]) (h1 d)
  | 2 => exact Eq.trans (by pointwise [heads, four]; rw [dif_neg (by omega), dif_neg (by omega), dif_pos (by omega)]) (h2 d)
  | 3 => exact Eq.trans (by pointwise [heads, four]; rw [dif_neg (by omega), dif_neg (by omega), dif_neg (by omega), dif_pos (by omega)]) (h3 d)
  | 4 => exact Eq.trans (by pointwise [heads, four]; rw [dif_neg (by omega), dif_neg (by omega), dif_neg (by omega), dif_neg (by omega), dif_pos (by omega)]) (h4 d)
  | 5 => exact Eq.trans (by pointwise [heads, four]; rw [dif_neg (by omega), dif_neg (by omega), dif_neg (by omega), dif_neg (by omega), dif_neg (by omega), dif_pos (by omega)]) (h5 d)
  | 6 => exact Eq.trans (by pointwise [heads, four]; rw [dif_neg (by omega), dif_neg (by omega), dif_neg (by omega), dif_neg (by omega), dif_neg (by omega), dif_neg (by omega), dif_pos (by omega)]) (h6 d)
  | 7 => exact Eq.trans (by pointwise [heads, four]; rw [dif_neg (by omega), dif_neg (by omega), dif_neg (by omega), dif_neg (by omega), dif_neg (by omega), dif_neg (by omega), dif_neg (by omega)]) (h7 d)

theorem dimw : ∀ j : Fin 128, IntOp.addi (IntOp.shrsi ArithUnit.vector (BitVec.ofNat 32 j.val) 1#32)
    (IntOp.muli (IntOp.andi (BitVec.ofNat 32 j.val) 1#32) 64#32) = BitVec.ofNat 32 (Row.dim j).val := by decide +kernel

theorem groupw : ∀ i : Fin 32, IntOp.andi (IntOp.shrsi ArithUnit.vector (BitVec.ofNat 32 i.val) 2#32) 1#32 = BitVec.ofNat 32 (i.val / 4 % 2) := by decide +kernel

theorem halfw : ∀ i : Fin 256, IntOp.shrsi ArithUnit.vector (BitVec.ofNat 32 i.val) 7#32 = BitVec.ofNat 32 (i.val / 128) := by decide +kernel

theorem ofNat_inj {a b : ℕ} (ha : a < 128) (hb : b < 128) : BitVec.ofNat 32 a = BitVec.ofNat 32 b ↔ a = b := by
  constructor
  · intro h
    have h := congrArg BitVec.toNat h
    rw [BitVec.toNat_ofNat, BitVec.toNat_ofNat] at h
    omega
  · rintro rfl
    rfl

theorem cmp_eq (a b : BitVec 32) : IntOp.cmpi CmpIPredicate.eq a b = 1#1 ↔ a = b := by
  show BitVec.ofBool (a == b) = 1#1 ↔ a = b
  by_cases h : a = b
  · subst h
    simp
  · have h' : (a == b) = false := by simpa using h
    rw [h']
    simp [h]

/-- The sign matrix with its columns in the nibble order. -/
theorem sgnp_at (x j : Fin 128) :
    k0_pay12 (F := Ideal) k0_pay11 (Scalar.ofBits .f32 0x3F800000#32) (Scalar.ofBits .f32 0xBF800000#32) (ix2 x j) = Row.sgn x (Row.dim j) := by
  pointwise [k0_pay12, k0_pay11]
  unfold Row.sgn
  rw [show IntOp.addi (IntOp.shrsi ArithUnit.vector (BitVec.ofNat 32 j.val) 1#32) (IntOp.muli (IntOp.andi (BitVec.ofNat 32 j.val) 1#32) 64#32) = _ from dimw j, ← Row.even_fold]
  rfl

/-- The matrix that puts a row in the nibble order. -/
theorem perm_at (x j : Fin 128) : k0_pay51 (F := Ideal) (ix2 x j) = if x = Row.dim j then 1 else 0 := by
  pointwise [k0_pay51]
  rw [show IntOp.addi (IntOp.shrsi ArithUnit.vector (BitVec.ofNat 32 j.val) 1#32) (IntOp.muli (IntOp.andi (BitVec.ofNat 32 j.val) 1#32) 64#32) = _ from dimw j]
  by_cases h : x = Row.dim j
  · rw [if_pos h, h, (cmp_eq _ _).mpr rfl]
    show (((BitVec.setWidth 32 1#1).toInt : ℝ) : EReal) = 1
    simp
  · rw [if_neg h]
    have h' : ¬ IntOp.cmpi CmpIPredicate.eq (BitVec.ofNat 32 x.val) (BitVec.ofNat 32 (Row.dim j).val) = 1#1 := fun e => h (Fin.ext ((ofNat_inj x.isLt (Row.dim j).isLt).mp ((cmp_eq _ _).mp e)))
    have h0 := BitVec.eq_zero_or_eq_one (IntOp.cmpi CmpIPredicate.eq (BitVec.ofNat 32 x.val) (BitVec.ofNat 32 (Row.dim j).val))
    rw [h0.resolve_right h']
    show (((BitVec.setWidth 32 0#1).toInt : ℝ) : EReal) = 0
    simp

/-- A mask of the half a head's key-value head lives in. -/
theorem own_at (i : Fin 32) (k : Fin 2) (j : Fin 128) :
    k0_pay1 (ix2 i ⟨128 * k.val + j.val, by omega⟩) = 1#1 ↔ i.val / 4 % 2 = k.val := by
  pointwise [k0_pay1]
  rw [cmp_eq, groupw i, halfw ⟨128 * k.val + j.val, by omega⟩, ofNat_inj (by omega) (by show (128 * k.val + j.val) / 128 < 128; omega)]
  show i.val / 4 % 2 = (128 * k.val + j.val) / 128 ↔ _
  omega

theorem prepQ_val (X : FVec Ideal S32x1x128 .f32) (i : Fin 32) (k : Fin 2) (j : Fin 128) :
    k0_pay126 (F := Ideal) k0_pay1 (k0_pay12 k0_pay11 (Scalar.ofBits .f32 0x3F800000#32) (Scalar.ofBits .f32 0xBF800000#32)) X
      (ix3 0 i ⟨128 * k.val + j.val, by omega⟩) = if i.val / 4 % 2 = k.val then Row.rot (fun d => X (ix3 i 0 d)) (Row.dim j) else 0 := by
  pointwise [k0_pay126, k0_pay125, sgnp_at]
  have e : (if h : 128 * k.val + j.val < 128 then
        (∑ x, X (ix3 i 0 x) * k0_pay12 (F := Ideal) k0_pay11 1 (Ideal.ofBits FTy.f32 3212836864#32) (ix2 x ⟨128 * k.val + j.val, h⟩)) *
          Ideal.ofBits FTy.f32 1035273459#32
      else
        (∑ x, X (ix3 i 0 x) * k0_pay12 (F := Ideal) k0_pay11 1 (Ideal.ofBits FTy.f32 3212836864#32) (ix2 x ⟨128 * k.val + j.val - 128, by omega⟩)) *
          Ideal.ofBits FTy.f32 1035273459#32) = Row.rot (fun d => X (ix3 i 0 d)) (Row.dim j) := by
    rw [← Row.rot_eq]
    have es : ∀ x : Fin 128, k0_pay12 (F := Ideal) k0_pay11 1 (Ideal.ofBits FTy.f32 3212836864#32) (ix2 x j) = Row.sgn x (Row.dim j) := fun x =>
      (congrArg (fun z => k0_pay12 (F := Ideal) k0_pay11 z (Ideal.ofBits FTy.f32 3212836864#32) (ix2 x j)) Ideal.ofBits_one_f32.symm).trans (sgnp_at x j)
    split
    · rename_i h
      have ej : (⟨128 * k.val + j.val, h⟩ : Fin 128) = j := Fin.ext (by show 128 * k.val + j.val = j.val; omega)
      rw [ej]
      exact congrArg (· * _) (Finset.sum_congr rfl fun x _ => congrArg _ (es x))
    · rename_i h
      have ej : (⟨128 * k.val + j.val - 128, by omega⟩ : Fin 128) = j := Fin.ext (by show 128 * k.val + j.val - 128 = j.val; omega)
      rw [ej]
      exact congrArg (· * _) (Finset.sum_congr rfl fun x _ => congrArg _ (es x))
  rw [e]
  unfold Scalar.select
  by_cases h : i.val / 4 % 2 = k.val
  · rw [if_pos h, (own_at i k j).mpr h]
    rfl
  · rw [if_neg h]
    exact if_neg fun e => h ((own_at i k j).mp e)

theorem prepRot_val (X : FVec Ideal S32x1x128 .f32) (i : Fin 32) (d : Fin 128) :
    k0_pay127 (F := Ideal) k0_pay10 X (ix2 i d) = Row.rot (fun d => X (ix3 i 0 d)) d := by
  pointwise [k0_pay127, k0_pay125, sgn_at]
  exact Row.rot_eq _ d

/-- The score of the new token. -/
def scoreN (R G : FVec Ideal S32x128 .f32) : FVec Ideal S1x32x128 .f32 :=
  shapeCast S1x32x128 (broadcastTo S32x128 (shapeCast S32x1 (mulf (shapeCast S32x1 (multiReduction .add [1] S32 (mulf R G) 0x00000000#32 reduces_S32x128_S32 (.inl rfl) rfl) shapeCasts_S32_S32x1) (broadcast S32x1 (Scalar.ofBits .f32 0x3DB504F3#32))) shapeCasts_S32x1_S32x1) broadcasts_S32x1_S32x128) shapeCasts_S32x128_S1x32x128

theorem scoreN_at (R G : FVec Ideal S32x128 .f32) (i : Fin 32) (l : Fin 128) :
    scoreN R G (ix3 0 i l) = (∑ d, R (ix2 i d) * G (ix2 i d)) * Row.unit := by
  pointwise [scoreN]
  rfl

theorem valueN_at (P G : FVec Ideal S32x128 .f32) (i : Fin 32) (j : Fin 128) :
    k0_pay2 (F := Ideal) k0_pay51 P G (ix3 0 i j) = P (ix2 i j) * G (ix2 i (Row.dim j)) := by
  pointwise [k0_pay2, perm_at]
  simp

end Cert.KernelIdeal.Gen

end
-- ==== Proof.UnpackKernel.lean ====
/- The rows of cached nibbles the kernel unpacks, read at an index. -/
module

public import proofs.«01_k».proof.Proof.Gen.KernelIdeal.Skeleton
public import proofs.«01_k».proof.Proof.AttendValue
public import Idealize.ShloMosaic.Lib.BitcastFour

@[expose] public section

set_option maxRecDepth 16384

noncomputable section

namespace Cert.KernelIdeal.Gen

open Idealize.ShloMosaic Idealize.ShloMosaic.TcCoe Idealize.SL.Sem

/-- Four bytes of a column read as a word, the word's sign flips, and the four bytes back: each byte's sign flips. -/
theorem flip_at (x : IVec S128x2048 8) (p : Fin 128) (l : Fin 2048) :
    bitcast S128x2048 8 (xori (bitcast S32x2048 32 x bitcasts_S128x2048_w8_S32x2048_w32) (broadcast S32x2048 2290649224#32))
      bitcasts_S32x2048_w32_S128x2048_w8 (ix2 p l) = x (ix2 p l) ^^^ 0x88#8 := by
  apply BitVec.eq_of_getLsbD_eq
  intro q hq
  have hq : q < 8 := hq
  rw [bitcast_getLsbD _ _ _ q hq (by decide)]
  have hr : S128x2048.row (ix2 p l) = p.val := rfl
  have e : ∀ hp, (bitcasts_S32x2048_w32_S128x2048_w8).srcIdx (ix2 p l) ((S128x2048.row (ix2 p l) * 8 + q) / 32) hp
      = ix2 (⟨p.val / 4, by omega⟩ : Fin 32) l := fun hp => by
    funext c
    match c with
    | ⟨0, _⟩ => exact Fin.ext ((Shape.Bitcasts.srcIdx_row _ _ _ _ ⟨0, Nat.zero_lt_two⟩ rfl).trans (by rw [hr]; show _ = p.val / 4; omega))
    | ⟨1, _⟩ => exact Fin.ext (Shape.Bitcasts.srcIdx_other _ _ _ _ ⟨1, Nat.one_lt_two⟩ (by show ¬ 1 + 2 = 2; omega))
  rw [e, hr]
  have hb : (p.val * 8 + q) % 32 < 32 := Nat.mod_lt _ (by decide)
  show (IntOp.xori (bitcast S32x2048 32 x bitcasts_S128x2048_w8_S32x2048_w32 (ix2 (⟨p.val / 4, by omega⟩ : Fin 32) l)) 2290649224#32).getLsbD _ = _
  unfold IntOp.xori
  have em : (p.val * 8 + q) % 32 % 8 = q := by omega
  have h8 := bitcast_8_32_getLsbD_ix2 x bitcasts_S128x2048_w8_S32x2048_w32 ⟨p.val / 4, by omega⟩ l _ hb p (by show p.val = 4 * (p.val / 4) + _; omega)
  rw [em] at h8
  rw [BitVec.getLsbD_xor, BitVec.getLsbD_xor]
  refine congrArg₂ Bool.xor h8 ?_
  have : ∀ (k : Fin 4) (q : Fin 8), (2290649224#32).getLsbD (k.val * 8 + q.val) = (0x88#8).getLsbD q.val := by decide
  have h := this ⟨p.val % 4, by omega⟩ ⟨q, hq⟩
  rw [← h]
  congr 1
  show (p.val * 8 + q) % 32 = p.val % 4 * 8 + q
  omega

/-- Two heads' cached rows as rows of nibbles, a row of the sign extended nibbles to a dimension in the nibble order. -/
def unp (v37 : IVec S1x2x64x2048 8) : IVec S256x2048 32 :=
  shrsi (shapeCast S256x2048 (concatenate S128x2x2048 1
      [⟨S128x1x2048, shapeCast S128x1x2048 (shli (extsi 32 (bitcast S128x2048 8 (xori (bitcast S32x2048 32 (shapeCast S128x2048 (shapeCast S2x64x2048 v37 shapeCasts_S1x2x64x2048_S2x64x2048) shapeCasts_S2x64x2048_S128x2048) bitcasts_S128x2048_w8_S32x2048_w32) (broadcast S32x2048 2290649224#32)) bitcasts_S32x2048_w32_S128x2048_w8) natLt_8_32) (broadcast S128x2048 28#32)) shapeCasts_S128x2048_S128x1x2048⟩,
       ⟨S128x1x2048, shapeCast S128x1x2048 (shli (extsi 32 (bitcast S128x2048 8 (xori (bitcast S32x2048 32 (shapeCast S128x2048 (shapeCast S2x64x2048 v37 shapeCasts_S1x2x64x2048_S2x64x2048) shapeCasts_S2x64x2048_S128x2048) bitcasts_S128x2048_w8_S32x2048_w32) (broadcast S32x2048 2290649224#32)) bitcasts_S32x2048_w32_S128x2048_w8) natLt_8_32) (broadcast S128x2048 24#32)) shapeCasts_S128x2048_S128x1x2048⟩]
      concatenates_S128x1x2048_S128x1x2048_S128x2x2048_d1) shapeCasts_S128x2x2048_S256x2048) (broadcast S256x2048 28#32)

theorem unp_at (x : IVec S1x2x64x2048 8) (a : Fin 2) (e : Fin 64) (k : Fin 2) (t : Fin 2048) :
    unp x (ix2 ⟨128 * a.val + 2 * e.val + k.val, by omega⟩ t) = if k.val = 0 then Row.lo (x (ix4 0 a e t)) else Row.hi (x (ix4 0 a e t)) := by
  pointwise [unp, flip_at]
  unfold Row.lo Row.hi
  rcases Nat.lt_or_ge k.val 1 with h | h
  · rw [dif_pos h, if_pos (by omega)]
    exact Row.lo_eq _
  · rw [dif_neg (by omega), if_neg (by omega)]
    exact Row.hi_eq _

/-- A row of unpacked nibbles is an entry of the cached row. -/
theorem unp_entry (x : IVec S1x2x64x2048 8) (a : Fin 2) (j : Fin 128) (t : Fin 2048) :
    FloatOps.sitofp (F := Ideal) .bf16 (unp x (ix2 ⟨128 * a.val + j.val, by omega⟩ t)) = Row.entry (fun e => x (ix4 0 a e t)) (Row.dim j) := by
  have h := unp_at x a ⟨j.val / 2, by omega⟩ ⟨j.val % 2, by omega⟩ t
  have e : (⟨128 * a.val + 2 * (j.val / 2) + j.val % 2, by omega⟩ : Fin 256) = ⟨128 * a.val + j.val, by omega⟩ := Fin.ext (by show 128 * a.val + 2 * (j.val / 2) + j.val % 2 = 128 * a.val + j.val; omega)
  rw [show (ix2 ⟨128 * a.val + j.val, by omega⟩ t : S256x2048.Idx) = ix2 ⟨128 * a.val + 2 * (j.val / 2) + j.val % 2, by omega⟩ t from by rw [e], h]
  unfold Row.entry Row.dim
  rcases Nat.lt_or_ge (j.val % 2) 1 with h | h
  · have h0 : j.val % 2 = 0 := by omega
    rw [if_pos h0, dif_pos (by show j.val / 2 + 64 * (j.val % 2) < 64; omega)]
    congr 4
    exact Fin.ext (by show j.val / 2 = j.val / 2 + 64 * (j.val % 2); omega)
  · have h0 : j.val % 2 = 1 := by omega
    rw [if_neg (by show ¬ j.val % 2 = 0; omega), dif_neg (by show ¬ j.val / 2 + 64 * (j.val % 2) < 64; omega)]
    congr 4
    exact Fin.ext (by show j.val / 2 = j.val / 2 + 64 * (j.val % 2) - 64; omega)

end Cert.KernelIdeal.Gen

end
-- ==== Proof.StepValue.lean ====
/- One chunk's pair of heads: what the kernel makes of the scores, the running maximum, the lane sums and the accumulator. -/
module

public import proofs.«01_k».proof.Proof.UnpackKernel

@[expose] public section

set_option maxRecDepth 16384

noncomputable section

namespace Cert.KernelIdeal.Gen

open Idealize.ShloMosaic Idealize.ShloMosaic.TcCoe Idealize.SL.Sem

variable (M : IVec S8x2048 1) (K : IVec S1x2x64x2048 8) (q : FVec Ideal S1x8x256 .f32) (ks : FVec Ideal S1x2x2048 .f32)
  (mo : FVec Ideal S8x1 .f32) (l : FVec Ideal S8x128 .f32) (vs : FVec Ideal S1x2x2048 .f32) (Vc : IVec S1x2x64x2048 8)
  (ac : FVec Ideal S8x256 .f32)

theorem sum_sixteen (f : Fin 16 → EReal) :
    ∑ u, f u = f 0 + f 1 + f 2 + f 3 + f 4 + f 5 + f 6 + f 7 + f 8 + f 9 + f 10 + f 11 + f 12 + f 13 + f 14 + f 15 := by
  simp only [Fin.sum_univ_castSucc, Finset.univ_eq_empty, Finset.sum_empty, zero_add]
  rfl

theorem dot_at (i : Fin 8) (t : Fin 2048) : k0_pay142 (F := Ideal) K q (ix2 i t)
    = ∑ x : Fin 256, q (ix3 0 i x) * FloatOps.sitofp (F := Ideal) .bf16 (unp K (ix2 x t)) := by
  show matmul dot_S8x256_S256x2048_S8x2048_1_0_0_1_n_n none (truncf .bf16 (shapeCast S8x256 q shapeCasts_S1x8x256_S8x256) bitsLt_bf16_f32)
    (sitofp (F := Ideal) .bf16 (unp K)) (constant S8x2048 .f32 0x00000000#32) (ix2 i t) = _
  generalize unp K = U
  pointwise

/-- The scores. -/
def pairS : FVec Ideal S8x2048 .f32 := k0_pay145 M (k0_pay142 K q) (k0_pay143 ks)

theorem pairS_at (a : Fin 2) (r : Fin 4) (t : Fin 2048) : pairS M K q ks (ix2 ⟨4 * a.val + r.val, by omega⟩ t)
    = if M (ix2 ⟨4 * a.val + r.val, by omega⟩ t) = 1#1 then
        (∑ x : Fin 256, q (ix3 0 ⟨4 * a.val + r.val, by omega⟩ x) * FloatOps.sitofp (F := Ideal) .bf16 (unp K (ix2 x t))) * ks (ix3 0 a t) * Ideal.ofBits .f32 1035273459#32
      else ⊥ := by
  unfold pairS
  pointwise [k0_pay145, k0_pay143, dot_at]
  rw [Row.ofBits_bot]
  rfl

/-- The new maximum. -/
def pairM : FVec Ideal S8x1 .f32 := k0_pay146 M (k0_pay142 K q) (k0_pay143 ks) mo

theorem pairM_at (i : Fin 8) : pairM M K q ks mo (ix2 i 0) = max (mo (ix2 i 0)) (Finset.univ.sup fun t => pairS M K q ks (ix2 i t)) := by
  show maximumf mo (shapeCast S8x1 (multiReduction .maximumf [1] S8 (pairS M K q ks) 0xFF800000#32 reduces_S8x2048_S8 (.inl rfl) rfl) shapeCasts_S8_S8x1) (ix2 i 0) = _
  generalize pairS M K q ks = S
  pointwise
  rw [Row.ofBits_bot]
  rfl

/-- The weights. -/
def pairE : FVec Ideal S8x2048 .f32 := k0_pay148 M (k0_pay142 K q) (k0_pay143 ks) mo

theorem pairE_at (i : Fin 8) (t : Fin 2048) : pairE M K q ks mo (ix2 i t) = Ideal.exp (pairS M K q ks (ix2 i t) - pairM M K q ks mo (ix2 i 0)) := by
  show exp (subf (pairS M K q ks) (broadcastTo S8x2048 (pairM M K q ks mo) broadcasts_S8x1_S8x2048)) (ix2 i t) = _
  generalize pairS M K q ks = S
  generalize pairM M K q ks mo = N
  pointwise

/-- The factor the old sums are scaled by. -/
def pairF : FVec Ideal S8x1 .f32 := k0_pay147 M (k0_pay142 K q) (k0_pay143 ks) mo

theorem pairF_at (i : Fin 8) : pairF M K q ks mo (ix2 i 0) = Ideal.exp (mo (ix2 i 0) - pairM M K q ks mo (ix2 i 0)) := by
  show exp (subf mo (pairM M K q ks mo)) (ix2 i 0) = _
  generalize pairM M K q ks mo = N
  pointwise

/-- The lane sums. -/
def pairL : FVec Ideal S8x128 .f32 := k0_pay149 M (k0_pay142 K q) (k0_pay143 ks) mo l

theorem pairL_at (i : Fin 8) (j : Fin 128) : pairL M K q ks mo l (ix2 i j)
    = l (ix2 i j) * pairF M K q ks mo (ix2 i 0) + ∑ u : Fin 16, pairE M K q ks mo (ix2 i ⟨128 * u.val + j.val, by omega⟩) := by
  unfold pairL k0_pay149
  change (addf (mulf l (broadcastTo S8x128 (pairF M K q ks mo) broadcasts_S8x1_S8x128)) _) (ix2 i j) = _
  rw [show k0_pay148 M (k0_pay142 K q) (k0_pay143 ks) mo = pairE M K q ks mo from rfl]
  generalize pairF M K q ks mo = N
  generalize pairE M K q ks mo = E
  pointwise
  have e0 : E (ix2 i ⟨128 * (0 : Fin 16).val + j.val, by omega⟩) = E (ix2 i ⟨j.val, by omega⟩) := by
    congr 2
    exact Fin.ext (Nat.zero_add _)
  rw [sum_sixteen, e0]
  rfl

/-- The accumulator. -/
def pairA : FVec Ideal S8x256 .f32 :=
  k0_pay152 (k0_pay144 vs) (k0_pay147 M (k0_pay142 K q) (k0_pay143 ks) mo) (k0_pay148 M (k0_pay142 K q) (k0_pay143 ks) mo) Vc ac

theorem pairA_at (a : Fin 2) (r : Fin 4) (x : Fin 256) : pairA M K q ks mo vs Vc ac (ix2 ⟨4 * a.val + r.val, by omega⟩ x)
    = ac (ix2 ⟨4 * a.val + r.val, by omega⟩ x) * pairF M K q ks mo (ix2 ⟨4 * a.val + r.val, by omega⟩ 0)
      + ∑ t : Fin 2048, pairE M K q ks mo (ix2 ⟨4 * a.val + r.val, by omega⟩ t) * vs (ix3 0 a t) * FloatOps.sitofp (F := Ideal) .bf16 (unp Vc (ix2 x t)) := by
  show shapeCast S8x256 (addf (mulf ac (broadcastTo S8x256 (pairF M K q ks mo) broadcasts_S8x1_S8x256))
    (matmul dot_S8x2048_S256x2048_S8x256_1_1_0_0_n_n none (truncf .bf16 (mulf (pairE M K q ks mo) (k0_pay144 vs)) bitsLt_bf16_f32)
      (sitofp (F := Ideal) .bf16 (unp Vc)) (constant S8x256 .f32 0x00000000#32))) shapeCasts_S8x256_S8x256 (ix2 ⟨4 * a.val + r.val, by omega⟩ x) = _
  generalize pairF M K q ks mo = N
  generalize pairE M K q ks mo = E
  generalize unp Vc = U
  pointwise [k0_pay144]

end Cert.KernelIdeal.Gen

end
-- ==== Proof.StepReadIdeal.lean ====
/- What a chunk's stage leaves in the maximum, the lane sums and the accumulator, pair of heads by pair of heads. -/
module

public import proofs.«01_k».proof.Proof.InvIdeal
public import proofs.«01_k».proof.Proof.StepValue
public import Idealize.ShloMosaic.Lib.Pipeline.ValueKit
public import Idealize.ShloMosaic.Lib.WholeRead

@[expose] public section

set_option maxRecDepth 16384

noncomputable section

namespace Cert.KernelIdeal.Gen

open Idealize.ShloMosaic Idealize.ShloMosaic.TcCoe Idealize.SL.Sem
open Idealize.ShloMosaic.Tactic

/-- The parts of the buffers that pair `p` of heads reads. -/
def blk4 {α : Type} (p : Fin 4) (X : S1x8x64x2048.Idx → α) : S1x2x64x2048.Idx → α :=
  fun y => X (ix4 0 ⟨2 * p.val + (y 1).val, by have h : (y 1).val < 2 := (y 1).isLt; omega⟩ (y 2) (y 3))
def blk3 {α : Type} (p : Fin 4) (X : S1x8x2048.Idx → α) : S1x2x2048.Idx → α :=
  fun y => X (ix3 0 ⟨2 * p.val + (y 1).val, by have h : (y 1).val < 2 := (y 1).isLt; omega⟩ (y 2))
def blkq {α : Type} (b : Fin 3) (p : Fin 4) (X : S3x32x256.Idx → α) : S1x8x256.Idx → α :=
  fun y => X (ix3 b ⟨8 * p.val + (y 1).val, by have h : (y 1).val < 8 := (y 1).isLt; omega⟩ (y 2))
def blkm {α : Type} (p : Fin 4) (X : S32x128.Idx → α) : S8x1.Idx → α :=
  fun y => X (ix2 ⟨8 * p.val + (y 0).val, by have h : (y 0).val < 8 := (y 0).isLt; omega⟩ 0)
def blkl {α : Type} (p : Fin 4) (X : S32x128.Idx → α) : S8x128.Idx → α :=
  fun y => X (ix2 ⟨8 * p.val + (y 0).val, by have h : (y 0).val < 8 := (y 0).isLt; omega⟩ (y 1))
def blka {α : Type} (p : Fin 4) (X : S32x256.Idx → α) : S8x256.Idx → α :=
  fun y => X (ix2 ⟨8 * p.val + (y 0).val, by have h : (y 0).val < 8 := (y 0).isLt; omega⟩ (y 1))

theorem rd4 {M : Memref sig .tc .vmem S1x8x64x2048 .i8} (hM : M.IsWhole) (X : Vec Ideal S1x8x64x2048 .i8) {off : Fin 4 → ℕ} (inb) (p : Fin 4)
    (h : off = ![0, 2 * p.val, 0, 0]) :
    M.view.readAt (Elt Ideal) (Rect.unit (s := S1x8x64x2048) off S1x2x64x2048.size inb).toLoadRect (hM.unread X) = blk4 p X := by
  subst h
  funext y
  refine (hM.readAt_unread X _ y).trans ?_
  unfold blk4
  congr 1
  funext a
  apply Fin.ext
  match a with
  | ⟨0, _⟩ => exact (Rect.idx_unit_val _ _ _ y _).trans (by have h : (y 0).val < 1 := (y 0).isLt; show 0 + (y 0).val = 0; omega)
  | ⟨1, _⟩ => exact Rect.idx_unit_val _ _ _ y _
  | ⟨2, _⟩ => exact (Rect.idx_unit_val _ _ _ y _).trans (Nat.zero_add _)
  | ⟨3, _⟩ => exact (Rect.idx_unit_val _ _ _ y _).trans (Nat.zero_add _)

theorem rd3 {M : Memref sig .tc .vmem S1x8x2048 .f32} (hM : M.IsWhole) (X : Vec Ideal S1x8x2048 .f32) {off : Fin 3 → ℕ} (inb) (p : Fin 4)
    (h : off = ![0, 2 * p.val, 0]) :
    M.view.readAt (Elt Ideal) (Rect.unit (s := S1x8x2048) off S1x2x2048.size inb).toLoadRect (hM.unread X) = blk3 p X := by
  subst h
  funext y
  refine (hM.readAt_unread X _ y).trans ?_
  unfold blk3
  congr 1
  funext a
  apply Fin.ext
  match a with
  | ⟨0, _⟩ => exact (Rect.idx_unit_val _ _ _ y _).trans (by have h : (y 0).val < 1 := (y 0).isLt; show 0 + (y 0).val = 0; omega)
  | ⟨1, _⟩ => exact Rect.idx_unit_val _ _ _ y _
  | ⟨2, _⟩ => exact (Rect.idx_unit_val _ _ _ y _).trans (Nat.zero_add _)

theorem rdq {M : Memref sig .tc .vmem S3x32x256 .f32} (hM : M.IsWhole) (X : Vec Ideal S3x32x256 .f32) {off : Fin 3 → ℕ} (inb) (b : Fin 3) (p : Fin 4)
    (h : off = ![b.val, 8 * p.val, 0]) :
    M.view.readAt (Elt Ideal) (Rect.unit (s := S3x32x256) off S1x8x256.size inb).toLoadRect (hM.unread X) = blkq b p X := by
  subst h
  funext y
  refine (hM.readAt_unread X _ y).trans ?_
  unfold blkq
  congr 1
  funext a
  apply Fin.ext
  match a with
  | ⟨0, _⟩ => exact (Rect.idx_unit_val _ _ _ y _).trans (by have h : (y 0).val < 1 := (y 0).isLt; show b.val + (y 0).val = b.val; omega)
  | ⟨1, _⟩ => exact Rect.idx_unit_val _ _ _ y _
  | ⟨2, _⟩ => exact (Rect.idx_unit_val _ _ _ y _).trans (Nat.zero_add _)

theorem rdm {M : Memref sig .tc .vmem S32x128 .f32} (hM : M.IsWhole) (X : Vec Ideal S32x128 .f32) {off : Fin 2 → ℕ} (inb) (p : Fin 4)
    (h : off = ![8 * p.val, 0]) :
    M.view.readAt (Elt Ideal) (Rect.unit (s := S32x128) off S8x1.size inb).toLoadRect (hM.unread X) = blkm p X := by
  subst h
  funext y
  refine (hM.readAt_unread X _ y).trans ?_
  unfold blkm
  congr 1
  funext a
  apply Fin.ext
  match a with
  | ⟨0, _⟩ => exact Rect.idx_unit_val _ _ _ y _
  | ⟨1, _⟩ => exact (Rect.idx_unit_val _ _ _ y _).trans (by have h : (y 1).val < 1 := (y 1).isLt; show 0 + (y 1).val = 0; omega)

theorem rdl {M : Memref sig .tc .vmem S32x128 .f32} (hM : M.IsWhole) (X : Vec Ideal S32x128 .f32) {off : Fin 2 → ℕ} (inb) (p : Fin 4)
    (h : off = ![8 * p.val, 0]) :
    M.view.readAt (Elt Ideal) (Rect.unit (s := S32x128) off S8x128.size inb).toLoadRect (hM.unread X) = blkl p X := by
  subst h
  funext y
  refine (hM.readAt_unread X _ y).trans ?_
  unfold blkl
  congr 1
  funext a
  apply Fin.ext
  match a with
  | ⟨0, _⟩ => exact Rect.idx_unit_val _ _ _ y _
  | ⟨1, _⟩ => exact (Rect.idx_unit_val _ _ _ y _).trans (Nat.zero_add _)

theorem rda {M : Memref sig .tc .vmem S32x256 .f32} (hM : M.IsWhole) (X : Vec Ideal S32x256 .f32) {off : Fin 2 → ℕ} (inb) (p : Fin 4)
    (h : off = ![8 * p.val, 0]) :
    M.view.readAt (Elt Ideal) (Rect.unit (s := S32x256) off S8x256.size inb).toLoadRect (hM.unread X) = blka p X := by
  subst h
  funext y
  refine (hM.readAt_unread X _ y).trans ?_
  unfold blka
  congr 1
  funext a
  apply Fin.ext
  match a with
  | ⟨0, _⟩ => exact Rect.idx_unit_val _ _ _ y _
  | ⟨1, _⟩ => exact (Rect.idx_unit_val _ _ _ y _).trans (Nat.zero_add _)

/-- The batch row of a point. -/
def row (t : Fin grid0.N) : Fin 3 := ⟨t.val / 32, by have ht : t.val < 96 := Nat.lt_of_lt_of_eq t.isLt N_0; omega⟩

theorem offq (t : Fin grid0.N) (k : ℕ) :
    (![(Scalar.indexCast (BitVec.ofNat 32 (grid0.coords t 0).val) : Index).toNat, k, 0] : Fin 3 → ℕ) = ![(row t).val, k, 0] := by
  have ht : t.val < 96 := Nat.lt_of_lt_of_eq t.isLt N_0
  have e0 : (grid0.coords t 0).val = t.val / 32 % 3 := Pipeline.Grid.coords_val t 0 (by decide) rfl
  have e : (Scalar.indexCast (BitVec.ofNat 32 (grid0.coords t 0).val) : Index).toNat = t.val / 32 := by
    rw [e0]
    show (BitVec.ofNat 32 (t.val / 32 % 3)).toNat = t.val / 32
    rw [BitVec.toNat_ofNat]; omega
  rw [e]
  rfl

theorem pay151_at (N : FVec Ideal S8x1 .f32) (i : Fin 8) (j : Fin 128) : k0_pay151 N (ix2 i j) = N (ix2 i 0) := by
  pointwise [k0_pay151]

theorem pay150_at (N : FVec Ideal S8x128 .f32) (i : Fin 8) (j : Fin 128) : k0_pay150 N (ix2 i j) = N (ix2 i j) := by
  pointwise [k0_pay150]

variable (m : (ℓ : Loc nD τ sig) → Buf (Elt Ideal) ℓ) (hO : Ok m) (c : Dev nD) (t : Fin (cfgM m hO).N)
  (q : Vec Ideal S3x32x256 .f32) (acc : Vec Ideal S32x256 .f32) (mm ll : Vec Ideal S32x128 .f32)

/-- Which tokens of the point's chunk are among the batch row's. -/
def live : IVec S8x2048 1 := k0_pay141 (F := Ideal) (BitVec.ofNat 32 ((grid0.coords t) 1).val) (lenWord m hO c t)

theorem pairM_congr {M M' : IVec S8x2048 1} {K K' : IVec S1x2x64x2048 8} {q q' : FVec Ideal S1x8x256 .f32} {ks ks' : FVec Ideal S1x2x2048 .f32}
    {mo mo' : FVec Ideal S8x1 .f32} (h1 : M = M') (h2 : K = K') (h3 : q = q') (h4 : ks = ks') (h5 : mo = mo') (x : S8x1.Idx) :
    pairM M K q ks mo x = pairM M' K' q' ks' mo' x := by subst h1 h2 h3 h4 h5; rfl

theorem pairL_congr {M M' : IVec S8x2048 1} {K K' : IVec S1x2x64x2048 8} {q q' : FVec Ideal S1x8x256 .f32} {ks ks' : FVec Ideal S1x2x2048 .f32}
    {mo mo' : FVec Ideal S8x1 .f32} {l l' : FVec Ideal S8x128 .f32} (h1 : M = M') (h2 : K = K') (h3 : q = q') (h4 : ks = ks') (h5 : mo = mo')
    (h6 : l = l') (x : S8x128.Idx) : pairL M K q ks mo l x = pairL M' K' q' ks' mo' l' x := by subst h1 h2 h3 h4 h5 h6; rfl

theorem pairE_congr {M M' : IVec S8x2048 1} {K K' : IVec S1x2x64x2048 8} {q q' : FVec Ideal S1x8x256 .f32} {ks ks' : FVec Ideal S1x2x2048 .f32}
    {mo mo' : FVec Ideal S8x1 .f32} (h1 : M = M') (h2 : K = K') (h3 : q = q') (h4 : ks = ks') (h5 : mo = mo') :
    pairE M K q ks mo = pairE M' K' q' ks' mo' := by subst h1 h2 h3 h4 h5; rfl

theorem pairF_congr {M M' : IVec S8x2048 1} {K K' : IVec S1x2x64x2048 8} {q q' : FVec Ideal S1x8x256 .f32} {ks ks' : FVec Ideal S1x2x2048 .f32}
    {mo mo' : FVec Ideal S8x1 .f32} (h1 : M = M') (h2 : K = K') (h3 : q = q') (h4 : ks = ks') (h5 : mo = mo') :
    pairF M K q ks mo = pairF M' K' q' ks' mo' := by subst h1 h2 h3 h4 h5; rfl

theorem pay152_congr {B B' E E' : FVec Ideal S8x2048 .f32} {N N' : FVec Ideal S8x1 .f32} {Vc Vc' : IVec S1x2x64x2048 8} {a a' : FVec Ideal S8x256 .f32}
    (h1 : B = B') (h2 : N = N') (h3 : E = E') (h4 : Vc = Vc') (h5 : a = a') (x : S8x256.Idx) :
    k0_pay152 B N E Vc a x = k0_pay152 B' N' E' Vc' a' x := by subst h1 h2 h3 h4 h5; rfl

theorem vs3 (v : FVec Ideal S1x2x2048 .f32) : k0_pay179 (F := Ideal) v = k0_pay144 (F := Ideal) v := rfl
theorem vs2 (v : FVec Ideal S1x2x2048 .f32) : k0_pay166 (F := Ideal) v = k0_pay144 (F := Ideal) v := rfl
theorem vs1 (v : FVec Ideal S1x2x2048 .f32) : k0_pay154 (F := Ideal) v = k0_pay144 (F := Ideal) v := rfl

theorem acc3 (B E : FVec Ideal S8x2048 .f32) (N : FVec Ideal S8x1 .f32) (Vc : IVec S1x2x64x2048 8) (a : FVec Ideal S8x256 .f32) (x : S8x256.Idx) :
    k0_pay6 N (k0_pay187 B E Vc) a x = k0_pay152 B N E Vc a x := rfl
theorem acc2 (B E : FVec Ideal S8x2048 .f32) (N : FVec Ideal S8x1 .f32) (Vc : IVec S1x2x64x2048 8) (a : FVec Ideal S8x256 .f32) (x : S8x256.Idx) :
    k0_pay177 N (k0_pay174 B E) (k0_pay175 (F := Ideal) Vc) (k0_pay176 (F := Ideal) Vc) a x = k0_pay152 B N E Vc a x := rfl
theorem acc1 (B S : FVec Ideal S8x2048 .f32) (N T : FVec Ideal S8x1 .f32) (Vc : IVec S1x2x64x2048 8) (a : FVec Ideal S8x256 .f32) (x : S8x256.Idx) :
    k0_pay162 N (k0_pay161 B S T) Vc a x = k0_pay152 B N (k0_pay158 S T) Vc a x := rfl

theorem stepM_at (p : Fin 4) (i : Fin 8) (j : Fin 128) : stepM m hO c t q acc mm ll (ix2 ⟨8 * p.val + i.val, by omega⟩ j)
    = pairM (live m hO c t) (blk4 p (in6 m hO c t)) (blkq (row t) p q) (blk3 p (in8 m hO c t)) (blkm p mm) (ix2 i 0) := by
  unfold stepM over
  rw [View.read_writes_eq_canon _ _ _ fun z => View.cover_of_tiledL (stepR m hO c t q acc mm ll).2.1 S8x128.size (by unfold stepR; sl_kernel_rfl) z]
  unfold stepR runStep
  dsimp only
  canon_tiles x h
  · obtain ⟨i', j', rfl⟩ : ∃ (i' : Fin 8) (j' : Fin 128), x = ix2 i' j' := ⟨x 0, x 1, by idx_ext⟩
    have h0 : 8 * p.val + i.val = _ := h0
    have h1 : j.val = j'.val := h1
    obtain ⟨rfl, rfl, rfl⟩ : p = 3 ∧ i' = i ∧ j' = j := by
      have hi := i.isLt
      have hi' := i'.isLt
      have h0 : 8 * p.val + i.val = 24 + i'.val := h0
      refine ⟨Fin.ext (show p.val = 3 by omega), Fin.ext (by omega), Fin.ext h1.symm⟩
    refine Eq.trans (b := k0_pay151 (pairM _ _ _ _ _) (ix2 i' j')) rfl ?_
    refine (pay151_at _ i' j').trans ?_
    exact pairM_congr rfl (rd4 _ _ _ 3 rfl) (rdq _ _ _ (row t) 3 (offq t 24)) (rd3 _ _ _ 3 rfl) (rdm _ _ _ 3 rfl) _
  · obtain ⟨i', j', rfl⟩ : ∃ (i' : Fin 8) (j' : Fin 128), x = ix2 i' j' := ⟨x 0, x 1, by idx_ext⟩
    have h0 : 8 * p.val + i.val = _ := h0
    have h1 : j.val = j'.val := h1
    obtain ⟨rfl, rfl, rfl⟩ : p = 2 ∧ i' = i ∧ j' = j := by
      have hi := i.isLt
      have hi' := i'.isLt
      have h0 : 8 * p.val + i.val = 16 + i'.val := h0
      refine ⟨Fin.ext (show p.val = 2 by omega), Fin.ext (by omega), Fin.ext h1.symm⟩
    refine Eq.trans (b := k0_pay151 (pairM _ _ _ _ _) (ix2 i' j')) rfl ?_
    refine (pay151_at _ i' j').trans ?_
    exact pairM_congr rfl (rd4 _ _ _ 2 rfl) (rdq _ _ _ (row t) 2 (offq t 16)) (rd3 _ _ _ 2 rfl) (rdm _ _ _ 2 rfl) _
  · obtain ⟨i', j', rfl⟩ : ∃ (i' : Fin 8) (j' : Fin 128), x = ix2 i' j' := ⟨x 0, x 1, by idx_ext⟩
    have h0 : 8 * p.val + i.val = _ := h0
    have h1 : j.val = j'.val := h1
    obtain ⟨rfl, rfl, rfl⟩ : p = 1 ∧ i' = i ∧ j' = j := by
      have hi := i.isLt
      have hi' := i'.isLt
      have h0 : 8 * p.val + i.val = 8 + i'.val := h0
      refine ⟨Fin.ext (show p.val = 1 by omega), Fin.ext (by omega), Fin.ext h1.symm⟩
    refine Eq.trans (b := k0_pay151 (pairM _ _ _ _ _) (ix2 i' j')) rfl ?_
    refine (pay151_at _ i' j').trans ?_
    exact pairM_congr rfl (rd4 _ _ _ 1 rfl) (rdq _ _ _ (row t) 1 (offq t 8)) (rd3 _ _ _ 1 rfl) (rdm _ _ _ 1 rfl) _
  · obtain ⟨i', j', rfl⟩ : ∃ (i' : Fin 8) (j' : Fin 128), x = ix2 i' j' := ⟨x 0, x 1, by idx_ext⟩
    have h0 : 8 * p.val + i.val = _ := h0
    have h1 : j.val = j'.val := h1
    obtain ⟨rfl, rfl, rfl⟩ : p = 0 ∧ i' = i ∧ j' = j := by
      have hi := i.isLt
      have hi' := i'.isLt
      have h0 : 8 * p.val + i.val = 0 + i'.val := by rw [h0]; show i'.val = 0 + i'.val; omega
      refine ⟨Fin.ext (show p.val = 0 by omega), Fin.ext (by omega), Fin.ext h1.symm⟩
    refine Eq.trans (b := k0_pay151 (pairM _ _ _ _ _) (ix2 i' j')) rfl ?_
    refine (pay151_at _ i' j').trans ?_
    exact pairM_congr rfl (rd4 _ _ _ 0 rfl) (rdq _ _ _ (row t) 0 (offq t 0)) (rd3 _ _ _ 0 rfl) (rdm _ _ _ 0 rfl) _

theorem stepL_at (p : Fin 4) (i : Fin 8) (j : Fin 128) : stepL m hO c t q acc mm ll (ix2 ⟨8 * p.val + i.val, by omega⟩ j)
    = pairL (live m hO c t) (blk4 p (in6 m hO c t)) (blkq (row t) p q) (blk3 p (in8 m hO c t)) (blkm p mm) (blkl p ll) (ix2 i j) := by
  unfold stepL over
  rw [View.read_writes_eq_canon _ _ _ fun z => View.cover_of_tiledL (stepR m hO c t q acc mm ll).2.2.1 S8x128.size (by unfold stepR; sl_kernel_rfl) z]
  unfold stepR runStep
  dsimp only
  canon_tiles x h
  · obtain ⟨i', j', rfl⟩ : ∃ (i' : Fin 8) (j' : Fin 128), x = ix2 i' j' := ⟨x 0, x 1, by idx_ext⟩
    have h0 : 8 * p.val + i.val = _ := h0
    have h1 : j.val = j'.val := h1
    obtain ⟨rfl, rfl, rfl⟩ : p = 3 ∧ i' = i ∧ j' = j := by
      have hi := i.isLt
      have hi' := i'.isLt
      have h0 : 8 * p.val + i.val = 24 + i'.val := h0
      refine ⟨Fin.ext (show p.val = 3 by omega), Fin.ext (by omega), Fin.ext h1.symm⟩
    refine Eq.trans (b := k0_pay150 (pairL _ _ _ _ _ _) (ix2 i' j')) rfl ?_
    refine (pay150_at _ i' j').trans ?_
    exact pairL_congr rfl (rd4 _ _ _ 3 rfl) (rdq _ _ _ (row t) 3 (offq t 24)) (rd3 _ _ _ 3 rfl) (rdm _ _ _ 3 rfl) (rdl _ _ _ 3 rfl) _
  · obtain ⟨i', j', rfl⟩ : ∃ (i' : Fin 8) (j' : Fin 128), x = ix2 i' j' := ⟨x 0, x 1, by idx_ext⟩
    have h0 : 8 * p.val + i.val = _ := h0
    have h1 : j.val = j'.val := h1
    obtain ⟨rfl, rfl, rfl⟩ : p = 2 ∧ i' = i ∧ j' = j := by
      have hi := i.isLt
      have hi' := i'.isLt
      have h0 : 8 * p.val + i.val = 16 + i'.val := h0
      refine ⟨Fin.ext (show p.val = 2 by omega), Fin.ext (by omega), Fin.ext h1.symm⟩
    refine Eq.trans (b := k0_pay150 (pairL _ _ _ _ _ _) (ix2 i' j')) rfl ?_
    refine (pay150_at _ i' j').trans ?_
    exact pairL_congr rfl (rd4 _ _ _ 2 rfl) (rdq _ _ _ (row t) 2 (offq t 16)) (rd3 _ _ _ 2 rfl) (rdm _ _ _ 2 rfl) (rdl _ _ _ 2 rfl) _
  · obtain ⟨i', j', rfl⟩ : ∃ (i' : Fin 8) (j' : Fin 128), x = ix2 i' j' := ⟨x 0, x 1, by idx_ext⟩
    have h0 : 8 * p.val + i.val = _ := h0
    have h1 : j.val = j'.val := h1
    obtain ⟨rfl, rfl, rfl⟩ : p = 1 ∧ i' = i ∧ j' = j := by
      have hi := i.isLt
      have hi' := i'.isLt
      have h0 : 8 * p.val + i.val = 8 + i'.val := h0
      refine ⟨Fin.ext (show p.val = 1 by omega), Fin.ext (by omega), Fin.ext h1.symm⟩
    refine Eq.trans (b := k0_pay150 (pairL _ _ _ _ _ _) (ix2 i' j')) rfl ?_
    refine (pay150_at _ i' j').trans ?_
    exact pairL_congr rfl (rd4 _ _ _ 1 rfl) (rdq _ _ _ (row t) 1 (offq t 8)) (rd3 _ _ _ 1 rfl) (rdm _ _ _ 1 rfl) (rdl _ _ _ 1 rfl) _
  · obtain ⟨i', j', rfl⟩ : ∃ (i' : Fin 8) (j' : Fin 128), x = ix2 i' j' := ⟨x 0, x 1, by idx_ext⟩
    have h0 : 8 * p.val + i.val = _ := h0
    have h1 : j.val = j'.val := h1
    obtain ⟨rfl, rfl, rfl⟩ : p = 0 ∧ i' = i ∧ j' = j := by
      have hi := i.isLt
      have hi' := i'.isLt
      have h0 : 8 * p.val + i.val = 0 + i'.val := by rw [h0]; show i'.val = 0 + i'.val; omega
      refine ⟨Fin.ext (show p.val = 0 by omega), Fin.ext (by omega), Fin.ext h1.symm⟩
    refine Eq.trans (b := k0_pay150 (pairL _ _ _ _ _ _) (ix2 i' j')) rfl ?_
    refine (pay150_at _ i' j').trans ?_
    exact pairL_congr rfl (rd4 _ _ _ 0 rfl) (rdq _ _ _ (row t) 0 (offq t 0)) (rd3 _ _ _ 0 rfl) (rdm _ _ _ 0 rfl) (rdl _ _ _ 0 rfl) _

theorem stepAcc_at (p : Fin 4) (i : Fin 8) (j : Fin 256) : stepAcc m hO c t q acc mm ll (ix2 ⟨8 * p.val + i.val, by omega⟩ j)
    = pairA (live m hO c t) (blk4 p (in6 m hO c t)) (blkq (row t) p q) (blk3 p (in8 m hO c t)) (blkm p mm) (blk3 p (in9 m hO c t))
        (blk4 p (in7 m hO c t)) (blka p acc) (ix2 i j) := by
  unfold stepAcc over
  rw [View.read_writes_eq_canon _ _ _ fun z => View.cover_of_tiledL (stepR m hO c t q acc mm ll).1 S8x256.size (by unfold stepR; sl_kernel_rfl) z]
  unfold stepR runStep
  dsimp only
  canon_tiles x h
  · obtain ⟨i', j', rfl⟩ : ∃ (i' : Fin 8) (j' : Fin 256), x = ix2 i' j' := ⟨x 0, x 1, by idx_ext⟩
    have h0 : 8 * p.val + i.val = _ := h0
    have h1 : j.val = j'.val := h1
    obtain ⟨rfl, rfl, rfl⟩ : p = 3 ∧ i' = i ∧ j' = j := by
      have hi := i.isLt
      have hi' := i'.isLt
      have h0 : 8 * p.val + i.val = 24 + i'.val := h0
      refine ⟨Fin.ext (show p.val = 3 by omega), Fin.ext (by omega), Fin.ext h1.symm⟩
    refine (acc3 _ _ _ _ _ _).trans ?_
    refine pay152_congr ?_ ?_ ?_ (rd4 _ _ _ 3 rfl) (rda _ _ _ 3 rfl) _
    · exact (vs3 _).trans (congrArg k0_pay144 (rd3 _ _ _ 3 rfl))
    · exact Eq.trans (b := pairF _ _ _ _ _) rfl (pairF_congr rfl (rd4 _ _ _ 3 rfl) (rdq _ _ _ (row t) 3 (offq t 24)) (rd3 _ _ _ 3 rfl) (rdm _ _ _ 3 rfl))
    · exact Eq.trans (b := pairE _ _ _ _ _) rfl (pairE_congr rfl (rd4 _ _ _ 3 rfl) (rdq _ _ _ (row t) 3 (offq t 24)) (rd3 _ _ _ 3 rfl) (rdm _ _ _ 3 rfl))
  · obtain ⟨i', j', rfl⟩ : ∃ (i' : Fin 8) (j' : Fin 256), x = ix2 i' j' := ⟨x 0, x 1, by idx_ext⟩
    have h0 : 8 * p.val + i.val = _ := h0
    have h1 : j.val = j'.val := h1
    obtain ⟨rfl, rfl, rfl⟩ : p = 2 ∧ i' = i ∧ j' = j := by
      have hi := i.isLt
      have hi' := i'.isLt
      have h0 : 8 * p.val + i.val = 16 + i'.val := h0
      refine ⟨Fin.ext (show p.val = 2 by omega), Fin.ext (by omega), Fin.ext h1.symm⟩
    refine (acc2 _ _ _ _ _ _).trans ?_
    refine pay152_congr ?_ ?_ ?_ (rd4 _ _ _ 2 rfl) (rda _ _ _ 2 rfl) _
    · exact (vs2 _).trans (congrArg k0_pay144 (rd3 _ _ _ 2 rfl))
    · exact Eq.trans (b := pairF _ _ _ _ _) rfl (pairF_congr rfl (rd4 _ _ _ 2 rfl) (rdq _ _ _ (row t) 2 (offq t 16)) (rd3 _ _ _ 2 rfl) (rdm _ _ _ 2 rfl))
    · exact Eq.trans (b := pairE _ _ _ _ _) rfl (pairE_congr rfl (rd4 _ _ _ 2 rfl) (rdq _ _ _ (row t) 2 (offq t 16)) (rd3 _ _ _ 2 rfl) (rdm _ _ _ 2 rfl))
  · obtain ⟨i', j', rfl⟩ : ∃ (i' : Fin 8) (j' : Fin 256), x = ix2 i' j' := ⟨x 0, x 1, by idx_ext⟩
    have h0 : 8 * p.val + i.val = _ := h0
    have h1 : j.val = j'.val := h1
    obtain ⟨rfl, rfl, rfl⟩ : p = 1 ∧ i' = i ∧ j' = j := by
      have hi := i.isLt
      have hi' := i'.isLt
      have h0 : 8 * p.val + i.val = 8 + i'.val := h0
      refine ⟨Fin.ext (show p.val = 1 by omega), Fin.ext (by omega), Fin.ext h1.symm⟩
    refine (acc1 _ _ _ _ _ _ _).trans ?_
    refine pay152_congr ?_ ?_ ?_ (rd4 _ _ _ 1 rfl) (rda _ _ _ 1 rfl) _
    · exact (vs1 _).trans (congrArg k0_pay144 (rd3 _ _ _ 1 rfl))
    · exact Eq.trans (b := pairF _ _ _ _ _) rfl (pairF_congr rfl (rd4 _ _ _ 1 rfl) (rdq _ _ _ (row t) 1 (offq t 8)) (rd3 _ _ _ 1 rfl) (rdm _ _ _ 1 rfl))
    · exact Eq.trans (b := pairE _ _ _ _ _) rfl (pairE_congr rfl (rd4 _ _ _ 1 rfl) (rdq _ _ _ (row t) 1 (offq t 8)) (rd3 _ _ _ 1 rfl) (rdm _ _ _ 1 rfl))
  · obtain ⟨i', j', rfl⟩ : ∃ (i' : Fin 8) (j' : Fin 256), x = ix2 i' j' := ⟨x 0, x 1, by idx_ext⟩
    have h0 : 8 * p.val + i.val = _ := h0
    have h1 : j.val = j'.val := h1
    obtain ⟨rfl, rfl, rfl⟩ : p = 0 ∧ i' = i ∧ j' = j := by
      have hi := i.isLt
      have hi' := i'.isLt
      have h0 : 8 * p.val + i.val = 0 + i'.val := by rw [h0]; show i'.val = 0 + i'.val; omega
      refine ⟨Fin.ext (show p.val = 0 by omega), Fin.ext (by omega), Fin.ext h1.symm⟩
    refine pay152_congr ?_ ?_ ?_ (rd4 _ _ _ 0 rfl) (rda _ _ _ 0 rfl) _
    · exact congrArg k0_pay144 (rd3 _ _ _ 0 rfl)
    · exact Eq.trans (b := pairF _ _ _ _ _) rfl (pairF_congr rfl (rd4 _ _ _ 0 rfl) (rdq _ _ _ (row t) 0 (offq t 0)) (rd3 _ _ _ 0 rfl) (rdm _ _ _ 0 rfl))
    · exact Eq.trans (b := pairE _ _ _ _ _) rfl (pairE_congr rfl (rd4 _ _ _ 0 rfl) (rdq _ _ _ (row t) 0 (offq t 0)) (rd3 _ _ _ 0 rfl) (rdm _ _ _ 0 rfl))

end Cert.KernelIdeal.Gen

end
-- ==== Proof.InputIdeal.lean ====
/- What the grid points read: the token's rows, the chunks of the two caches and of their scales, and the lengths. -/
module

public import proofs.«01_k».proof.Proof.ValueIdeal
public import proofs.«01_k».proof.Proof.StepReadIdeal
public import proofs.«01_k».proof.Proof.OkKernelIdeal

@[expose] public section

set_option maxRecDepth 16384

noncomputable section

namespace Cert.KernelIdeal.Gen

open Idealize.ShloMosaic Idealize.ShloMosaic.TcCoe Idealize.SL.Sem
open Idealize.ShloMosaic.Tactic

variable (m : (ℓ : Loc nD τ sig) → Buf (Elt Ideal) ℓ)

/-- The number of cached tokens of a batch row. -/
def lens (c : Dev nD) (b : Fin 3) : BitVec 32 := m ((c : Thread nD τ).loc main_arg7) (ix1 b)

theorem off1_0 (t : Fin grid0.N) : k0_off1 (grid0.coords t) = ![(row t).val] := by
  have ht : t.val < 96 := Nat.lt_of_lt_of_eq t.isLt N_0
  have e0 : (grid0.coords t 0).val = t.val / 32 % 3 := Pipeline.Grid.coords_val t 0 (by decide) rfl
  unfold k0_off1
  have e : (Scalar.indexCast (BitVec.ofNat 32 (grid0.coords t 0).val) : Index).toNat = t.val / 32 := by
    rw [e0]
    show (BitVec.ofNat 32 (t.val / 32 % 3)).toNat = t.val / 32
    rw [BitVec.toNat_ofNat]; omega
  exact (congrArg (fun k : ℕ => (![k] : Fin 1 → ℕ)) e).trans rfl

theorem lenWord_eq (hO : Ok m) (c : Dev nD) (t : Fin (cfgM m hO).N) : lenWord m hO c t = lens m c (row t) := by
  obtain rfl : c = 0 := Subsingleton.elim _ _
  unfold lenWord lens
  refine Eq.trans (b := V m 0 main_arg7 (ix1 (row t))) ?_ (congrFun (V_main_arg7 m 0) _)
  show V m 0 main_arg7 _ = V m 0 main_arg7 _
  congr 1
  funext a
  apply Fin.ext
  match a with
  | ⟨0, _⟩ =>
    refine (Rect.idx_unit_val (s := S3) _ _ _ _ _).trans ?_
    exact (congrArg (· + _) (congrFun (off1_0 t) 0)).trans rfl

theorem lenAt_eq (hO : Ok m) (c : Dev nD) (t : Fin (cfgM m hO).N) : Cert.KernelIdeal.Ok.lenAt (F := Ideal) (tbl m) (grid0.coords t) = lenWord m hO c t := rfl

theorem c0 (t : Fin grid0.N) : (grid0.coords t 0).val = t.val / 32 := by
  have ht : t.val < 96 := Nat.lt_of_lt_of_eq t.isLt N_0
  have e0 : (grid0.coords t 0).val = t.val / 32 % 3 := Pipeline.Grid.coords_val t 0 (by decide) rfl
  omega

theorem c1 (t : Fin grid0.N) : (grid0.coords t 1).val = t.val % 32 := by
  have e0 : (grid0.coords t 1).val = t.val / 1 % 32 := Pipeline.Grid.coords_val t 1 (by decide) rfl
  omega

theorem tr4_at (X : IVec S3x65536x8x64 8) (b : Fin 3) (g : Fin 8) (e : Fin 64) (u : Fin 65536) :
    transpose S3x8x64x65536 [0, 2, 3, 1] X transposes_S3x65536x8x64_S3x8x64x65536_0_2_3_1 (ix4 b g e u) = X (ix4 b u g e) := by
  pointwise

theorem tr3_at (X : FVec Ideal S3x65536x8 .f32) (b : Fin 3) (g : Fin 8) (u : Fin 65536) :
    transpose S3x8x65536 [0, 2, 1] X transposes_S3x65536x8_S3x8x65536_0_2_1 (ix3 b g u) = X (ix3 b u g) := by
  pointwise

/-- Where a block of tokens is read: at the batch row's own chunk, when the chunk has a token. -/
theorem chunk_val (hO : Ok m) (c : Dev nD) (t : Fin (cfgM m hO).N) (h : ((t.val % 32 * 2048 : ℕ) : Int) < (lens m c (row t)).toInt) :
    (Chunk.chunk (BitVec.ofNat 32 (grid0.coords t 1).val) (Cert.KernelIdeal.Ok.lenAt (F := Ideal) (tbl m) (grid0.coords t))).toNat = t.val % 32 := by
  rw [lenAt_eq m hO c t, lenWord_eq, c1]
  exact Chunk.chunk_eq_self _ (Nat.mod_lt _ (by decide)) _ h

theorem batch_val (t : Fin grid0.N) : (BitVec.ofNat 32 (grid0.coords t 0).val).toNat = t.val / 32 := by
  have ht : t.val < 96 := Nat.lt_of_lt_of_eq t.isLt N_0
  rw [c0, BitVec.toNat_ofNat]
  omega

theorem V_main_v0 (c : Dev nD) : V m c main_v0 = transpose S3x8x64x65536 [0, 2, 3, 1] (m ((c : Thread nD τ).loc main_arg3)) transposes_S3x65536x8x64_S3x8x64x65536_0_2_3_1 := by
  show StableHlo.after [hostOps0].flatten (fun b => m (c, b)) (Proc.devRef .tc main_v0) = _
  simp only [hostOps0, List.flatten_cons, List.flatten_nil, List.append_nil]
  after_results

theorem in6_at (hO : Ok m) (c : Dev nD) (t : Fin (cfgM m hO).N) (g : Fin 8) (e : Fin 64) (u : Fin 2048)
    (h : ((t.val % 32 * 2048 : ℕ) : Int) < (lens m c (row t)).toInt) :
    in6 m hO c t (ix4 0 g e u) = m ((c : Thread nD τ).loc main_arg3) (ix4 (row t) ⟨2048 * (t.val % 32) + u.val, by omega⟩ g e) := by
  have hi : ((cfgM m hO).win 3).index t = ![(BitVec.ofNat 32 (grid0.coords t 0).val).toNat, 0, 0, (Chunk.chunk (BitVec.ofNat 32 (grid0.coords t 1).val) (Cert.KernelIdeal.Ok.lenAt (F := Ideal) (tbl m) (grid0.coords t))).toNat] := rfl
  have he : (((cfgM m hO).win 3).blk t).view.emb (ix4 0 g e u) = (ix4 (row t) g e ⟨2048 * (t.val % 32) + u.val, by omega⟩ : S3x8x64x65536.Idx) := by
    funext a
    apply Fin.ext
    blk_simp
    rw [hi, batch_val, chunk_val m hO c t h]
    match a with
    | ⟨0, _⟩ => show t.val / 32 * 1 + 0 = t.val / 32; omega
    | ⟨1, _⟩ => show 0 * 8 + g.val = g.val; omega
    | ⟨2, _⟩ => show 0 * 64 + e.val = e.val; omega
    | ⟨3, _⟩ => show t.val % 32 * 2048 + u.val = 2048 * (t.val % 32) + u.val; omega
  refine Eq.trans (b := V m c main_v0 (ix4 (row t) g e ⟨2048 * (t.val % 32) + u.val, by omega⟩)) (congrArg (V m c main_v0) he) ?_
  rw [V_main_v0]
  exact tr4_at _ _ _ _ _

theorem V_main_v1 (c : Dev nD) : V m c main_v1 = transpose S3x8x64x65536 [0, 2, 3, 1] (m ((c : Thread nD τ).loc main_arg4)) transposes_S3x65536x8x64_S3x8x64x65536_0_2_3_1 := by
  show StableHlo.after [hostOps0].flatten (fun b => m (c, b)) (Proc.devRef .tc main_v1) = _
  simp only [hostOps0, List.flatten_cons, List.flatten_nil, List.append_nil]
  after_results

theorem in7_at (hO : Ok m) (c : Dev nD) (t : Fin (cfgM m hO).N) (g : Fin 8) (e : Fin 64) (u : Fin 2048)
    (h : ((t.val % 32 * 2048 : ℕ) : Int) < (lens m c (row t)).toInt) :
    in7 m hO c t (ix4 0 g e u) = m ((c : Thread nD τ).loc main_arg4) (ix4 (row t) ⟨2048 * (t.val % 32) + u.val, by omega⟩ g e) := by
  have hi : ((cfgM m hO).win 4).index t = ![(BitVec.ofNat 32 (grid0.coords t 0).val).toNat, 0, 0, (Chunk.chunk (BitVec.ofNat 32 (grid0.coords t 1).val) (Cert.KernelIdeal.Ok.lenAt (F := Ideal) (tbl m) (grid0.coords t))).toNat] := rfl
  have he : (((cfgM m hO).win 4).blk t).view.emb (ix4 0 g e u) = (ix4 (row t) g e ⟨2048 * (t.val % 32) + u.val, by omega⟩ : S3x8x64x65536.Idx) := by
    funext a
    apply Fin.ext
    blk_simp
    rw [hi, batch_val, chunk_val m hO c t h]
    match a with
    | ⟨0, _⟩ => show t.val / 32 * 1 + 0 = t.val / 32; omega
    | ⟨1, _⟩ => show 0 * 8 + g.val = g.val; omega
    | ⟨2, _⟩ => show 0 * 64 + e.val = e.val; omega
    | ⟨3, _⟩ => show t.val % 32 * 2048 + u.val = 2048 * (t.val % 32) + u.val; omega
  refine Eq.trans (b := V m c main_v1 (ix4 (row t) g e ⟨2048 * (t.val % 32) + u.val, by omega⟩)) (congrArg (V m c main_v1) he) ?_
  rw [V_main_v1]
  exact tr4_at _ _ _ _ _

theorem V_main_v2 (c : Dev nD) : V m c main_v2 = transpose S3x8x65536 [0, 2, 1] (m ((c : Thread nD τ).loc main_arg5)) transposes_S3x65536x8_S3x8x65536_0_2_1 := by
  show StableHlo.after [hostOps0].flatten (fun b => m (c, b)) (Proc.devRef .tc main_v2) = _
  simp only [hostOps0, List.flatten_cons, List.flatten_nil, List.append_nil]
  after_results

theorem in8_at (hO : Ok m) (c : Dev nD) (t : Fin (cfgM m hO).N) (g : Fin 8) (u : Fin 2048)
    (h : ((t.val % 32 * 2048 : ℕ) : Int) < (lens m c (row t)).toInt) :
    in8 m hO c t (ix3 0 g u) = m ((c : Thread nD τ).loc main_arg5) (ix3 (row t) ⟨2048 * (t.val % 32) + u.val, by omega⟩ g) := by
  have hi : ((cfgM m hO).win 5).index t = ![(BitVec.ofNat 32 (grid0.coords t 0).val).toNat, 0, (Chunk.chunk (BitVec.ofNat 32 (grid0.coords t 1).val) (Cert.KernelIdeal.Ok.lenAt (F := Ideal) (tbl m) (grid0.coords t))).toNat] := rfl
  have he : (((cfgM m hO).win 5).blk t).view.emb (ix3 0 g u) = (ix3 (row t) g ⟨2048 * (t.val % 32) + u.val, by omega⟩ : S3x8x65536.Idx) := by
    funext a
    apply Fin.ext
    blk_simp
    rw [hi, batch_val, chunk_val m hO c t h]
    match a with
    | ⟨0, _⟩ => show t.val / 32 * 1 + 0 = t.val / 32; omega
    | ⟨1, _⟩ => show 0 * 8 + g.val = g.val; omega
    | ⟨2, _⟩ => show t.val % 32 * 2048 + u.val = 2048 * (t.val % 32) + u.val; omega
  refine Eq.trans (b := V m c main_v2 (ix3 (row t) g ⟨2048 * (t.val % 32) + u.val, by omega⟩)) (congrArg (V m c main_v2) he) ?_
  rw [V_main_v2]
  exact tr3_at _ _ _ _

theorem V_main_v3 (c : Dev nD) : V m c main_v3 = transpose S3x8x65536 [0, 2, 1] (m ((c : Thread nD τ).loc main_arg6)) transposes_S3x65536x8_S3x8x65536_0_2_1 := by
  show StableHlo.after [hostOps0].flatten (fun b => m (c, b)) (Proc.devRef .tc main_v3) = _
  simp only [hostOps0, List.flatten_cons, List.flatten_nil, List.append_nil]
  after_results

theorem in9_at (hO : Ok m) (c : Dev nD) (t : Fin (cfgM m hO).N) (g : Fin 8) (u : Fin 2048)
    (h : ((t.val % 32 * 2048 : ℕ) : Int) < (lens m c (row t)).toInt) :
    in9 m hO c t (ix3 0 g u) = m ((c : Thread nD τ).loc main_arg6) (ix3 (row t) ⟨2048 * (t.val % 32) + u.val, by omega⟩ g) := by
  have hi : ((cfgM m hO).win 6).index t = ![(BitVec.ofNat 32 (grid0.coords t 0).val).toNat, 0, (Chunk.chunk (BitVec.ofNat 32 (grid0.coords t 1).val) (Cert.KernelIdeal.Ok.lenAt (F := Ideal) (tbl m) (grid0.coords t))).toNat] := rfl
  have he : (((cfgM m hO).win 6).blk t).view.emb (ix3 0 g u) = (ix3 (row t) g ⟨2048 * (t.val % 32) + u.val, by omega⟩ : S3x8x65536.Idx) := by
    funext a
    apply Fin.ext
    blk_simp
    rw [hi, batch_val, chunk_val m hO c t h]
    match a with
    | ⟨0, _⟩ => show t.val / 32 * 1 + 0 = t.val / 32; omega
    | ⟨1, _⟩ => show 0 * 8 + g.val = g.val; omega
    | ⟨2, _⟩ => show t.val % 32 * 2048 + u.val = 2048 * (t.val % 32) + u.val; omega
  refine Eq.trans (b := V m c main_v3 (ix3 (row t) g ⟨2048 * (t.val % 32) + u.val, by omega⟩)) (congrArg (V m c main_v3) he) ?_
  rw [V_main_v3]
  exact tr3_at _ _ _ _

theorem V_main_v4 (c : Dev nD) : V m c main_v4 = shapeCast S3x4096 (m ((c : Thread nD τ).loc main_arg0)) shapeCasts_S3x1x4096_S3x4096 := by
  show StableHlo.after [hostOps0].flatten (fun b => m (c, b)) (Proc.devRef .tc main_v4) = _
  simp only [hostOps0, List.flatten_cons, List.flatten_nil, List.append_nil]
  after_results
  rfl

theorem drop0_at (X : FVec Ideal S3x1x4096 .bf16) (b : Fin 3) (d : Fin 4096) :
    shapeCast S3x4096 X shapeCasts_S3x1x4096_S3x4096 (ix2 b d) = X (ix3 b 0 d) := by
  pointwise

theorem in3_eq (hO : Ok m) (c : Dev nD) : in3 m hO c (pt0 m hO) = V m c main_v4 := by
  funext y
  show V m c main_v4 ((((cfgM m hO).win 0).blk (pt0 m hO)).view.emb y) = _
  congr 1
  funext a
  apply Fin.ext
  blk_simp
  have h : ((cfgM m hO).win 0).index (pt0 m hO) a = 0 := by
    match a with
    | ⟨0, _⟩ => rfl
    | ⟨1, _⟩ => rfl
  rw [h, Nat.zero_mul, Nat.zero_add]

/-- The block of the token's row is the argument. -/
theorem in3_at (hO : Ok m) (c : Dev nD) (b : Fin 3) (d : Fin 4096) :
    in3 m hO c (pt0 m hO) (ix2 b d) = m ((c : Thread nD τ).loc main_arg0) (ix3 b 0 d) := by
  rw [in3_eq, V_main_v4]
  exact drop0_at _ b d

/-- A token of the chunk is live when its place is below the batch row's length. -/
theorem slt_iff (n u : ℕ) (hn : n < 32) (hu : u < 2048) (w : BitVec 32) :
    IntOp.cmpi .slt (IntOp.addi (IntOp.muli (BitVec.ofNat 32 n) 2048#32) (BitVec.ofNat 32 u)) w = 1#1 ↔ ((2048 * n + u : ℕ) : Int) < w.toInt := by
  have e : IntOp.addi (IntOp.muli (BitVec.ofNat 32 n) 2048#32) (BitVec.ofNat 32 u) = BitVec.ofNat 32 (2048 * n + u) := by
    unfold IntOp.addi IntOp.muli
    apply BitVec.eq_of_toNat_eq
    simp only [BitVec.toNat_add, BitVec.toNat_mul, BitVec.toNat_ofNat]
    omega
  have ei : (BitVec.ofNat 32 (2048 * n + u)).toInt = ((2048 * n + u : ℕ) : Int) := by
    rw [BitVec.toInt_eq_toNat_cond, BitVec.toNat_ofNat, Nat.mod_eq_of_lt (by omega), if_pos (by omega)]
  rw [e, ← ei, ← BitVec.slt_iff_toInt_lt]
  unfold IntOp.cmpi
  cases h : (BitVec.ofNat 32 (2048 * n + u)).slt w <;> simp [h]

theorem live_at (hO : Ok m) (c : Dev nD) (t : Fin (cfgM m hO).N) (i : Fin 8) (u : Fin 2048) :
    live m hO c t (ix2 i u) = 1#1 ↔ ((2048 * (t.val % 32) + u.val : ℕ) : Int) < (lens m c (row t)).toInt := by
  unfold live
  rw [lenWord_eq, c1]
  refine Iff.trans ?_ (slt_iff (t.val % 32) u.val (Nat.mod_lt _ (by decide)) u.isLt _)
  refine iff_of_eq (congrArg (· = 1#1) ?_)
  pointwise [k0_pay141]
  rfl

theorem cond2_iff (hO : Ok m) (c : Dev nD) (t : Fin (cfgM m hO).N) :
    cond0_2 (grid0.coords t) (lenWord m hO c t) ↔ ((t.val % 32 * 2048 : ℕ) : Int) < (lens m c (row t)).toInt := by
  rw [lenWord_eq]
  show Scalar.cmpi .ne (Scalar.extui (Scalar.cmpi .slt (Scalar.muli (BitVec.ofNat 32 ((grid0.coords t) 1).val) 2048#32) _)) 0#32 = 1#1 ↔ _
  rw [c1]
  have h := slt_iff (t.val % 32) 0 (Nat.mod_lt _ (by decide)) (by decide) (lens m c (row t))
  have e0 : IntOp.addi (IntOp.muli (BitVec.ofNat 32 (t.val % 32)) 2048#32) (BitVec.ofNat 32 0) = IntOp.muli (BitVec.ofNat 32 (t.val % 32)) 2048#32 := by
    unfold IntOp.addi; simp
  rw [e0, Nat.add_zero, Nat.mul_comm] at h
  refine Iff.trans ?_ h
  have hb : ∀ b : BitVec 1, Scalar.cmpi .ne (Scalar.extui b) (0#32 : BitVec 32) = 1#1 ↔ b = 1#1 := by decide
  exact hb _

end Cert.KernelIdeal.Gen

end
-- ==== Proof.PrepReadIdeal.lean ====
/- What the first grid point prepares for the steps of tokens, from the arguments. -/
module

public import proofs.«01_k».proof.Proof.PrepValue
public import proofs.«01_k».proof.Proof.InputIdeal

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ)

/-- The query rows by head. -/
def xh (c : Dev nD) (n : Fin 3) (i : Fin 32) (d : Fin 128) : EReal := m ((c : Thread nD τ).loc main_arg0) (ix3 n 0 ⟨128 * i.val + d.val, by omega⟩)

/-- The new key and value rows. -/
def kn (c : Dev nD) (n : Fin 3) (g : Fin 8) (d : Fin 128) : EReal := m ((c : Thread nD τ).loc main_arg1) (ix4 n 0 g d)
def vn (c : Dev nD) (n : Fin 3) (g : Fin 8) (d : Fin 128) : EReal := m ((c : Thread nD τ).loc main_arg2) (ix4 n 0 g d)

theorem inbX (k : Fin 32) : ∀ a, (![k.val, 0, 0] : Fin 3 → ℕ) a + S1x3x128.size a ≤ S32x8x128.size a := by intro a; have := k.isLt; match a with | ⟨0, _⟩ => show k.val + 1 ≤ 32; omega | ⟨1, _⟩ => show 0 + 3 ≤ 8; omega | ⟨2, _⟩ => show 0 + 128 ≤ 128; omega

/-- One head's rows as they are stored. -/
def xhPiece (X : FVec Ideal S3x4096 .bf16) (k : Fin 32) : View.Piece (Elt Ideal) S32x8x128 .f32 :=
  ⟨Rect.unit ![k.val, 0, 0] S1x3x128.size (inbX k),
   k0_pay13 (F := Ideal) (View.ld (Val := Elt Ideal) (e' := .bf16) (S := S3x4096) X (Rect.unit ![0, 128 * k.val] S3x128.size (by intro a; have := k.isLt; match a with | ⟨0, _⟩ => show 0 + 3 ≤ 3; omega | ⟨1, _⟩ => show 128 * k.val + 128 ≤ 4096; omega)))⟩

theorem xhPiece_at (X : FVec Ideal S3x4096 .bf16) (i : Fin 32) (n : Fin 3) (d : Fin 128) :
    (xhPiece X i).2 (ix3 0 n d : S1x3x128.Idx) = X (ix2 n ⟨128 * i.val + d.val, by omega⟩) := by
  unfold xhPiece
  pointwise [k0_pay13]

theorem canon_rows (X : FVec Ideal S3x4096 .bf16) (i : Fin 32) (n : Fin 3) (d : Fin 128) (ks : List (Fin 32)) (hi : i ∈ ks) :
    View.canon (ks.map (xhPiece X)) (ix3 i ⟨n.val, by omega⟩ d) = X (ix2 n ⟨128 * i.val + d.val, by omega⟩) := by
  induction ks with
  | nil => exact absurd hi List.not_mem_nil
  | cons k ks ih =>
    by_cases h : i = k
    · subst h
      have e : (ix3 i ⟨n.val, by omega⟩ d : S32x8x128.Idx) = (xhPiece X i).1.emb (ix3 0 n d : S1x3x128.Idx) := by
        funext a
        apply Fin.ext
        match a with
        | ⟨0, _⟩ => show i.val = i.val + 1 * 0; omega
        | ⟨1, _⟩ => show n.val = 0 + 1 * n.val; omega
        | ⟨2, _⟩ => show d.val = 0 + 1 * d.val; omega
      rw [e, List.map_cons]
      exact (View.canon_cons_emb _ _ _ _).trans (xhPiece_at X i n d)
    · rw [List.map_cons, View.canon_cons_of_not_mem]
      · exact ih ((List.mem_cons.mp hi).resolve_left h)
      · intro hm
        have h1 := (Rect.mem_set_unit (s := S32x8x128) (off := ![k.val, 0, 0]) (size := S1x3x128.size) (inb := inbX k)).mp hm 0
        have h2 : k.val ≤ i.val := h1.1
        have h3 : i.val < k.val + 1 := h1.2
        exact h (Fin.ext (by omega))

/-- The query rows as they are stored, head by head. -/
def xhPieces (X : FVec Ideal S3x4096 .bf16) : List (View.Piece (Elt Ideal) S32x8x128 .f32) :=
  ([31, 30, 29, 28, 27, 26, 25, 24, 23, 22, 21, 20, 19, 18, 17, 16, 15, 14, 13, 12, 11, 10, 9, 8, 7, 6, 5, 4, 3, 2, 1, 0] : List (Fin 32)).map (xhPiece X)

theorem xhPieces_at (X : FVec Ideal S3x4096 .bf16) (i : Fin 32) (n : Fin 3) (d : Fin 128) :
    View.canon (xhPieces X) (ix3 i ⟨n.val, by omega⟩ d) = X (ix2 n ⟨128 * i.val + d.val, by omega⟩) :=
  canon_rows X i n d _ (by revert i; decide)

theorem H15_eq (hO : Ok m) (c : Dev nD) :
    runPrep.sl.H15_32 (F := Ideal) c (ms0_0 m hO (pt0 m hO)) (hs0_0 m hO (pt0 m hO)) (in3 m hO c (pt0 m hO)) = xhPieces (in3 m hO c (pt0 m hO)) := by
  unfold runPrep.sl.H15_32
  frame_out
  rfl

theorem xh_read (hO : Ok m) (c : Dev nD) (i : Fin 32) (n : Fin 3) (d : Fin 128) :
    View.canon (runPrep.sl.H15_32 (F := Ideal) c (ms0_0 m hO (pt0 m hO)) (hs0_0 m hO (pt0 m hO)) (in3 m hO c (pt0 m hO))) (ix3 i ⟨n.val, by omega⟩ d) = xh m c n i d := by
  rw [H15_eq]
  exact (xhPieces_at (in3 m hO c (pt0 m hO)) i n d).trans (in3_at m hO c n _)

theorem readX (v : View sig .tc .vmem S32x8x128 .f32) (L : List (View.Piece (Elt Ideal) S32x8x128 .f32)) (n : ℕ) (hn : n < 8) (inb) (i : Fin 32) (d : Fin 128) :
    v.readCov L (Rect.unit (s := S32x8x128) ![0, n, 0] S32x1x128.size inb).toLoadRect (ix3 i 0 d) = View.canon L (ix3 i ⟨n, hn⟩ d) := by
  refine (congrFun (View.readCov_eq_canon' v L _) _).trans ?_
  refine congrArg (View.canon L) ?_
  funext a
  apply Fin.ext
  match a with
  | ⟨0, _⟩ => show 0 + 1 * i.val = i.val; omega
  | ⟨1, _⟩ => show n + 1 * 0 = n; omega
  | ⟨2, _⟩ => show 0 + 1 * d.val = d.val; omega

theorem v807_at (hO : Ok m) (c : Dev nD) (i : Fin 32) (d : Fin 128) :
    runPrep.sl.v807 (F := Ideal) c (ms0_0 m hO (pt0 m hO)) (hs0_0 m hO (pt0 m hO)) scM0_0 (in3 m hO c (pt0 m hO)) (ix3 i 0 d) = xh m c 2 i d := by
  unfold runPrep.sl.v807
  exact (readX _ _ 2 (by decide) _ i d).trans (xh_read m hO c i 2 d)

theorem v587_at (hO : Ok m) (c : Dev nD) (i : Fin 32) (d : Fin 128) :
    runPrep.sl.v587 (F := Ideal) c (ms0_0 m hO (pt0 m hO)) (hs0_0 m hO (pt0 m hO)) scM0_0 (in3 m hO c (pt0 m hO)) (ix3 i 0 d) = xh m c 1 i d := by
  unfold runPrep.sl.v587
  exact (readX _ _ 1 (by decide) _ i d).trans (xh_read m hO c i 1 d)

theorem v367_at (hO : Ok m) (c : Dev nD) (i : Fin 32) (d : Fin 128) :
    runPrep.sl.v367 (F := Ideal) c (ms0_0 m hO (pt0 m hO)) (hs0_0 m hO (pt0 m hO)) scM0_0 (in3 m hO c (pt0 m hO)) (ix3 i 0 d) = xh m c 0 i d := by
  unfold runPrep.sl.v367
  exact (readX _ _ 0 (by decide) _ i d).trans (xh_read m hO c i 0 d)

set_option maxHeartbeats 1000000 in
theorem prepQ_at (hO : Ok m) (c : Dev nD) (n : Fin 3) (i : Fin 32) (k : Fin 2) (j : Fin 128) :
    prepQ m hO c (pt0 m hO) (pt0_cond m hO) (ix3 n i ⟨128 * k.val + j.val, by omega⟩)
      = if i.val / 4 % 2 = k.val then Row.rot (xh m c n i) (Row.dim j) else 0 := by
  unfold prepQ prepR runPrep
  dsimp only
  canon_tiles x h
  · have hx : x = ix3 0 i ⟨128 * k.val + j.val, by omega⟩ := by
      have h1' : i.val = (x 1).val := h1
      have h2' : 128 * k.val + j.val = (x 2).val := h2
      idx_ext <;> omega
    have hb : n = 2 := Fin.ext (by
      have h0' : n.val = 2 + (x 0).val := h0
      show n.val = 2
      omega)
    rw [hx]
    clear h0 h1 h2 x0_lt x1_lt x2_lt hx
    subst hb
    refine (prepQ_val _ i k j).trans ?_
    refine congrArg (fun v => if i.val / 4 % 2 = k.val then Row.rot v (Row.dim j) else 0) (funext fun d => ?_)
    exact v807_at m hO c i d
  · have hx : x = ix3 0 i ⟨128 * k.val + j.val, by omega⟩ := by
      have h1' : i.val = (x 1).val := h1
      have h2' : 128 * k.val + j.val = (x 2).val := h2
      idx_ext <;> omega
    have hb : n = 1 := Fin.ext (by
      have h0' : n.val = 1 + (x 0).val := h0
      show n.val = 1
      omega)
    rw [hx]
    clear h0 h1 h2 x0_lt x1_lt x2_lt hx
    subst hb
    refine (prepQ_val _ i k j).trans ?_
    refine congrArg (fun v => if i.val / 4 % 2 = k.val then Row.rot v (Row.dim j) else 0) (funext fun d => ?_)
    exact v587_at m hO c i d
  · have hx : x = ix3 0 i ⟨128 * k.val + j.val, by omega⟩ := by
      have h1' : i.val = (x 1).val := h1
      have h2' : 128 * k.val + j.val = (x 2).val := h2
      idx_ext <;> omega
    have hb : n = 0 := Fin.ext (by
      have h0' : n.val = (x 0).val := h0
      show n.val = 0
      omega)
    rw [hx]
    clear h0 h1 h2 x0_lt x1_lt x2_lt hx
    subst hb
    refine (prepQ_val _ i k j).trans ?_
    refine congrArg (fun v => if i.val / 4 % 2 = k.val then Row.rot v (Row.dim j) else 0) (funext fun d => ?_)
    exact v367_at m hO c i d

end Cert.KernelIdeal.Gen

end
-- ==== Proof.PrepRowIdeal.lean ====
/- The new token's score and row as the first grid point prepares them, from the arguments. -/
module

public import proofs.«01_k».proof.Proof.PrepReadIdeal

@[expose] public section

set_option maxRecDepth 16384

noncomputable section

namespace Cert.KernelIdeal.Gen

open Idealize.ShloMosaic Idealize.ShloMosaic.TcCoe Idealize.SL.Sem

section pieces
variable (L : FVec Ideal S1x8x128 .bf16) (g : Fin 8) (d : Fin 128)

theorem keyRow0 : k0_pay65 (F := Ideal) (k0_pay55 (k0_pay53 k0_pay10 L) k0_pay54) (k0_pay56 (k0_pay52 k0_pay10 L) (k0_pay53 k0_pay10 L) k0_pay54) (ix3 0 g d)
    = Row.code (fun d => L (ix3 0 g d)) d * Row.scale (fun d => L (ix3 0 g d)) := by
  pointwise [k0_pay65, k0_pay56, k0_pay55, k0_pay54, k0_pay53, k0_pay52, rot_at]
  rfl
theorem keyRow1 : k0_pay96 (F := Ideal) (k0_pay85 (k0_pay83 k0_pay10 L)) (k0_pay86 (k0_pay83 k0_pay10 L)) (ix3 0 g d)
    = Row.code (fun d => L (ix3 0 g d)) d * Row.scale (fun d => L (ix3 0 g d)) := by
  pointwise [k0_pay96, k0_pay86, k0_pay85, k0_pay84, k0_pay83, rot_at]
  rfl
theorem keyRow2 : k0_pay122 (F := Ideal) (k0_pay121 (k0_pay111 k0_pay10 L) (k0_pay112 k0_pay10 L)) (ix3 0 g d)
    = Row.code (fun d => L (ix3 0 g d)) d * Row.scale (fun d => L (ix3 0 g d)) := by
  pointwise [k0_pay122, k0_pay121, k0_pay112, k0_pay111, k0_pay110, rot_at]
  rfl
theorem valRow0 : k0_pay66 (F := Ideal) (k0_pay59 k0_pay10 L) (ix3 0 g d) = Row.code (fun d => L (ix3 0 g d)) d := by
  pointwise [k0_pay66, k0_pay59, k0_pay58, k0_pay57, rot_at]
  rfl
theorem valRow1 : k0_pay97 (F := Ideal) (k0_pay89 k0_pay10 L) (ix3 0 g d) = Row.code (fun d => L (ix3 0 g d)) d := by
  pointwise [k0_pay97, k0_pay89, k0_pay88, k0_pay87, rot_at]
  rfl
theorem valRow2 : k0_pay123 (F := Ideal) (k0_pay116 (k0_pay115 k0_pay10 L)) (ix3 0 g d) = Row.code (fun d => L (ix3 0 g d)) d := by
  pointwise [k0_pay123, k0_pay116, k0_pay115, k0_pay114, k0_pay113, rot_at]
  rfl
theorem valScale0 : k0_pay68 (F := Ideal) (k0_pay67 (k0_pay58 k0_pay10 L)) (ix3 0 g d) = Row.scale (fun d => L (ix3 0 g d)) := by
  pointwise [k0_pay68, k0_pay67, k0_pay58, k0_pay57, rot_at]
  rfl
theorem valScale1 : k0_pay98 (F := Ideal) (k0_pay88 k0_pay10 L) (ix3 0 g d) = Row.scale (fun d => L (ix3 0 g d)) := by
  pointwise [k0_pay98, k0_pay88, k0_pay87, rot_at]
  rfl
theorem valScale2 : k0_pay124 (F := Ideal) (k0_pay114 k0_pay10 L) (ix3 0 g d) = Row.scale (fun d => L (ix3 0 g d)) := by
  pointwise [k0_pay124, k0_pay114, k0_pay113, rot_at]
  rfl
end pieces

section three
variable (w0 w1 w2 : FVec Ideal S1x8x128 .f32) (Ls : List (View.Piece (Elt Ideal) S3x8x128 .f32)) (g : Fin 8) (d : Fin 128)

theorem emb_row (n : ℕ) (hn : n < 3) (inb) : (ix3 ⟨n, hn⟩ g d : S3x8x128.Idx) = (Rect.unit (s := S3x8x128) ![n, 0, 0] S1x8x128.size inb).emb (ix3 0 g d : S1x8x128.Idx) := by
  funext a
  apply Fin.ext
  match a with
  | ⟨0, _⟩ => show n = n + 1 * 0; omega
  | ⟨1, _⟩ => show g.val = 0 + 1 * g.val; omega
  | ⟨2, _⟩ => show d.val = 0 + 1 * d.val; omega

theorem not_row (n k : ℕ) (hn : n < 3) (hnk : n ≠ k) (inb) : (ix3 ⟨n, hn⟩ g d : S3x8x128.Idx) ∉ (Rect.unit (s := S3x8x128) ![k, 0, 0] S1x8x128.size inb).set := by
  intro hm
  have h1 := Rect.mem_set_unit.mp hm 0
  have h2 : k ≤ n := h1.1
  have h3 : n < k + 1 := h1.2
  omega

theorem skip_row (n k : ℕ) (hn : n < 3) (hnk : n ≠ k) (inb) (w : FVec Ideal S1x8x128 .f32) :
    View.canon ((⟨Rect.unit (s := S3x8x128) ![k, 0, 0] S1x8x128.size inb, w⟩ : View.Piece (Elt Ideal) S3x8x128 .f32) :: Ls) (ix3 ⟨n, hn⟩ g d) = View.canon Ls (ix3 ⟨n, hn⟩ g d) :=
  View.canon_cons_of_not_mem _ _ (not_row g d n k hn hnk inb)

theorem hit_row (n : ℕ) (hn : n < 3) (inb) (w : FVec Ideal S1x8x128 .f32) :
    View.canon ((⟨Rect.unit (s := S3x8x128) ![n, 0, 0] S1x8x128.size inb, w⟩ : View.Piece (Elt Ideal) S3x8x128 .f32) :: Ls) (ix3 ⟨n, hn⟩ g d) = w (ix3 0 g d) := by
  rw [emb_row g d n hn inb]
  exact View.canon_cons_emb _ _ _ _

theorem three_2 (i0 i1 i2) : View.canon ((⟨Rect.unit (s := S3x8x128) ![2, 0, 0] S1x8x128.size i2, w2⟩ : View.Piece (Elt Ideal) S3x8x128 .f32) :: ⟨Rect.unit (s := S3x8x128) ![1, 0, 0] S1x8x128.size i1, w1⟩ :: ⟨Rect.unit (s := S3x8x128) ![0, 0, 0] S1x8x128.size i0, w0⟩ :: Ls) (ix3 2 g d) = w2 (ix3 0 g d) := by
  rw [show (ix3 2 g d : S3x8x128.Idx) = ix3 ⟨2, by decide⟩ g d from rfl, emb_row g d 2 (by decide) i2]
  exact View.canon_cons_emb _ _ _ _

theorem three_1 (i0 i1 i2) : View.canon ((⟨Rect.unit (s := S3x8x128) ![2, 0, 0] S1x8x128.size i2, w2⟩ : View.Piece (Elt Ideal) S3x8x128 .f32) :: ⟨Rect.unit (s := S3x8x128) ![1, 0, 0] S1x8x128.size i1, w1⟩ :: ⟨Rect.unit (s := S3x8x128) ![0, 0, 0] S1x8x128.size i0, w0⟩ :: Ls) (ix3 1 g d) = w1 (ix3 0 g d) := by
  exact (skip_row _ g d 1 2 (by decide) (by decide) i2 w2).trans (hit_row _ g d 1 (by decide) i1 w1)

theorem three_0 (i0 i1 i2) : View.canon ((⟨Rect.unit (s := S3x8x128) ![2, 0, 0] S1x8x128.size i2, w2⟩ : View.Piece (Elt Ideal) S3x8x128 .f32) :: ⟨Rect.unit (s := S3x8x128) ![1, 0, 0] S1x8x128.size i1, w1⟩ :: ⟨Rect.unit (s := S3x8x128) ![0, 0, 0] S1x8x128.size i0, w0⟩ :: Ls) (ix3 0 g d) = w0 (ix3 0 g d) := by
  exact (skip_row _ g d 0 2 (by decide) (by decide) i2 w2).trans ((skip_row _ g d 0 1 (by decide) (by decide) i1 w1).trans (hit_row _ g d 0 (by decide) i0 w0))
end three

theorem readN (v : View sig .tc .vmem S3x8x128 .f32) (L : List (View.Piece (Elt Ideal) S3x8x128 .f32)) (n : Fin 3) (g : Fin 8) (inb) (d : Fin 128) :
    v.readCov L (Rect.unit (s := S3x8x128) ![n.val, g.val, 0] S1x1x128.size inb).toLoadRect (ix3 0 0 d) = View.canon L (ix3 n g d) := by
  refine (congrFun (View.readCov_eq_canon' v L _) _).trans ?_
  refine congrArg (View.canon L) ?_
  funext a
  apply Fin.ext
  match a with
  | ⟨0, _⟩ => show n.val + 1 * 0 = n.val; omega
  | ⟨1, _⟩ => show g.val + 1 * 0 = g.val; omega
  | ⟨2, _⟩ => show 0 + 1 * d.val = d.val; omega

section forms
variable (X : FVec Ideal S32x1x128 .f32) (a0 a1 a2 a3 a4 a5 a6 a7 b0 b1 b2 b3 b4 b5 b6 b7 : FVec Ideal S1x1x128 .f32)

theorem rotForm0 : k0_pay71 (F := Ideal) k0_pay10 X = k0_pay127 (F := Ideal) k0_pay10 X := rfl
theorem rotForm1 : k0_pay101 (F := Ideal) k0_pay10 X = k0_pay127 (F := Ideal) k0_pay10 X := rfl

theorem scoreForm0 : k0_pay76 (F := Ideal) (k0_pay71 k0_pay10 X) (k0_pay72 a0) (k0_pay73 a1) (k0_pay74 a2) (k0_pay75 a3) a4 a5 a6 a7
    = scoreN (k0_pay127 k0_pay10 X) (heads a0 a1 a2 a3 a4 a5 a6 a7) := by
  rw [rotForm0]
  rfl
theorem scoreForm1 : k0_pay104 (F := Ideal) (k0_pay101 k0_pay10 X) (k0_pay102 a0) (k0_pay103 a1) a2 a3 a4 a5 a6 a7
    = scoreN (k0_pay127 k0_pay10 X) (heads a0 a1 a2 a3 a4 a5 a6 a7) := by
  rw [rotForm1]
  rfl
theorem scoreForm2 : k0_pay130 (F := Ideal) (k0_pay129 (k0_pay127 k0_pay10 X) (k0_pay128 a0) a1 a2 a3 a4 a5 a6 a7)
    = scoreN (k0_pay127 k0_pay10 X) (heads a0 a1 a2 a3 a4 a5 a6 a7) := rfl
theorem valueForm0 : k0_pay82 (F := Ideal) k0_pay51 (k0_pay79 (k0_pay77 a0) (k0_pay78 a1) a2 a3 a4 a5 a6 a7) (k0_pay80 b0) (k0_pay81 b1) b2 b3 b4 b5 b6 b7
    = k0_pay2 (F := Ideal) k0_pay51 (heads a0 a1 a2 a3 a4 a5 a6 a7) (heads b0 b1 b2 b3 b4 b5 b6 b7) := rfl
theorem valueForm1 : k0_pay109 (F := Ideal) (k0_pay108 k0_pay51 (k0_pay106 (k0_pay105 a0) a1 a2 a3 a4 a5 a6 a7) (k0_pay107 b0) b1 b2 b3 b4 b5 b6 b7)
    = k0_pay2 (F := Ideal) k0_pay51 (heads a0 a1 a2 a3 a4 a5 a6 a7) (heads b0 b1 b2 b3 b4 b5 b6 b7) := rfl
theorem valueForm2 : k0_pay2 (F := Ideal) k0_pay51 (k0_pay139 (k0_pay131 a0) (k0_pay132 a1) (k0_pay133 a2) (k0_pay134 a3) (k0_pay135 a4) (k0_pay136 a5) (k0_pay137 a6) (k0_pay138 a7)) (k0_pay140 b0 b1 b2 b3 b4 b5 b6 b7)
    = k0_pay2 (F := Ideal) k0_pay51 (heads a0 a1 a2 a3 a4 a5 a6 a7) (heads b0 b1 b2 b3 b4 b5 b6 b7) := rfl
end forms

variable (m : (ℓ : Loc nD τ sig) → Buf (Elt Ideal) ℓ) (hO : Ok m) (c : Dev nD)

theorem new0_0 (g : Fin 8) (d : Fin 128) :
    View.canon (runPrep.sl.H16_3 (F := Ideal) c (ms0_1 m hO (pt0 m hO)) (hs0_1 m hO (pt0 m hO)) (ms0_2 m hO (pt0 m hO)) (hs0_2 m hO (pt0 m hO)) (in4 m hO c (pt0 m hO)) (in5 m hO c (pt0 m hO))) (ix3 0 g d) = Row.code (kn m c 0 g) d * Row.scale (kn m c 0 g) := by
  refine (three_0 _ _ _ _ g d _ _ _).trans ?_
  refine (keyRow0 _ g d).trans ?_
  refine congrArg (fun v => Row.code v d * Row.scale v) (funext fun e => ?_)
  refine Eq.trans ?_ (in4_at m hO c 0 g e)
  frame_out
  pointwise

theorem new0_1 (g : Fin 8) (d : Fin 128) :
    View.canon (runPrep.sl.H16_3 (F := Ideal) c (ms0_1 m hO (pt0 m hO)) (hs0_1 m hO (pt0 m hO)) (ms0_2 m hO (pt0 m hO)) (hs0_2 m hO (pt0 m hO)) (in4 m hO c (pt0 m hO)) (in5 m hO c (pt0 m hO))) (ix3 1 g d) = Row.code (vn m c 0 g) d := by
  refine (three_1 _ _ _ _ g d _ _ _).trans ?_
  refine (valRow0 _ g d).trans ?_
  refine congrArg (fun v => Row.code v d) (funext fun e => ?_)
  refine Eq.trans ?_ (in5_at m hO c 0 g e)
  frame_out
  pointwise

theorem new0_2 (g : Fin 8) (d : Fin 128) :
    View.canon (runPrep.sl.H16_3 (F := Ideal) c (ms0_1 m hO (pt0 m hO)) (hs0_1 m hO (pt0 m hO)) (ms0_2 m hO (pt0 m hO)) (hs0_2 m hO (pt0 m hO)) (in4 m hO c (pt0 m hO)) (in5 m hO c (pt0 m hO))) (ix3 2 g d) = Row.scale (vn m c 0 g) := by
  refine (three_2 _ _ _ _ g d _ _ _).trans ?_
  refine (valScale0 _ g d).trans ?_
  refine congrArg (fun v => Row.scale v) (funext fun e => ?_)
  refine Eq.trans ?_ (in5_at m hO c 0 g e)
  frame_out
  pointwise

theorem new1_0 (g : Fin 8) (d : Fin 128) :
    View.canon (runPrep.sl.H16_6 (F := Ideal) c (ms0_1 m hO (pt0 m hO)) (hs0_1 m hO (pt0 m hO)) (ms0_2 m hO (pt0 m hO)) (hs0_2 m hO (pt0 m hO)) (in4 m hO c (pt0 m hO)) (in5 m hO c (pt0 m hO))) (ix3 0 g d) = Row.code (kn m c 1 g) d * Row.scale (kn m c 1 g) := by
  refine (three_0 _ _ _ _ g d _ _ _).trans ?_
  refine (keyRow1 _ g d).trans ?_
  refine congrArg (fun v => Row.code v d * Row.scale v) (funext fun e => ?_)
  refine Eq.trans ?_ (in4_at m hO c 1 g e)
  frame_out
  pointwise

theorem new1_1 (g : Fin 8) (d : Fin 128) :
    View.canon (runPrep.sl.H16_6 (F := Ideal) c (ms0_1 m hO (pt0 m hO)) (hs0_1 m hO (pt0 m hO)) (ms0_2 m hO (pt0 m hO)) (hs0_2 m hO (pt0 m hO)) (in4 m hO c (pt0 m hO)) (in5 m hO c (pt0 m hO))) (ix3 1 g d) = Row.code (vn m c 1 g) d := by
  refine (three_1 _ _ _ _ g d _ _ _).trans ?_
  refine (valRow1 _ g d).trans ?_
  refine congrArg (fun v => Row.code v d) (funext fun e => ?_)
  refine Eq.trans ?_ (in5_at m hO c 1 g e)
  frame_out
  pointwise

theorem new1_2 (g : Fin 8) (d : Fin 128) :
    View.canon (runPrep.sl.H16_6 (F := Ideal) c (ms0_1 m hO (pt0 m hO)) (hs0_1 m hO (pt0 m hO)) (ms0_2 m hO (pt0 m hO)) (hs0_2 m hO (pt0 m hO)) (in4 m hO c (pt0 m hO)) (in5 m hO c (pt0 m hO))) (ix3 2 g d) = Row.scale (vn m c 1 g) := by
  refine (three_2 _ _ _ _ g d _ _ _).trans ?_
  refine (valScale1 _ g d).trans ?_
  refine congrArg (fun v => Row.scale v) (funext fun e => ?_)
  refine Eq.trans ?_ (in5_at m hO c 1 g e)
  frame_out
  pointwise

theorem new2_0 (g : Fin 8) (d : Fin 128) :
    View.canon (runPrep.sl.H16_9 (F := Ideal) c (ms0_1 m hO (pt0 m hO)) (hs0_1 m hO (pt0 m hO)) (ms0_2 m hO (pt0 m hO)) (hs0_2 m hO (pt0 m hO)) (in4 m hO c (pt0 m hO)) (in5 m hO c (pt0 m hO))) (ix3 0 g d) = Row.code (kn m c 2 g) d * Row.scale (kn m c 2 g) := by
  refine (three_0 _ _ _ _ g d _ _ _).trans ?_
  refine (keyRow2 _ g d).trans ?_
  refine congrArg (fun v => Row.code v d * Row.scale v) (funext fun e => ?_)
  refine Eq.trans ?_ (in4_at m hO c 2 g e)
  frame_out
  pointwise

theorem new2_1 (g : Fin 8) (d : Fin 128) :
    View.canon (runPrep.sl.H16_9 (F := Ideal) c (ms0_1 m hO (pt0 m hO)) (hs0_1 m hO (pt0 m hO)) (ms0_2 m hO (pt0 m hO)) (hs0_2 m hO (pt0 m hO)) (in4 m hO c (pt0 m hO)) (in5 m hO c (pt0 m hO))) (ix3 1 g d) = Row.code (vn m c 2 g) d := by
  refine (three_1 _ _ _ _ g d _ _ _).trans ?_
  refine (valRow2 _ g d).trans ?_
  refine congrArg (fun v => Row.code v d) (funext fun e => ?_)
  refine Eq.trans ?_ (in5_at m hO c 2 g e)
  frame_out
  pointwise

theorem new2_2 (g : Fin 8) (d : Fin 128) :
    View.canon (runPrep.sl.H16_9 (F := Ideal) c (ms0_1 m hO (pt0 m hO)) (hs0_1 m hO (pt0 m hO)) (ms0_2 m hO (pt0 m hO)) (hs0_2 m hO (pt0 m hO)) (in4 m hO c (pt0 m hO)) (in5 m hO c (pt0 m hO))) (ix3 2 g d) = Row.scale (vn m c 2 g) := by
  refine (three_2 _ _ _ _ g d _ _ _).trans ?_
  refine (valScale2 _ g d).trans ?_
  refine congrArg (fun v => Row.scale v) (funext fun e => ?_)
  refine Eq.trans ?_ (in5_at m hO c 2 g e)
  frame_out
  pointwise

set_option maxHeartbeats 1000000 in
theorem prepSn_at (n : Fin 3) (i : Fin 32) (l : Fin 128) :
    prepSn m hO c (pt0 m hO) (pt0_cond m hO) (ix3 n i l)
      = (∑ d, Row.rot (xh m c n i) d * (Row.code (kn m c n ⟨i.val / 4, by omega⟩) d * Row.scale (kn m c n ⟨i.val / 4, by omega⟩))) * Row.unit := by
  unfold prepSn prepR runPrep
  dsimp only
  canon_tiles x h
  · have hx : x = ix3 0 i l := by
      have h1' : i.val = (x 1).val := h1
      have h2' : l.val = (x 2).val := h2
      idx_ext <;> omega
    have hb : n = 2 := Fin.ext (by
      have h0' : n.val = 2 + (x 0).val := h0
      show n.val = 2
      omega)
    rw [hx]
    clear h0 h1 h2 x0_lt x1_lt x2_lt hx
    subst hb
    refine (congrFun (scoreForm2 _ _ _ _ _ _ _ _ _) (ix3 0 i l)).trans ?_
    refine (scoreN_at _ _ i l).trans ?_
    refine congrArg (· * Row.unit) (Finset.sum_congr rfl fun d _ => ?_)
    refine congrArg₂ (· * ·) ((prepRot_val _ i d).trans ?_) ?_
    · exact congrArg (fun v => Row.rot v d) (funext fun e => v807_at m hO c i e)
    · exact (heads_at _ _ _ _ _ _ _ _ (fun g d => Row.code (kn m c 2 g) d * Row.scale (kn m c 2 g)) (fun d => (readN _ _ 0 0 _ d).trans (new2_0 m hO c 0 d)) (fun d => (readN _ _ 0 1 _ d).trans (new2_0 m hO c 1 d)) (fun d => (readN _ _ 0 2 _ d).trans (new2_0 m hO c 2 d)) (fun d => (readN _ _ 0 3 _ d).trans (new2_0 m hO c 3 d)) (fun d => (readN _ _ 0 4 _ d).trans (new2_0 m hO c 4 d)) (fun d => (readN _ _ 0 5 _ d).trans (new2_0 m hO c 5 d)) (fun d => (readN _ _ 0 6 _ d).trans (new2_0 m hO c 6 d)) (fun d => (readN _ _ 0 7 _ d).trans (new2_0 m hO c 7 d)) i d)
  · have hx : x = ix3 0 i l := by
      have h1' : i.val = (x 1).val := h1
      have h2' : l.val = (x 2).val := h2
      idx_ext <;> omega
    have hb : n = 1 := Fin.ext (by
      have h0' : n.val = 1 + (x 0).val := h0
      show n.val = 1
      omega)
    rw [hx]
    clear h0 h1 h2 x0_lt x1_lt x2_lt hx
    subst hb
    refine (congrFun (scoreForm1 _ _ _ _ _ _ _ _ _) (ix3 0 i l)).trans ?_
    refine (scoreN_at _ _ i l).trans ?_
    refine congrArg (· * Row.unit) (Finset.sum_congr rfl fun d _ => ?_)
    refine congrArg₂ (· * ·) ((prepRot_val _ i d).trans ?_) ?_
    · exact congrArg (fun v => Row.rot v d) (funext fun e => v587_at m hO c i e)
    · exact (heads_at _ _ _ _ _ _ _ _ (fun g d => Row.code (kn m c 1 g) d * Row.scale (kn m c 1 g)) (fun d => (readN _ _ 0 0 _ d).trans (new1_0 m hO c 0 d)) (fun d => (readN _ _ 0 1 _ d).trans (new1_0 m hO c 1 d)) (fun d => (readN _ _ 0 2 _ d).trans (new1_0 m hO c 2 d)) (fun d => (readN _ _ 0 3 _ d).trans (new1_0 m hO c 3 d)) (fun d => (readN _ _ 0 4 _ d).trans (new1_0 m hO c 4 d)) (fun d => (readN _ _ 0 5 _ d).trans (new1_0 m hO c 5 d)) (fun d => (readN _ _ 0 6 _ d).trans (new1_0 m hO c 6 d)) (fun d => (readN _ _ 0 7 _ d).trans (new1_0 m hO c 7 d)) i d)
  · have hx : x = ix3 0 i l := by
      have h1' : i.val = (x 1).val := h1
      have h2' : l.val = (x 2).val := h2
      idx_ext <;> omega
    have hb : n = 0 := Fin.ext (by
      have h0' : n.val = (x 0).val := h0
      show n.val = 0
      omega)
    rw [hx]
    clear h0 h1 h2 x0_lt x1_lt x2_lt hx
    subst hb
    refine (congrFun (scoreForm0 _ _ _ _ _ _ _ _ _) (ix3 0 i l)).trans ?_
    refine (scoreN_at _ _ i l).trans ?_
    refine congrArg (· * Row.unit) (Finset.sum_congr rfl fun d _ => ?_)
    refine congrArg₂ (· * ·) ((prepRot_val _ i d).trans ?_) ?_
    · exact congrArg (fun v => Row.rot v d) (funext fun e => v367_at m hO c i e)
    · exact (heads_at _ _ _ _ _ _ _ _ (fun g d => Row.code (kn m c 0 g) d * Row.scale (kn m c 0 g)) (fun d => (readN _ _ 0 0 _ d).trans (new0_0 m hO c 0 d)) (fun d => (readN _ _ 0 1 _ d).trans (new0_0 m hO c 1 d)) (fun d => (readN _ _ 0 2 _ d).trans (new0_0 m hO c 2 d)) (fun d => (readN _ _ 0 3 _ d).trans (new0_0 m hO c 3 d)) (fun d => (readN _ _ 0 4 _ d).trans (new0_0 m hO c 4 d)) (fun d => (readN _ _ 0 5 _ d).trans (new0_0 m hO c 5 d)) (fun d => (readN _ _ 0 6 _ d).trans (new0_0 m hO c 6 d)) (fun d => (readN _ _ 0 7 _ d).trans (new0_0 m hO c 7 d)) i d)

set_option maxHeartbeats 1000000 in
theorem prepOn_at (n : Fin 3) (i : Fin 32) (l : Fin 128) :
    prepOn m hO c (pt0 m hO) (pt0_cond m hO) (ix3 n i l)
      = Row.scale (vn m c n ⟨i.val / 4, by omega⟩) * Row.code (vn m c n ⟨i.val / 4, by omega⟩) (Row.dim l) := by
  unfold prepOn prepR runPrep
  dsimp only
  canon_tiles x h
  · have hx : x = ix3 0 i l := by
      have h1' : i.val = (x 1).val := h1
      have h2' : l.val = (x 2).val := h2
      idx_ext <;> omega
    have hb : n = 2 := Fin.ext (by
      have h0' : n.val = 2 + (x 0).val := h0
      show n.val = 2
      omega)
    rw [hx]
    clear h0 h1 h2 x0_lt x1_lt x2_lt hx
    subst hb
    refine (congrFun (valueForm2 _ _ _ _ _ _ _ _ _ _ _ _ _ _ _ _) (ix3 0 i l)).trans ?_
    refine (valueN_at _ _ i l).trans ?_
    refine congrArg₂ (· * ·) ?_ ?_
    · exact (heads_at _ _ _ _ _ _ _ _ (fun g d => Row.scale (vn m c 2 g)) (fun d => (readN _ _ 2 0 _ d).trans (new2_2 m hO c 0 d)) (fun d => (readN _ _ 2 1 _ d).trans (new2_2 m hO c 1 d)) (fun d => (readN _ _ 2 2 _ d).trans (new2_2 m hO c 2 d)) (fun d => (readN _ _ 2 3 _ d).trans (new2_2 m hO c 3 d)) (fun d => (readN _ _ 2 4 _ d).trans (new2_2 m hO c 4 d)) (fun d => (readN _ _ 2 5 _ d).trans (new2_2 m hO c 5 d)) (fun d => (readN _ _ 2 6 _ d).trans (new2_2 m hO c 6 d)) (fun d => (readN _ _ 2 7 _ d).trans (new2_2 m hO c 7 d)) i l)
    · exact (heads_at _ _ _ _ _ _ _ _ (fun g d => Row.code (vn m c 2 g) d) (fun d => (readN _ _ 1 0 _ d).trans (new2_1 m hO c 0 d)) (fun d => (readN _ _ 1 1 _ d).trans (new2_1 m hO c 1 d)) (fun d => (readN _ _ 1 2 _ d).trans (new2_1 m hO c 2 d)) (fun d => (readN _ _ 1 3 _ d).trans (new2_1 m hO c 3 d)) (fun d => (readN _ _ 1 4 _ d).trans (new2_1 m hO c 4 d)) (fun d => (readN _ _ 1 5 _ d).trans (new2_1 m hO c 5 d)) (fun d => (readN _ _ 1 6 _ d).trans (new2_1 m hO c 6 d)) (fun d => (readN _ _ 1 7 _ d).trans (new2_1 m hO c 7 d)) i (Row.dim l))
  · have hx : x = ix3 0 i l := by
      have h1' : i.val = (x 1).val := h1
      have h2' : l.val = (x 2).val := h2
      idx_ext <;> omega
    have hb : n = 1 := Fin.ext (by
      have h0' : n.val = 1 + (x 0).val := h0
      show n.val = 1
      omega)
    rw [hx]
    clear h0 h1 h2 x0_lt x1_lt x2_lt hx
    subst hb
    refine (congrFun (valueForm1 _ _ _ _ _ _ _ _ _ _ _ _ _ _ _ _) (ix3 0 i l)).trans ?_
    refine (valueN_at _ _ i l).trans ?_
    refine congrArg₂ (· * ·) ?_ ?_
    · exact (heads_at _ _ _ _ _ _ _ _ (fun g d => Row.scale (vn m c 1 g)) (fun d => (readN _ _ 2 0 _ d).trans (new1_2 m hO c 0 d)) (fun d => (readN _ _ 2 1 _ d).trans (new1_2 m hO c 1 d)) (fun d => (readN _ _ 2 2 _ d).trans (new1_2 m hO c 2 d)) (fun d => (readN _ _ 2 3 _ d).trans (new1_2 m hO c 3 d)) (fun d => (readN _ _ 2 4 _ d).trans (new1_2 m hO c 4 d)) (fun d => (readN _ _ 2 5 _ d).trans (new1_2 m hO c 5 d)) (fun d => (readN _ _ 2 6 _ d).trans (new1_2 m hO c 6 d)) (fun d => (readN _ _ 2 7 _ d).trans (new1_2 m hO c 7 d)) i l)
    · exact (heads_at _ _ _ _ _ _ _ _ (fun g d => Row.code (vn m c 1 g) d) (fun d => (readN _ _ 1 0 _ d).trans (new1_1 m hO c 0 d)) (fun d => (readN _ _ 1 1 _ d).trans (new1_1 m hO c 1 d)) (fun d => (readN _ _ 1 2 _ d).trans (new1_1 m hO c 2 d)) (fun d => (readN _ _ 1 3 _ d).trans (new1_1 m hO c 3 d)) (fun d => (readN _ _ 1 4 _ d).trans (new1_1 m hO c 4 d)) (fun d => (readN _ _ 1 5 _ d).trans (new1_1 m hO c 5 d)) (fun d => (readN _ _ 1 6 _ d).trans (new1_1 m hO c 6 d)) (fun d => (readN _ _ 1 7 _ d).trans (new1_1 m hO c 7 d)) i (Row.dim l))
  · have hx : x = ix3 0 i l := by
      have h1' : i.val = (x 1).val := h1
      have h2' : l.val = (x 2).val := h2
      idx_ext <;> omega
    have hb : n = 0 := Fin.ext (by
      have h0' : n.val = (x 0).val := h0
      show n.val = 0
      omega)
    rw [hx]
    clear h0 h1 h2 x0_lt x1_lt x2_lt hx
    subst hb
    refine (congrFun (valueForm0 _ _ _ _ _ _ _ _ _ _ _ _ _ _ _ _) (ix3 0 i l)).trans ?_
    refine (valueN_at _ _ i l).trans ?_
    refine congrArg₂ (· * ·) ?_ ?_
    · exact (heads_at _ _ _ _ _ _ _ _ (fun g d => Row.scale (vn m c 0 g)) (fun d => (readN _ _ 2 0 _ d).trans (new0_2 m hO c 0 d)) (fun d => (readN _ _ 2 1 _ d).trans (new0_2 m hO c 1 d)) (fun d => (readN _ _ 2 2 _ d).trans (new0_2 m hO c 2 d)) (fun d => (readN _ _ 2 3 _ d).trans (new0_2 m hO c 3 d)) (fun d => (readN _ _ 2 4 _ d).trans (new0_2 m hO c 4 d)) (fun d => (readN _ _ 2 5 _ d).trans (new0_2 m hO c 5 d)) (fun d => (readN _ _ 2 6 _ d).trans (new0_2 m hO c 6 d)) (fun d => (readN _ _ 2 7 _ d).trans (new0_2 m hO c 7 d)) i l)
    · exact (heads_at _ _ _ _ _ _ _ _ (fun g d => Row.code (vn m c 0 g) d) (fun d => (readN _ _ 1 0 _ d).trans (new0_1 m hO c 0 d)) (fun d => (readN _ _ 1 1 _ d).trans (new0_1 m hO c 1 d)) (fun d => (readN _ _ 1 2 _ d).trans (new0_1 m hO c 2 d)) (fun d => (readN _ _ 1 3 _ d).trans (new0_1 m hO c 3 d)) (fun d => (readN _ _ 1 4 _ d).trans (new0_1 m hO c 4 d)) (fun d => (readN _ _ 1 5 _ d).trans (new0_1 m hO c 5 d)) (fun d => (readN _ _ 1 6 _ d).trans (new0_1 m hO c 6 d)) (fun d => (readN _ _ 1 7 _ d).trans (new0_1 m hO c 7 d)) i (Row.dim l))

end Cert.KernelIdeal.Gen

end
-- ==== Proof.ScoreIdeal.lean ====
/- One chunk's stage of the kernel: scores, weights and sums of a batch row's tokens, as the running maximum takes them in. -/
module

public import proofs.«01_k».proof.Proof.PrepRowIdeal
public import proofs.«01_k».proof.Proof.InputIdeal
public import proofs.«01_k».proof.Proof.SoftmaxValue
public import proofs.«01_k».proof.Proof.AttendValue

@[expose] public section

set_option maxRecDepth 16384

noncomputable section

namespace Cert.KernelIdeal.Gen

open Idealize.ShloMosaic Idealize.ShloMosaic.TcCoe Idealize.SL.Sem
open Idealize.ShloMosaic.Tactic

/-- The group of heads a head belongs to. -/
def grp (i : Fin 32) : Fin 8 := ⟨i.val / 4, by omega⟩

/-- A chunk's token. -/
def tok (k : Fin 32) (u : Fin 2048) : Fin 65536 := ⟨2048 * k.val + u.val, by omega⟩

theorem tok_inj (k : Fin 32) : Function.Injective (tok k) := fun u v h => Fin.ext (by
  have h' : 2048 * k.val + u.val = 2048 * k.val + v.val := congrArg Fin.val h
  omega)

/-- The tokens of the first chunks, and of one chunk. -/
def upto (k : ℕ) : Finset (Fin 65536) := Finset.univ.filter fun T => T.val < 2048 * k
def chunkOf (k : Fin 32) : Finset (Fin 65536) := Finset.univ.map ⟨tok k, tok_inj k⟩

theorem mem_chunkOf (k : Fin 32) (T : Fin 65536) : T ∈ chunkOf k ↔ 2048 * k.val ≤ T.val ∧ T.val < 2048 * (k.val + 1) := by
  constructor
  · intro h
    obtain ⟨u, -, hu⟩ := Finset.mem_map.mp h
    have h' : 2048 * k.val + u.val = T.val := congrArg Fin.val hu
    omega
  · rintro ⟨h1, h2⟩
    refine Finset.mem_map.mpr ⟨⟨T.val - 2048 * k.val, by omega⟩, Finset.mem_univ _, Fin.ext ?_⟩
    show 2048 * k.val + (T.val - 2048 * k.val) = T.val
    omega

theorem upto_succ (k : Fin 32) : upto (k.val + 1) = upto k.val ∪ chunkOf k := by
  ext T
  rw [Finset.mem_union, mem_chunkOf]
  simp only [upto, Finset.mem_filter, Finset.mem_univ, true_and]
  omega

theorem upto_disj (k : Fin 32) : Disjoint (upto k.val) (chunkOf k) := by
  rw [Finset.disjoint_left]
  intro T h1 h2
  have h3 := (mem_chunkOf k T).mp h2
  simp only [upto, Finset.mem_filter, Finset.mem_univ, true_and] at h1
  omega

theorem upto_zero : upto 0 = ∅ := by
  ext T
  simp [upto]

theorem upto_all : upto 32 = Finset.univ := by
  ext T
  simp only [upto, Finset.mem_filter, Finset.mem_univ, true_and, iff_true]
  exact T.isLt

theorem sum_chunk {M : Type} [AddCommMonoid M] (k : Fin 32) (f : Fin 65536 → M) : ∑ T ∈ chunkOf k, f T = ∑ u, f (tok k u) := Finset.sum_map _ _ _
theorem sup_chunk (k : Fin 32) (f : Fin 65536 → EReal) : (chunkOf k).sup f = Finset.univ.sup fun u => f (tok k u) := Finset.sup_map _ _ _

/-- The lane a token's weight is summed in. -/
def lane (T : Fin 65536) : Fin 128 := ⟨T.val % 128, Nat.mod_lt _ (by decide)⟩

theorem sum_lane (k : Fin 32) (E : Fin 2048 → EReal) (l : Fin 128) :
    ∑ v : Fin 16, E ⟨128 * v.val + l.val, by omega⟩ = ∑ u, E u * (if lane (tok k u) = l then 1 else 0) := by
  rw [← (finProdFinEquiv (m := 16) (n := 128)).sum_comp, Fintype.sum_prod_type]
  refine Finset.sum_congr rfl fun v _ => ?_
  rw [Finset.sum_eq_single l]
  · have e : lane (tok k (finProdFinEquiv (m := 16) (n := 128) (v, l))) = l := Fin.ext (by
      show (2048 * k.val + (l.val + 128 * v.val)) % 128 = l.val
      omega)
    rw [if_pos e, mul_one]
    exact congrArg E (Fin.ext (by show 128 * v.val + l.val = l.val + 128 * v.val; omega))
  · intro j _ hj
    have e : lane (tok k (finProdFinEquiv (m := 16) (n := 128) (v, j))) ≠ l := fun h => hj (Fin.ext (by
      have h' : (2048 * k.val + (j.val + 128 * v.val)) % 128 = l.val := congrArg Fin.val h
      omega))
    rw [if_neg e, mul_zero]
  · exact fun h => absurd (Finset.mem_univ _) h

/-- A sum over two rows of which only one has entries. -/
theorem sum_own (a : Fin 2) {f : Fin 256 → EReal} {F : Fin 128 → EReal} (h : ∀ j : Fin 128, f ⟨128 * a.val + j.val, by omega⟩ = F j)
    (h0 : ∀ (k : Fin 2) (j : Fin 128), a ≠ k → f ⟨128 * k.val + j.val, by omega⟩ = 0) : ∑ x, f x = ∑ j, F j := by
  rw [Row.sum_two]
  have z : ∀ j : Fin 128, f ⟨j.val, by omega⟩ = f ⟨128 * (0 : Fin 2).val + j.val, by omega⟩ := fun j => congrArg f (Fin.ext (by show j.val = 128 * 0 + j.val; omega))
  have o : ∀ j : Fin 128, f ⟨128 + j.val, by omega⟩ = f ⟨128 * (1 : Fin 2).val + j.val, by omega⟩ := fun j => congrArg f (Fin.ext (by show 128 + j.val = 128 * 1 + j.val; omega))
  simp only [z, o]
  match a with
  | 0 => rw [Finset.sum_congr rfl fun j _ => h j, Finset.sum_eq_zero fun j _ => h0 1 j (by decide), add_zero]
  | 1 => rw [Finset.sum_congr rfl fun j _ => h j, Finset.sum_eq_zero fun j _ => h0 0 j (by decide), zero_add]

variable (m : (ℓ : Loc nD τ sig) → Buf (Elt Ideal) ℓ) (hO : Ok m) (c : Dev nD) (b : Fin 3) (i : Fin 32)

/-- The entries of a cached token's key and value rows. -/
def keyE (g : Fin 8) (T : Fin 65536) (d : Fin 128) : EReal := Row.entry (fun e => m ((c : Thread nD τ).loc main_arg3) (ix4 b T g e)) d
def valE (g : Fin 8) (T : Fin 65536) (d : Fin 128) : EReal := Row.entry (fun e => m ((c : Thread nD τ).loc main_arg4) (ix4 b T g e)) d

/-- A cached token's score, the new token's, and the values the weights of the two multiply. -/
def sc (T : Fin 65536) : EReal :=
  if (T.val : Int) < (lens m c b).toInt then
    ((∑ d, Row.rot (xh m c b i) d * keyE m c b (grp i) T d) * m ((c : Thread nD τ).loc main_arg5) (ix3 b T (grp i))) * Row.unit
  else ⊥
def nw : EReal := (∑ d, Row.rot (xh m c b i) d * (Row.code (kn m c b (grp i)) d * Row.scale (kn m c b (grp i)))) * Row.unit
def fv (d : Fin 128) (T : Fin 65536) : EReal := id (α := EReal) (m ((c : Thread nD τ).loc main_arg6) (ix3 b T (grp i))) * valE m c b (grp i) T d
def av (d : Fin 128) : EReal := Row.scale (vn m c b (grp i)) * Row.code (vn m c b (grp i)) d
def lv (l : Fin 128) (T : Fin 65536) : EReal := if lane T = l then 1 else 0
def la (l : Fin 128) : EReal := if (0 : Fin 128) = l then 1 else 0

/-- What the buffers hold for good after the first point. -/
structure Fixed (s : St Ideal) : Prop where
  q : ∀ (n : Fin 3) (i : Fin 32) (k : Fin 2) (j : Fin 128), s.q (ix3 n i ⟨128 * k.val + j.val, by omega⟩) = if i.val / 4 % 2 = k.val then Row.rot (xh m c n i) (Row.dim j) else 0
  sn : ∀ (n : Fin 3) (i : Fin 32) (l : Fin 128), s.sn (ix3 n i l) = nw m c n i
  on : ∀ (n : Fin 3) (i : Fin 32) (l : Fin 128), s.on (ix3 n i l) = av m c n i (Row.dim l)

/-- What the running buffers hold after the first `k` chunks of a batch row. -/
structure Good (k : ℕ) (s : St Ideal) : Prop where
  mm : ∀ (i : Fin 32) (l : Fin 128), s.mm (ix2 i l) = Softmax.top (sc m c b i) (nw m c b i) (upto k)
  ll : ∀ (i : Fin 32) (l : Fin 128), s.ll (ix2 i l) = Softmax.mass (sc m c b i) (nw m c b i) (upto k) (lv l) (la l)
  acc : ∀ (i : Fin 32) (k' : Fin 2) (j : Fin 128), i.val / 4 % 2 = k'.val →
    s.acc (ix2 i ⟨128 * k'.val + j.val, by omega⟩) = Softmax.mass (sc m c b i) (nw m c b i) (upto k) (fv m c b i (Row.dim j)) (av m c b i (Row.dim j))

section pair
variable (t : Fin (cfgM m hO).N) (p : Fin 4) (a : Fin 2) (r : Fin 4)

/-- A pair's head. -/
def hd : Fin 32 := ⟨8 * p.val + (4 * a.val + r.val), by omega⟩

theorem grp_hd : grp (hd p a r) = ⟨2 * p.val + a.val, by omega⟩ := Fin.ext (by
  show (8 * p.val + (4 * a.val + r.val)) / 4 = 2 * p.val + a.val
  omega)

theorem own_hd : (hd p a r).val / 4 % 2 = a.val := by
  show (8 * p.val + (4 * a.val + r.val)) / 4 % 2 = a.val
  omega

theorem stepM_hd (s : St Ideal) (l : Fin 128) : stepM m hO c t s.q s.acc s.mm s.ll (ix2 (hd p a r) l)
    = pairM (live m hO c t) (blk4 p (in6 m hO c t)) (blkq (row t) p s.q) (blk3 p (in8 m hO c t)) (blkm p s.mm) (ix2 ⟨4 * a.val + r.val, by omega⟩ 0) :=
  stepM_at m hO c t s.q s.acc s.mm s.ll p ⟨4 * a.val + r.val, by omega⟩ l
theorem stepL_hd (s : St Ideal) (l : Fin 128) : stepL m hO c t s.q s.acc s.mm s.ll (ix2 (hd p a r) l)
    = pairL (live m hO c t) (blk4 p (in6 m hO c t)) (blkq (row t) p s.q) (blk3 p (in8 m hO c t)) (blkm p s.mm) (blkl p s.ll) (ix2 ⟨4 * a.val + r.val, by omega⟩ l) :=
  stepL_at m hO c t s.q s.acc s.mm s.ll p ⟨4 * a.val + r.val, by omega⟩ l
theorem stepAcc_hd (s : St Ideal) (l : Fin 256) : stepAcc m hO c t s.q s.acc s.mm s.ll (ix2 (hd p a r) l)
    = pairA (live m hO c t) (blk4 p (in6 m hO c t)) (blkq (row t) p s.q) (blk3 p (in8 m hO c t)) (blkm p s.mm) (blk3 p (in9 m hO c t)) (blk4 p (in7 m hO c t)) (blka p s.acc) (ix2 ⟨4 * a.val + r.val, by omega⟩ l) :=
  stepAcc_at m hO c t s.q s.acc s.mm s.ll p ⟨4 * a.val + r.val, by omega⟩ l

def chk : Fin 32 := ⟨t.val % 32, Nat.mod_lt _ (by decide)⟩

variable (hl : ((t.val % 32 * 2048 : ℕ) : Int) < (lens m c (row t)).toInt)
include hl

theorem score_at (s : St Ideal) (hs : Fixed m c s) (u : Fin 2048) :
    pairS (live m hO c t) (blk4 p (in6 m hO c t)) (blkq (row t) p s.q) (blk3 p (in8 m hO c t)) (ix2 ⟨4 * a.val + r.val, by omega⟩ u)
      = sc m c (row t) (hd p a r) (tok (chk m hO t) u) := by
  rw [pairS_at]
  unfold sc
  refine if_congr (live_at m hO c t _ u) ?_ rfl
  have hk : blk3 p (in8 m hO c t) (ix3 0 a u) = m ((c : Thread nD τ).loc main_arg5) (ix3 (row t) (tok (chk m hO t) u) (grp (hd p a r))) := by
    rw [grp_hd]
    exact in8_at m hO c t ⟨2 * p.val + a.val, by omega⟩ u hl
  have hq : ∀ (k : Fin 2) (j : Fin 128), blkq (row t) p s.q (ix3 0 ⟨4 * a.val + r.val, by omega⟩ ⟨128 * k.val + j.val, by omega⟩)
      = if a = k then Row.rot (xh m c (row t) (hd p a r)) (Row.dim j) else 0 := fun k j => by
    refine (hs.q (row t) (hd p a r) k j).trans ?_
    rw [own_hd]
    exact if_congr Fin.ext_iff.symm rfl rfl
  have hU : ∀ j : Fin 128, FloatOps.sitofp (F := Ideal) .bf16 (unp (blk4 p (in6 m hO c t)) (ix2 ⟨128 * a.val + j.val, by omega⟩ u))
      = keyE m c (row t) (grp (hd p a r)) (tok (chk m hO t) u) (Row.dim j) := fun j => by
    rw [unp_entry]
    unfold keyE
    refine congrArg (fun w => Row.entry w (Row.dim j)) (funext fun e => ?_)
    rw [grp_hd]
    exact in6_at m hO c t ⟨2 * p.val + a.val, by omega⟩ e u hl
  rw [hk]
  refine congrArg (fun x => x * _ * _) ?_
  rw [sum_own a (F := fun j => Row.rot (xh m c (row t) (hd p a r)) (Row.dim j) * keyE m c (row t) (grp (hd p a r)) (tok (chk m hO t) u) (Row.dim j))]
  · exact Row.sum_dim fun d => Row.rot (xh m c (row t) (hd p a r)) d * keyE m c (row t) (grp (hd p a r)) (tok (chk m hO t) u) d
  · intro j
    rw [hq a j, if_pos rfl, hU]
  · intro k j hk
    rw [hq k j, if_neg hk, zero_mul]

variable {k : ℕ} (hk : k = t.val % 32) (s : St Ideal) (hs : Fixed m c s) (hg : Good m c (row t) k s)
include hk hs hg

theorem max_at : pairM (live m hO c t) (blk4 p (in6 m hO c t)) (blkq (row t) p s.q) (blk3 p (in8 m hO c t)) (blkm p s.mm) (ix2 ⟨4 * a.val + r.val, by omega⟩ 0)
    = Softmax.top (sc m c (row t) (hd p a r)) (nw m c (row t) (hd p a r)) (upto (k + 1)) := by
  subst hk
  rw [pairM_at, show upto (t.val % 32 + 1) = _ from upto_succ (chk m hO t), Softmax.top_union, sup_chunk]
  refine congrArg₂ max (hg.mm (hd p a r) 0) ?_
  exact Finset.sup_congr rfl fun u _ => score_at m hO c t p a r hl s hs u

theorem weight_at (u : Fin 2048) :
    pairE (live m hO c t) (blk4 p (in6 m hO c t)) (blkq (row t) p s.q) (blk3 p (in8 m hO c t)) (blkm p s.mm) (ix2 ⟨4 * a.val + r.val, by omega⟩ u)
      = Ideal.exp (sc m c (row t) (hd p a r) (tok (chk m hO t) u) - Softmax.top (sc m c (row t) (hd p a r)) (nw m c (row t) (hd p a r)) (upto (k + 1))) := by
  rw [pairE_at, max_at m hO c t p a r hl hk s hs hg, score_at m hO c t p a r hl s hs u]

theorem factor_at :
    pairF (live m hO c t) (blk4 p (in6 m hO c t)) (blkq (row t) p s.q) (blk3 p (in8 m hO c t)) (blkm p s.mm) (ix2 ⟨4 * a.val + r.val, by omega⟩ 0)
      = Ideal.exp (Softmax.top (sc m c (row t) (hd p a r)) (nw m c (row t) (hd p a r)) (upto k)
          - Softmax.top (sc m c (row t) (hd p a r)) (nw m c (row t) (hd p a r)) (upto (k + 1))) := by
  rw [pairF_at, max_at m hO c t p a r hl hk s hs hg]
  have hmm : blkm p s.mm (ix2 ⟨4 * a.val + r.val, by omega⟩ 0) = _ := hg.mm (hd p a r) 0
  rw [hmm]

variable (hn : nw m c (row t) (hd p a r) ≠ ⊥)
include hn

theorem lanes_at (l : Fin 128) :
    pairL (live m hO c t) (blk4 p (in6 m hO c t)) (blkq (row t) p s.q) (blk3 p (in8 m hO c t)) (blkm p s.mm) (blkl p s.ll) (ix2 ⟨4 * a.val + r.val, by omega⟩ l)
      = Softmax.mass (sc m c (row t) (hd p a r)) (nw m c (row t) (hd p a r)) (upto (k + 1)) (lv l) (la l) := by
  rw [pairL_at, factor_at m hO c t p a r hl hk s hs hg]
  have hll : blkl p s.ll (ix2 ⟨4 * a.val + r.val, by omega⟩ l) = _ := hg.ll (hd p a r) l
  rw [hll, sum_lane (chk m hO t) (fun u => pairE (live m hO c t) (blk4 p (in6 m hO c t)) (blkq (row t) p s.q) (blk3 p (in8 m hO c t)) (blkm p s.mm) (ix2 ⟨4 * a.val + r.val, by omega⟩ u)) l]
  have hu : upto (k + 1) = upto k ∪ chunkOf (chk m hO t) := by subst hk; exact upto_succ (chk m hO t)
  have hd' : Disjoint (upto k) (chunkOf (chk m hO t)) := by subst hk; exact upto_disj (chk m hO t)
  have hw := weight_at m hO c t p a r hl hk s hs hg
  rw [hu] at hw ⊢
  rw [Softmax.mass_union _ _ hn _ _ hd', sum_chunk]
  refine congrArg _ (Finset.sum_congr rfl fun u _ => ?_)
  rw [hw u]
  rfl

theorem sums_at (j : Fin 128) :
    pairA (live m hO c t) (blk4 p (in6 m hO c t)) (blkq (row t) p s.q) (blk3 p (in8 m hO c t)) (blkm p s.mm) (blk3 p (in9 m hO c t)) (blk4 p (in7 m hO c t)) (blka p s.acc)
        (ix2 ⟨4 * a.val + r.val, by omega⟩ ⟨128 * a.val + j.val, by omega⟩)
      = Softmax.mass (sc m c (row t) (hd p a r)) (nw m c (row t) (hd p a r)) (upto (k + 1)) (fv m c (row t) (hd p a r) (Row.dim j)) (av m c (row t) (hd p a r) (Row.dim j)) := by
  rw [pairA_at, factor_at m hO c t p a r hl hk s hs hg]
  have hac : blka p s.acc (ix2 ⟨4 * a.val + r.val, by omega⟩ ⟨128 * a.val + j.val, by omega⟩) = _ := hg.acc (hd p a r) a j (own_hd p a r)
  rw [hac]
  have hu : upto (k + 1) = upto k ∪ chunkOf (chk m hO t) := by subst hk; exact upto_succ (chk m hO t)
  have hd' : Disjoint (upto k) (chunkOf (chk m hO t)) := by subst hk; exact upto_disj (chk m hO t)
  have hw := weight_at m hO c t p a r hl hk s hs hg
  rw [hu] at hw ⊢
  rw [Softmax.mass_union _ _ hn _ _ hd', sum_chunk]
  refine congrArg _ (Finset.sum_congr rfl fun u _ => ?_)
  rw [hw u, mul_assoc]
  refine congrArg _ ?_
  unfold fv valE
  rw [unp_entry]
  refine congrArg₂ (· * ·) ?_ (congrArg (fun w => Row.entry w (Row.dim j)) (funext fun e => ?_))
  · rw [grp_hd]
    exact in9_at m hO c t ⟨2 * p.val + a.val, by omega⟩ u hl
  · rw [grp_hd]
    exact in7_at m hO c t ⟨2 * p.val + a.val, by omega⟩ e u hl
end pair

theorem fixed_step (t : Fin (cfgM m hO).N) (s : St Ideal) (hs : Fixed m c s) : Fixed m c (stepSt m hO c t s) := by
  by_cases h : cond0_2 (grid0.coords t) (lenWord m hO c t)
  · rw [stepSt_pos m hO c t h]; exact ⟨hs.q, hs.sn, hs.on⟩
  · rwa [stepSt_neg m hO c t h]

theorem hd_cases (i : Fin 32) : ∃ (p : Fin 4) (a : Fin 2) (r : Fin 4), i = hd p a r :=
  ⟨⟨i.val / 8, by omega⟩, ⟨i.val / 4 % 2, by omega⟩, ⟨i.val % 4, by omega⟩, Fin.ext (by
    show i.val = 8 * (i.val / 8) + (4 * (i.val / 4 % 2) + i.val % 4)
    omega)⟩

/-- One chunk is taken in, whether the batch row has tokens in it or not. -/
theorem good_step (t : Fin (cfgM m hO).N) (s : St Ideal) (hs : Fixed m c s) (hn : ∀ i, nw m c (row t) i ≠ ⊥)
    (hg : Good m c (row t) (t.val % 32) s) : Good m c (row t) (t.val % 32 + 1) (stepSt m hO c t s) := by
  by_cases h : cond0_2 (grid0.coords t) (lenWord m hO c t)
  · rw [stepSt_pos m hO c t h]
    have hl := (cond2_iff m hO c t).mp h
    refine ⟨fun i l => ?_, fun i l => ?_, fun i k' j hk => ?_⟩ <;> dsimp only
    · obtain ⟨p, a, r, rfl⟩ := hd_cases i
      exact (stepM_hd m hO c t p a r s l).trans (max_at m hO c t p a r hl rfl s hs hg)
    · obtain ⟨p, a, r, rfl⟩ := hd_cases i
      exact (stepL_hd m hO c t p a r s l).trans (lanes_at m hO c t p a r hl rfl s hs hg (hn _) l)
    · obtain ⟨p, a, r, rfl⟩ := hd_cases i
      obtain rfl : a = k' := Fin.ext ((own_hd p a r).symm.trans hk)
      exact (stepAcc_hd m hO c t p a r s _).trans (sums_at m hO c t p a r hl rfl s hs hg (hn _) j)
  · rw [stepSt_neg m hO c t h]
    have hl := (cond2_iff m hO c t).not.mp h
    have hbot : ∀ i, ∀ T ∈ chunkOf (chk m hO t), sc m c (row t) i T = ⊥ := fun i T hT => by
      have h1 := (mem_chunkOf _ T).mp hT
      have h2 : 2048 * (t.val % 32) ≤ T.val := h1.1
      unfold sc
      exact if_neg (by omega)
    have ht : ∀ i, Softmax.top (sc m c (row t) i) (nw m c (row t) i) (upto (t.val % 32 + 1)) = Softmax.top (sc m c (row t) i) (nw m c (row t) i) (upto (t.val % 32)) := fun i => by
      rw [show upto (t.val % 32 + 1) = _ from upto_succ (chk m hO t)]
      exact Softmax.top_union_bot _ _ _ _ (hbot i)
    have hm : ∀ i f a, Softmax.mass (sc m c (row t) i) (nw m c (row t) i) (upto (t.val % 32 + 1)) f a = Softmax.mass (sc m c (row t) i) (nw m c (row t) i) (upto (t.val % 32)) f a := fun i f a => by
      rw [show upto (t.val % 32 + 1) = _ from upto_succ (chk m hO t)]
      exact Softmax.mass_union_bot _ _ _ _ (upto_disj (chk m hO t)) (hbot i) f a
    refine ⟨fun i l => ?_, fun i l => ?_, fun i k' j hk => ?_⟩
    · rw [ht]; exact hg.mm i l
    · rw [hm]; exact hg.ll i l
    · rw [hm]; exact hg.acc i k' j hk

end Cert.KernelIdeal.Gen

end
-- ==== Proof.AttendIdeal.lean ====
/- The running sums of every batch row as the grid points build them up, and the rows the kernel makes of them. -/
module

public import proofs.«01_k».proof.Proof.ScoreIdeal

@[expose] public section

set_option maxRecDepth 16384

noncomputable section

namespace Cert.KernelIdeal.Gen

open Idealize.ShloMosaic Idealize.ShloMosaic.TcCoe Idealize.SL.Sem
open Idealize.ShloMosaic.Tactic

variable (m : (ℓ : Loc nD τ sig) → Buf (Elt Ideal) ℓ) (hO : Ok m) (c : Dev nD)

theorem pay3_at (v : FVec Ideal S1x32x128 .f32) (i : Fin 32) (l : Fin 128) : k0_pay3 v (ix2 i l) = v (ix3 0 i l) := by
  pointwise [k0_pay3]

theorem pay4_at (i : Fin 32) (l : Fin 128) : k0_pay4 (F := Ideal) (ix2 i l) = if (0 : Fin 128) = l then 1 else 0 := by
  pointwise [k0_pay4]
  unfold Scalar.select
  refine if_congr ((cmp_eq _ _).trans ?_) rfl rfl
  refine (ofNat_inj (b := 0) l.isLt (by decide)).trans ?_
  exact ⟨fun h => Fin.ext h.symm, fun h => (congrArg Fin.val h).symm⟩

theorem pay5_at (v : FVec Ideal S1x32x128 .f32) (i : Fin 32) (k : Fin 2) (j : Fin 128) (h : i.val / 4 % 2 = k.val) :
    k0_pay5 v (ix2 i ⟨128 * k.val + j.val, by omega⟩) = v (ix3 0 i j) := by
  have ho := (own_at i k j).mpr h
  pointwise [k0_pay5]
  rw [ho]
  show (if _ : _ then _ else _) = _
  split
  · exact congrArg v (by idx_ext <;> first | rfl | (show 128 * k.val + j.val = j.val; omega))
  · exact congrArg v (by idx_ext <;> first | rfl | (show 128 * k.val + j.val - 128 = j.val; omega))

theorem pay188_at (l : FVec Ideal S32x128 .f32) (a : FVec Ideal S32x256 .f32) (i : Fin 32) (k : Fin 2) (h : i.val / 4 % 2 = k.val) (j : Fin 128) :
    k0_pay188 l a (ix2 i j) = a (ix2 i ⟨128 * k.val + j.val, by omega⟩) * Ideal.div 1 (∑ x, l (ix2 i x)) := by
  pointwise [k0_pay188]
  rw [groupw i, h]
  unfold Scalar.select
  refine congrArg (· * _) ?_
  match k with
  | 0 => exact congrArg (fun x => a (ix2 i x)) (Fin.ext (by show j.val = 128 * 0 + j.val; omega))
  | 1 => exact congrArg (fun x => a (ix2 i x)) (Fin.ext (by show 128 + j.val = 128 * 1 + j.val; omega))

theorem pay7_at (v : FVec Ideal S32x128 .f32) (i : Fin 32) (e : Fin 128) :
    k0_pay7 (F := Ideal) v k0_pay189 (Scalar.ofBits .f32 0x3F800000#32) (Scalar.ofBits .f32 0xBF800000#32) (ix3 0 i e)
      = (∑ x, v (ix2 i x) * Row.sgn (Row.dim x) e) * Row.unit := by
  pointwise [k0_pay7, k0_pay189]
  refine congrArg (· * _) (Finset.sum_congr rfl fun x _ => congrArg (v (ix2 i x) * ·) ?_)
  unfold Row.sgn
  rw [show IntOp.addi (IntOp.shrsi ArithUnit.vector (BitVec.ofNat 32 x.val) 1#32) (IntOp.muli (IntOp.andi (BitVec.ofNat 32 x.val) 1#32) 64#32) = _ from dimw x, ← Row.even_fold]
  rfl

/-- Reading one batch row of a buffer of rows. -/
theorem rdrow {M : Memref sig .tc .vmem S3x32x128 .f32} (hM : M.IsWhole) (X : Vec Ideal S3x32x128 .f32) {off : Fin 3 → ℕ} (inb) (b : Fin 3)
    (h : off = ![b.val, 0, 0]) (i : Fin 32) (l : Fin 128) :
    M.view.readAt (Elt Ideal) (Rect.unit (s := S3x32x128) off S1x32x128.size inb).toLoadRect (hM.unread X) (ix3 0 i l) = X (ix3 b i l) := by
  subst h
  refine (hM.readAt_unread X _ _).trans ?_
  congr 1
  funext a
  apply Fin.ext
  match a with
  | ⟨0, _⟩ => exact (Rect.idx_unit_val _ _ _ _ _).trans (by show b.val + 0 = b.val; omega)
  | ⟨1, _⟩ => exact (Rect.idx_unit_val _ _ _ _ _).trans (Nat.zero_add _)
  | ⟨2, _⟩ => exact (Rect.idx_unit_val _ _ _ _ _).trans (Nat.zero_add _)

theorem off2_0 (t : Fin grid0.N) : k0_off2 (grid0.coords t) = ![(row t).val, 0, 0] := by
  unfold k0_off2
  exact offq t 0

section init
variable (t : Fin (cfgM m hO).N) (h : cond0_1 (grid0.coords t)) (sn on : Vec Ideal S3x32x128 .f32) (i : Fin 32)

theorem initM_at (l : Fin 128) : initM m hO c t h sn on (ix2 i l) = sn (ix3 (row t) i l) := by
  unfold initM initR runInit
  dsimp only
  canon_tiles x h
  have hx : x = ix2 i l := by
    have h0' : i.val = (x 0).val := h0; have h1' : l.val = (x 1).val := h1; idx_ext <;> omega
  rw [hx]
  exact (pay3_at _ i l).trans (rdrow _ _ _ (row t) (off2_0 t) i l)

theorem initL_at (l : Fin 128) : initL m hO c t h sn on (ix2 i l) = if (0 : Fin 128) = l then 1 else 0 := by
  unfold initL initR runInit
  dsimp only
  canon_tiles x h
  have hx : x = ix2 i l := by
    have h0' : i.val = (x 0).val := h0; have h1' : l.val = (x 1).val := h1; idx_ext <;> omega
  rw [hx]
  exact pay4_at i l

theorem initAcc_at (k : Fin 2) (j : Fin 128) (hk : i.val / 4 % 2 = k.val) :
    initAcc m hO c t h sn on (ix2 i ⟨128 * k.val + j.val, by omega⟩) = on (ix3 (row t) i j) := by
  unfold initAcc initR runInit
  dsimp only
  canon_tiles x h
  have hx : x = ix2 i ⟨128 * k.val + j.val, by omega⟩ := by
    have h0' : i.val = (x 0).val := h0; have h1' : 128 * k.val + j.val = (x 1).val := h1; idx_ext <;> omega
  rw [hx]
  exact (pay5_at _ i k j hk).trans (rdrow _ _ _ (row t) (off2_0 t) i j)
end init

theorem fixed_prep (s : St Ideal) : Fixed m c (prepSt m hO c (pt0 m hO) s) := by
  rw [prepSt_pos m hO c (pt0 m hO) (pt0_cond m hO)]
  refine ⟨fun n i k j => ?_, fun n i l => ?_, fun n i l => ?_⟩ <;> dsimp only
  · exact prepQ_at m hO c n i k j
  · exact prepSn_at m hO c n i l
  · exact prepOn_at m hO c n i l

theorem fixed_init (t : Fin (cfgM m hO).N) (s : St Ideal) (hs : Fixed m c s) : Fixed m c (initSt m hO c t s) := by
  by_cases h : cond0_1 (grid0.coords t)
  · rw [initSt_pos m hO c t h]; exact ⟨hs.q, hs.sn, hs.on⟩
  · rwa [initSt_neg m hO c t h]

/-- The new token's score is a number for every head of a batch row. -/
def Num (b : Fin 3) : Prop := ∀ i, nw m c b i ≠ ⊥ ∧ nw m c b i ≠ ⊤

theorem good_init (t : Fin (cfgM m hO).N) (h : cond0_1 (grid0.coords t)) (s : St Ideal) (hs : Fixed m c s) (hn : Num m c (row t)) :
    Good m c (row t) 0 (initSt m hO c t s) := by
  rw [initSt_pos m hO c t h]
  refine ⟨fun i l => ?_, fun i l => ?_, fun i k' j hk => ?_⟩ <;> dsimp only <;> rw [upto_zero]
  · rw [Softmax.top_empty, initM_at]
    exact hs.sn _ i l
  · rw [Softmax.mass_empty _ _ (hn i).1 (hn i).2, initL_at]
    rfl
  · rw [Softmax.mass_empty _ _ (hn i).1 (hn i).2, initAcc_at m hO c t h _ _ i k' j hk]
    exact hs.on _ i j

theorem fin_keeps (t : Fin (cfgM m hO).N) (b : Fin 3) (k : ℕ) (s : St Ideal) :
    (Fixed m c s → Fixed m c (finishSt m hO c t s)) ∧ (Good m c b k s → Good m c b k (finishSt m hO c t s)) := by
  by_cases h : cond0_3 (grid0.coords t)
  · rw [finishSt_pos m hO c t h]
    exact ⟨fun hs => ⟨hs.q, hs.sn, hs.on⟩, fun hg => ⟨hg.mm, hg.ll, hg.acc⟩⟩
  · rw [finishSt_neg m hO c t h]
    exact ⟨id, id⟩

theorem cs_succ (t : Fin (cfgM m hO).N) : cs m hO c (t.val + 1) = finishSt m hO c t (mid m hO c t (cs m hO c t.val)) := by
  rw [cs, dif_pos t.isLt]
  rfl

/-- The state before a point's last stage. -/
theorem mid_good (n : ℕ) : ∀ hn : n < (cfgM m hO).N,
    Fixed m c (mid m hO c ⟨n, hn⟩ (cs m hO c n)) ∧ (Num m c (row ⟨n, hn⟩) → Good m c (row ⟨n, hn⟩) (n % 32 + 1) (mid m hO c ⟨n, hn⟩ (cs m hO c n))) := by
  induction n with
  | zero =>
    intro hn
    have hf := fixed_prep m hO c (cs m hO c 0)
    refine ⟨fixed_step m hO c _ _ (fixed_init m hO c _ _ hf), fun hb => ?_⟩
    exact good_step m hO c ⟨0, hn⟩ _ (fixed_init m hO c _ _ hf) (fun i => (hb i).1) (good_init m hO c ⟨0, hn⟩ ((hcond0_1 _).mpr rfl) _ hf hb)
  | succ n ih =>
    intro hn
    have hn' : n < (cfgM m hO).N := by omega
    have h96 : n + 1 < 96 := Nat.lt_of_lt_of_eq hn N_0
    obtain ⟨hf, hg⟩ := ih hn'
    have hc := cs_succ m hO c ⟨n, hn'⟩
    dsimp only at hc
    have hf1 : Fixed m c (cs m hO c (n + 1)) := by
      rw [hc]; exact (fin_keeps m hO c _ 0 0 _).1 hf
    have h0 : ¬cond0_0 (grid0.coords ⟨n + 1, hn⟩) := (hcond0_0 _).not.mpr (by show ¬((n + 1) % 96 = 0); omega)
    unfold mid
    rw [prepSt_neg m hO c _ h0]
    refine ⟨fixed_step m hO c _ _ (fixed_init m hO c _ _ hf1), fun hb => ?_⟩
    refine good_step m hO c ⟨n + 1, hn⟩ _ (fixed_init m hO c _ _ hf1) (fun i => (hb i).1) ?_
    by_cases h1 : (n + 1) % 32 = 0
    · have := good_init m hO c ⟨n + 1, hn⟩ ((hcond0_1 _).mpr h1) _ hf1 hb
      dsimp only
      rw [h1]
      exact this
    · rw [initSt_neg m hO c _ ((hcond0_1 _).not.mpr h1)]
      have hr : row ⟨n + 1, hn⟩ = row ⟨n, hn'⟩ := Fin.ext (by show (n + 1) / 32 = n / 32; omega)
      rw [hr] at hb ⊢
      have hg' := (fin_keeps m hO c ⟨n, hn'⟩ _ _ _).2 (hg hb)
      rw [← hc] at hg'
      have hk : (n + 1) % 32 = n % 32 + 1 := by omega
      dsimp only
      rw [hk]
      exact hg'

section finish
variable (t : Fin (cfgM m hO).N) (h : cond0_3 (grid0.coords t)) (acc : Vec Ideal S32x256 .f32) (ll : Vec Ideal S32x128 .f32) (y : Vec Ideal S3x32x128 .f32) (i : Fin 32) (e : Fin 128)

theorem rdl0 {M : Memref sig .tc .vmem S32x128 .f32} (hM : M.IsWhole) (X : Vec Ideal S32x128 .f32) (inb) (i : Fin 32) (l : Fin 128) :
    M.view.readAt (Elt Ideal) (Rect.unit (s := S32x128) ![0, 0] S32x128.size inb).toLoadRect (hM.unread X) (ix2 i l) = X (ix2 i l) := by
  refine (hM.readAt_unread X _ _).trans ?_
  congr 1
  funext a
  apply Fin.ext
  match a with
  | ⟨0, _⟩ => exact (Rect.idx_unit_val _ _ _ _ _).trans (Nat.zero_add _)
  | ⟨1, _⟩ => exact (Rect.idx_unit_val _ _ _ _ _).trans (Nat.zero_add _)

theorem rda0 {M : Memref sig .tc .vmem S32x256 .f32} (hM : M.IsWhole) (X : Vec Ideal S32x256 .f32) (inb) (i : Fin 32) (l : Fin 256) :
    M.view.readAt (Elt Ideal) (Rect.unit (s := S32x256) ![0, 0] S32x256.size inb).toLoadRect (hM.unread X) (ix2 i l) = X (ix2 i l) := by
  refine (hM.readAt_unread X _ _).trans ?_
  congr 1
  funext a
  apply Fin.ext
  match a with
  | ⟨0, _⟩ => exact (Rect.idx_unit_val _ _ _ _ _).trans (Nat.zero_add _)
  | ⟨1, _⟩ => exact (Rect.idx_unit_val _ _ _ _ _).trans (Nat.zero_add _)

theorem finishY_own (k : Fin 2) (hk : i.val / 4 % 2 = k.val) : finishY m hO c t h acc ll y (ix3 (row t) i e)
    = (∑ x : Fin 128, (acc (ix2 i ⟨128 * k.val + x.val, by omega⟩) * Ideal.div 1 (∑ l, ll (ix2 i l))) * Row.sgn (Row.dim x) e) * Row.unit := by
  have hcov := finish_cover m hO c t h acc ll y (ix3 (row t) i e) rfl
  unfold finishY over
  rw [View.read_writes_apply_eq_canon _ _ _ _ hcov]
  unfold finishR runFinish
  dsimp only
  have he : ∀ inb, (ix3 (row t) i e : S3x32x128.Idx) = (Rect.unit (s := S3x32x128) (k0_off7 (grid0.coords t)) S1x32x128.size inb).emb (ix3 0 i e : S1x32x128.Idx) := fun inb => by
    funext a
    apply Fin.ext
    refine Eq.trans ?_ (congrArg (fun o : Fin 3 → ℕ => o a + 1 * ((ix3 0 i e : S1x32x128.Idx) a).val) (off7_0 t)).symm
    match a with
    | ⟨0, _⟩ => show t.val / 32 = t.val / 32 + 1 * 0; omega
    | ⟨1, _⟩ => show i.val = 0 + 1 * i.val; omega
    | ⟨2, _⟩ => show e.val = 0 + 1 * e.val; omega
  rw [he (k0_off7_inb (grid0.coords t) h)]
  refine (View.canon_cons_emb _ _ _ _).trans ?_
  refine (pay7_at _ i e).trans ?_
  refine congrArg (· * _) (Finset.sum_congr rfl fun x _ => congrArg (· * _) ?_)
  refine (pay188_at _ _ i k hk x).trans ?_
  rw [rda0]
  refine congrArg (fun z => _ * Ideal.div 1 z) (Finset.sum_congr rfl fun l _ => ?_)
  exact rdl0 _ _ _ i l

theorem finishY_other (z : S3x32x128.Idx) (hz : (z 0).val ≠ t.val / 32) : finishY m hO c t h acc ll y z = y z := by
  unfold finishY over
  rw [View.read_writes_apply_of_forall_not_mem _ _ z _ ?_, (Memref.isWhole_whole cc0_scratch5).read_unread]
  unfold finishR runFinish
  dsimp only
  intro p hp hm
  obtain rfl := List.mem_singleton.mp hp
  have h1 := (Rect.mem_set_unit (inb := k0_off7_inb (grid0.coords t) h)).mp hm 0
  rw [off7_0] at h1
  have h2 : t.val / 32 ≤ (z 0).val := h1.1
  have h3 : (z 0).val < t.val / 32 + 1 := h1.2
  omega
end finish

/-- A batch row's head's weighted sum, put back in the order of the features. -/
def outv (b : Fin 3) (i : Fin 32) (e : Fin 128) : EReal :=
  (∑ d : Fin 128, (Softmax.mass (sc m c b i) (nw m c b i) Finset.univ (fv m c b i d) (av m c b i d) * Ideal.div 1 (Softmax.total (sc m c b i) (nw m c b i) Finset.univ)) * Row.sgn d e) * Row.unit

theorem finish_row (t : Fin (cfgM m hO).N) (h : t.val % 32 = 31) (s : St Ideal) (hg : Good m c (row t) 32 s) (i : Fin 32) (e : Fin 128) :
    (finishSt m hO c t s).y (ix3 (row t) i e) = outv m c (row t) i e := by
  have h3 : cond0_3 (grid0.coords t) := (hcond0_3 _).mpr h
  rw [finishSt_pos m hO c _ h3]
  dsimp only
  refine (finishY_own m hO c t h3 s.acc s.ll s.y i e ⟨i.val / 4 % 2, Nat.mod_lt _ (by decide)⟩ rfl).trans ?_
  unfold outv
  refine congrArg (· * _) ?_
  refine Eq.trans ?_ (Row.sum_dim fun d => (Softmax.mass (sc m c (row t) i) (nw m c (row t) i) Finset.univ (fv m c (row t) i d) (av m c (row t) i d) * Ideal.div 1 (Softmax.total (sc m c (row t) i) (nw m c (row t) i) Finset.univ)) * Row.sgn d e)
  refine Finset.sum_congr rfl fun x _ => congrArg (· * _) ?_
  have ha := hg.acc i ⟨i.val / 4 % 2, Nat.mod_lt _ (by decide)⟩ x rfl
  rw [upto_all] at ha
  rw [ha]
  suffices hz : ∑ l, s.ll (ix2 i l) = Softmax.total (sc m c (row t) i) (nw m c (row t) i) Finset.univ by rw [hz]
  rw [← Softmax.sum_mass (sc m c (row t) i) (nw m c (row t) i) Finset.univ lane 0]
  refine Finset.sum_congr rfl fun l _ => ?_
  have hl := hg.ll i l
  rw [upto_all] at hl
  exact hl

theorem rows_last (t : Fin (cfgM m hO).N) (h : t.val % 32 = 31) (hb : Num m c (row t)) (i : Fin 32) (e : Fin 128) :
    (cs m hO c (t.val + 1)).y (ix3 (row t) i e) = outv m c (row t) i e := by
  rw [cs_succ]
  have hg := (mid_good m hO c t.val t.isLt).2 hb
  rw [h] at hg
  exact finish_row m hO c t h _ hg i e

theorem rows_row (b : Fin 3) (hb : Num m c b) (i : Fin 32) (e : Fin 128) : (cs m hO c (32 * b.val + 32)).y (ix3 b i e) = outv m c b i e := by
  have ht : 32 * b.val + 31 < (cfgM m hO).N := Nat.lt_of_lt_of_eq (by omega) N_0.symm
  obtain ⟨t, h1⟩ : ∃ t : Fin (cfgM m hO).N, t.val = 32 * b.val + 31 := ⟨⟨_, ht⟩, rfl⟩
  have hr : row t = b := Fin.ext (by show t.val / 32 = b.val; omega)
  have e1 : 32 * b.val + 32 = t.val + 1 := by omega
  rw [e1]
  subst hr
  exact rows_last m hO c t (by omega) hb i e

theorem rows_keep (b : Fin 3) (hb : Num m c b) (i : Fin 32) (e : Fin 128) (k : ℕ) : 32 * b.val + 32 + k ≤ 96 → (cs m hO c (32 * b.val + 32 + k)).y (ix3 b i e) = outv m c b i e := by
  induction k with
  | zero => exact fun _ => rows_row m hO c b hb i e
  | succ k ih =>
    intro hk
    have ht : 32 * b.val + 32 + k < (cfgM m hO).N := Nat.lt_of_lt_of_eq (by omega) N_0.symm
    have hc := cs_succ m hO c ⟨32 * b.val + 32 + k, ht⟩
    rw [show 32 * b.val + 32 + (k + 1) = (⟨32 * b.val + 32 + k, ht⟩ : Fin (cfgM m hO).N).val + 1 from rfl, hc]
    refine Eq.trans ?_ (ih (by omega))
    have hmy := mid_y m hO c ⟨32 * b.val + 32 + k, ht⟩ (cs m hO c (32 * b.val + 32 + k))
    by_cases h3 : cond0_3 (grid0.coords ⟨32 * b.val + 32 + k, ht⟩)
    · rw [finishSt_pos m hO c _ h3]
      dsimp only
      rw [finishY_other m hO c _ h3 _ _ _ _ (by show b.val ≠ (32 * b.val + 32 + k) / 32; omega), hmy]
    · rw [finishSt_neg m hO c _ h3, hmy]

/-- The rows the last point finds. -/
theorem rows_at (b : Fin 3) (hb : Num m c b) (i : Fin 32) (e : Fin 128) : (cs m hO c 96).y (ix3 b i e) = outv m c b i e := by
  have h := rows_keep m hO c b hb i e (64 - 32 * b.val) (by omega)
  rwa [show 32 * b.val + 32 + (64 - 32 * b.val) = 96 by omega] at h

end Cert.KernelIdeal.Gen

end
-- ==== Proof.EmitReadIdeal.lean ====
/- The output rows the last grid point puts together from the finished ones. -/
module

public import proofs.«01_k».proof.Proof.AttendIdeal

@[expose] public section

set_option maxRecDepth 16384

noncomputable section

namespace Cert.KernelIdeal.Gen

open Idealize.ShloMosaic Idealize.ShloMosaic.TcCoe Idealize.SL.Sem
open Idealize.ShloMosaic.Tactic

variable (m : (ℓ : Loc nD τ sig) → Buf (Elt Ideal) ℓ) (hO : Ok m) (c : Dev nD)

theorem pay190_at (v : FVec Ideal S3x1x128 .f32) (b : Fin 3) (e : Fin 128) : k0_pay190 (F := Ideal) v (ix2 b e) = id (α := EReal) (v (ix3 b 0 e)) := by
  pointwise [k0_pay190]
  rfl

/-- One head's columns of the output rows. -/
theorem head_at {M : Memref sig .tc .vmem S3x32x128 .f32} (hM : M.IsWhole) (y : Vec Ideal S3x32x128 .f32) (n : ℕ) (inb) (x : S3x128.Idx) (b : Fin 3) (i : Fin 32) (e : Fin 128)
    (h0 : b.val = (x 0).val) (h1 : 128 * i.val + e.val = 128 * n + (x 1).val) :
    k0_pay190 (F := Ideal) (M.view.readAt (Elt Ideal) (Rect.unit (s := S3x32x128) ![0, n, 0] S3x1x128.size inb).toLoadRect (hM.unread y)) x = y (ix3 b i e) := by
  have h2 : (x 1).val < 128 := (x 1).isLt
  have hn : n = i.val := by omega
  have hx : x = ix2 b e := by idx_ext <;> omega
  rw [hx]
  refine (pay190_at _ b e).trans ?_
  refine (hM.readAt_unread y _ _).trans ?_
  congr 1
  funext a
  apply Fin.ext
  match a with
  | ⟨0, _⟩ => exact (Rect.idx_unit_val _ _ _ _ _).trans (Nat.zero_add _)
  | ⟨1, _⟩ => exact (Rect.idx_unit_val _ _ _ _ _).trans (by show n + 0 = i.val; omega)
  | ⟨2, _⟩ => exact (Rect.idx_unit_val _ _ _ _ _).trans (Nat.zero_add _)

set_option maxHeartbeats 1000000 in
theorem emitO_at (t : Fin (cfgM m hO).N) (h : cond0_4 (grid0.coords t)) (y : Vec Ideal S3x32x128 .f32) (b : Fin 3) (i : Fin 32) (e : Fin 128) :
    emitO m hO c t h y (ix2 b ⟨128 * i.val + e.val, by omega⟩) = y (ix3 b i e) := by
  unfold emitO emitR runEmit
  dsimp only
  canon_tiles x h
  case piece0 => exact head_at _ y 31 _ x b i e h0 h1
  case piece1 => exact head_at _ y 30 _ x b i e h0 h1
  case piece2 => exact head_at _ y 29 _ x b i e h0 h1
  case piece3 => exact head_at _ y 28 _ x b i e h0 h1
  case piece4 => exact head_at _ y 27 _ x b i e h0 h1
  case piece5 => exact head_at _ y 26 _ x b i e h0 h1
  case piece6 => exact head_at _ y 25 _ x b i e h0 h1
  case piece7 => exact head_at _ y 24 _ x b i e h0 h1
  case piece8 => exact head_at _ y 23 _ x b i e h0 h1
  case piece9 => exact head_at _ y 22 _ x b i e h0 h1
  case piece10 => exact head_at _ y 21 _ x b i e h0 h1
  case piece11 => exact head_at _ y 20 _ x b i e h0 h1
  case piece12 => exact head_at _ y 19 _ x b i e h0 h1
  case piece13 => exact head_at _ y 18 _ x b i e h0 h1
  case piece14 => exact head_at _ y 17 _ x b i e h0 h1
  case piece15 => exact head_at _ y 16 _ x b i e h0 h1
  case piece16 => exact head_at _ y 15 _ x b i e h0 h1
  case piece17 => exact head_at _ y 14 _ x b i e h0 h1
  case piece18 => exact head_at _ y 13 _ x b i e h0 h1
  case piece19 => exact head_at _ y 12 _ x b i e h0 h1
  case piece20 => exact head_at _ y 11 _ x b i e h0 h1
  case piece21 => exact head_at _ y 10 _ x b i e h0 h1
  case piece22 => exact head_at _ y 9 _ x b i e h0 h1
  case piece23 => exact head_at _ y 8 _ x b i e h0 h1
  case piece24 => exact head_at _ y 7 _ x b i e h0 h1
  case piece25 => exact head_at _ y 6 _ x b i e h0 h1
  case piece26 => exact head_at _ y 5 _ x b i e h0 h1
  case piece27 => exact head_at _ y 4 _ x b i e h0 h1
  case piece28 => exact head_at _ y 3 _ x b i e h0 h1
  case piece29 => exact head_at _ y 2 _ x b i e h0 h1
  case piece30 => exact head_at _ y 1 _ x b i e h0 h1
  case piece31 => exact head_at _ y 0 _ x b i e h0 (h1.trans (Nat.zero_add _).symm)

/-- The output rows the kernel leaves, in terms of the caches. -/
theorem res7_at (b : Fin 3) (hb : Num m c b) (i : Fin 32) (e : Fin 128) :
    res7 m hO c (ix2 b ⟨128 * i.val + e.val, by omega⟩) = outv m c b i e :=
  (emitO_at m hO c (pt95 m hO) (pt95_cond m hO) _ b i e).trans (rows_at m hO c b hb i e)

end Cert.KernelIdeal.Gen

end
-- ==== Proof.Algebra.lean ====
/- The kernel and the reference on the reals: the quantised results agree, and the attention output of every batch row of finite queries. -/
module

public import proofs.«01_k».proof.Proof.TailIdeal
public import proofs.«01_k».proof.Proof.ReferenceRun
public import proofs.«01_k».proof.Proof.QuantReference
public import proofs.«01_k».proof.Proof.AttendReference
public import proofs.«01_k».proof.Proof.FiniteRow
public import proofs.«01_k».proof.Proof.EmitReadIdeal
public import proofs.«01_k».proof.Proof.OkKernelIdeal
public import proofs.«01_k».proof.Proof.Gen.On_finite_queries

@[expose] public section

set_option maxRecDepth 16384

noncomputable section

namespace Cert.Algebra

open Idealize.ShloMosaic Idealize.ShloMosaic.TcCoe Idealize.SL.Sem

/-- The packed codes of both programs, element by element. -/
theorem codes (X : FVec Ideal (⟨4, ![3, 1, 8, 128]⟩ : Shape) .bf16) (W : IVec (⟨3, ![3, 8, 64]⟩ : Shape) 32)
    (h : ∀ (b : Fin 3) (g : Fin 8) (e : Fin 64), W (ix3 b g e) = Row.word (fun d => X (ix4 b 0 g d)) e) :
    shapeCast Cert.KernelIdeal.S3x1x8x64 (trunci 8 W Cert.KernelIdeal.Gen.natLt_8_32) Cert.KernelIdeal.Gen.shapeCasts_S3x8x64_S3x1x8x64
      = Cert.ReferenceIdeal.Gen.PACK X := by
  funext i
  obtain ⟨b, g, e, rfl⟩ : ∃ (b : Fin 3) (g : Fin 8) (e : Fin 64), i = ix4 b 0 g e :=
    ⟨i 0, i 2, i 3, by
      have h1 : (i 1 : ℕ) < 1 := (i 1).isLt
      idx_ext <;> omega⟩
  refine (Cert.KernelIdeal.Gen.unpackW W b g e).trans ?_
  rw [h b g e]
  exact (Cert.ReferenceIdeal.Gen.PACK_at X b g e).symm

/-- The scales of both programs, element by element. -/
theorem scales (X : FVec Ideal (⟨4, ![3, 1, 8, 128]⟩ : Shape) .bf16) (S : FVec Ideal (⟨3, ![3, 8, 1]⟩ : Shape) .f32)
    (h : ∀ (b : Fin 3) (g : Fin 8), S (ix3 b g 0) = Row.scale (fun d => X (ix4 b 0 g d))) :
    shapeCast Cert.KernelIdeal.S3x1x8 S Cert.KernelIdeal.Gen.shapeCasts_S3x8x1_S3x1x8 = Cert.ReferenceIdeal.Gen.SCALE X := by
  funext i
  obtain ⟨b, g, rfl⟩ : ∃ (b : Fin 3) (g : Fin 8), i = ix3 b 0 g :=
    ⟨i 0, i 2, by
      have h1 : (i 1 : ℕ) < 1 := (i 1).isLt
      idx_ext <;> omega⟩
  refine (Cert.KernelIdeal.Gen.unpackS S b g).trans ?_
  rw [h b g]
  exact (Cert.ReferenceIdeal.Gen.SCALE_at X b g).symm

/-- The largest magnitude of a row. -/
theorem max_row {T : ℕ} (x : FVec Ideal ⟨3, ![3, 1, T]⟩ .f32) (h : (⟨3, ![3, 1, T]⟩ : Shape).ReducesTo [2] Cert.On_finite_queries.S3x1)
    (hu : 0 < Cert.On_finite_queries.S_.numel) (b : Fin 3) :
    Host.reduce FloatOps.maximumf x (constant Cert.On_finite_queries.S_ .f32 0xFF800000#32) h hu (ix2 b 0) = Finset.univ.sup fun t => x (ix3 b 0 t) := by
  pointwise
  rw [Row.ofBits_bot]
  rfl

theorem mask_at (R : FVec Ideal Cert.On_finite_queries.S3x1 .f32) (b : Fin 3) (j : Fin 4096) :
    broadcastInDim Cert.On_finite_queries.S3x1x4096 ![0, 1, 2] Cert.On_finite_queries.Gen.bcast_S3x1x1_S3x1x4096_0_1_2
      (cmpf .olt (broadcastInDim Cert.On_finite_queries.S3x1x1 ![0, 1] Cert.On_finite_queries.Gen.bcast_S3x1_S3x1x1_0_1 R)
        (broadcastInDim Cert.On_finite_queries.S3x1x1 ![] Cert.On_finite_queries.Gen.bcast_S_S3x1x1 (constant Cert.On_finite_queries.S_ .f32 0x7F800000#32)))
      (ix3 b 0 j) = Ideal.cmp .olt (R (ix2 b 0)) ⊤ := by
  have ht : Ideal.ofBits .f32 2139095040#32 = ⊤ := by
    simp only [Ideal.ofBits, Ideal.ieee]
    simp
  pointwise
  rw [ht]

/-- The mask of the attention output holds at a batch row of finite queries only. -/
theorem finite (X : FVec Ideal Cert.On_finite_queries.S3x1x4096 .bf16) (h : (⟨3, ![3, 1, 4096]⟩ : Shape).ReducesTo [2] Cert.On_finite_queries.S3x1)
    (R : FVec Ideal Cert.On_finite_queries.S3x1 .f32)
    (hR : R = Host.reduce FloatOps.maximumf (Host.absf (extf .f32 X Cert.On_finite_queries.Gen.bitsLt_bf16_f32))
      (constant Cert.On_finite_queries.S_ .f32 0xFF800000#32) h Cert.On_finite_queries.Gen.h_S_)
    (b : Fin 3) (hm : Ideal.cmp .olt (R (ix2 b 0)) ⊤ = 1#1) (j : Fin 4096) :
    Row.IsReal (X (ix3 b 0 j)) := by
  rw [hR, max_row] at hm
  have hlt : (Finset.univ.sup fun t => (Host.absf (extf .f32 X Cert.On_finite_queries.Gen.bitsLt_bf16_f32)) (ix3 b 0 t) : EReal) < ⊤ := by
    by_contra hc
    simp [Ideal.cmp, hc] at hm
  have hj : max (X (ix3 b 0 j) : EReal) (-(X (ix3 b 0 j) : EReal)) < ⊤ :=
    lt_of_le_of_lt (Finset.le_sup (f := fun t => (Host.absf (extf .f32 X Cert.On_finite_queries.Gen.bitsLt_bf16_f32)) (ix3 b 0 t)) (Finset.mem_univ j)) hlt
  obtain ⟨h1, h2⟩ := max_lt_iff.mp hj
  refine .of (fun hb => ?_) h1.ne
  rw [hb] at h2
  exact absurd h2 (by simp)

section out
open Cert.KernelIdeal Cert.KernelIdeal.Gen Cert.ReferenceIdeal.Gen
variable (m : (ℓ : Loc Cert.KernelIdeal.nD Cert.KernelIdeal.τ Cert.KernelIdeal.sig) → Buf (Elt Ideal) ℓ) (hO : Cert.KernelIdeal.Gen.Ok m) (c : Dev Cert.KernelIdeal.nD)

/-- The reference's attention output of the kernel's arguments. -/
def out : FVec Ideal Cert.ReferenceIdeal.S3x1x4096 .bf16 :=
  OUT (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3))
    (m ((c.tc : Thread _ _).loc Cert.KernelIdeal.main_arg4)) (m ((c.tc : Thread _ _).loc Cert.KernelIdeal.main_arg5))
    (m ((c.tc : Thread _ _).loc Cert.KernelIdeal.main_arg6)) (m ((c.tc : Thread _ _).loc Cert.KernelIdeal.main_arg7))

variable (b : Fin 3)

/-- From finite queries the new token's score is finite. -/
theorem num (h : ∀ i d, Row.IsReal (xh m c b i d)) : Num m c b := by
  intro i
  have hr : Row.IsReal (nw m c b i) :=
    (Row.IsReal.sum fun d => (Row.real_rot (h i) d).mul (Row.real_code_scale _ d)).mul Row.real_unit
  exact ⟨hr.ne_bot, hr.ne_top⟩

theorem grp_hd (g : Fin 8) (r : Fin 4) : grp (hd g r) = g := Fin.ext (by show (4 * g.val + r.val) / 4 = g.val; omega)

theorem score_eq (g : Fin 8) (r : Fin 4) :
    sOf (SCORE (QR (m ((c.tc : Thread _ _).loc Cert.KernelIdeal.main_arg0))) (m ((c.tc : Thread _ _).loc Cert.KernelIdeal.main_arg3))
      (m ((c.tc : Thread _ _).loc Cert.KernelIdeal.main_arg5)) (m ((c.tc : Thread _ _).loc Cert.KernelIdeal.main_arg7))) b g r = sc m c b (hd g r) := by
  funext T
  unfold sOf sc
  rw [SCORE_at, grp_hd]
  simp only [QR_at]
  rfl

theorem news_eq (g : Fin 8) (r : Fin 4) :
    nOf (NEWS (QR (m ((c.tc : Thread _ _).loc Cert.KernelIdeal.main_arg0))) (m ((c.tc : Thread _ _).loc Cert.KernelIdeal.main_arg1))) b g r = nw m c b (hd g r) := by
  unfold nOf nw
  rw [NEWS_at, grp_hd, Row.sum_code]
  simp only [QR_at]
  rfl

theorem out_at (h : ∀ i d, Row.IsReal (xh m c b i d)) (g : Fin 8) (r : Fin 4) (e : Fin 128) :
    outv m c b (hd g r) e = out m c (ix3 b 0 ⟨128 * (hd g r).val + e.val, by omega⟩) := by
  have hn := num m c b h (hd g r)
  rw [← news_eq] at hn
  unfold out OUT
  rw [MIX_mass _ _ b g r hn.1 hn.2, score_eq, news_eq]
  unfold outv fv av
  rw [grp_hd]
  rfl

/-- The attention output of a batch row of finite queries is the reference's. -/
theorem attention (h : ∀ i d, Row.IsReal (xh m c b i d)) (j : Fin 4096) :
    shapeCast Cert.KernelIdeal.S3x1x4096 (res7 m hO c) Cert.KernelIdeal.Gen.shapeCasts_S3x4096_S3x1x4096 (ix3 b 0 j) = out m c (ix3 b 0 j) := by
  obtain ⟨g, r, e, rfl⟩ : ∃ (g : Fin 8) (r : Fin 4) (e : Fin 128), j = ⟨128 * (hd g r).val + e.val, by have := (hd g r).isLt; omega⟩ :=
    ⟨⟨j.val / 512, by omega⟩, ⟨j.val / 128 % 4, by omega⟩, ⟨j.val % 128, by omega⟩, Fin.ext (by
      show j.val = 128 * (4 * (j.val / 512) + j.val / 128 % 4) + j.val % 128
      omega)⟩
  rw [unpackR]
  exact (res7_at m hO c b (num m c b h) (hd g r) e).trans (out_at m c b h g r e)

end out

set_option maxHeartbeats 4000000 in
/-- From the same arguments the kernel and the reference end with the same codes and scales, and on batch rows of finite queries the same attention output. -/
theorem algebraic : algebraic_KernelIdeal_ReferenceIdeal_on_finite_queries (hKernelIdeal := Cert.KernelIdeal.Gen.facts)
    (hReferenceIdeal := Cert.ReferenceIdeal.Gen.facts) (hOn_finite_queries := Cert.On_finite_queries.Gen.facts) := by
  intro m g m' g' _ hag
  have hO : Cert.KernelIdeal.Gen.Ok m := Cert.KernelIdeal.Ok.ok _
  refine ⟨fun c => out m c,
    fun c => Cert.ReferenceIdeal.Gen.PACK (m ((c.tc : Thread _ _).loc Cert.KernelIdeal.main_arg1)),
    fun c => Cert.ReferenceIdeal.Gen.SCALE (m ((c.tc : Thread _ _).loc Cert.KernelIdeal.main_arg1)),
    fun c => Cert.ReferenceIdeal.Gen.PACK (m ((c.tc : Thread _ _).loc Cert.KernelIdeal.main_arg2)),
    fun c => Cert.ReferenceIdeal.Gen.SCALE (m ((c.tc : Thread _ _).loc Cert.KernelIdeal.main_arg2)), ?_, ?_⟩
  · refine (θ_run _ _ _).mono (fun r h c => ?_) (Cert.KernelIdeal.Gen.run m g hO)
    obtain ⟨⟨h0, h1, h2, h3, h4⟩, ha⟩ := h c
    refine ⟨fun i hi => (congrFun h0 i).trans ?_, fun i _ => congrFun (h1.trans ?_) i, fun i _ => congrFun (h2.trans ?_) i,
      fun i _ => congrFun (h3.trans ?_) i, fun i _ => congrFun (h4.trans ?_) i, ha⟩
    · obtain ⟨b, j, rfl⟩ : ∃ (b : Fin 3) (j : Fin 4096), i = ix3 b 0 j :=
        ⟨i 0, i 2, by
          have h1 : (i 1 : ℕ) < 1 := (i 1).isLt
          idx_ext <;> omega⟩
      exact attention m hO c b (fun k d => finite _ Cert.On_finite_queries.Gen.reducesTo_S3x1x4096_S3x1_d2 _ rfl b ((mask_at _ b j).symm.trans hi) _) j
    · exact codes _ _ (Cert.KernelIdeal.Gen.res8_at m hO c)
    · exact scales _ _ (Cert.KernelIdeal.Gen.res9_at m hO c)
    · exact codes _ _ (Cert.KernelIdeal.Gen.res10_at m hO c)
    · exact scales _ _ (Cert.KernelIdeal.Gen.res11_at m hO c)
  · refine (θ_run _ _ _).mono (fun r h c => ?_) (Cert.ReferenceIdeal.Gen.run m' g')
    obtain ⟨⟨h0, h1, h2, h3, h4⟩, ha⟩ := h c
    obtain ⟨a0, a1, a2, a3, a4, a5, a6, a7⟩ := hag c
    rw [a0, a1, a2, a3, a4, a5, a6, a7] at h0
    rw [a1] at h1 h2
    rw [a2] at h3 h4
    exact ⟨fun i _ => congrFun h0 i, fun i _ => congrFun h1 i, fun i _ => congrFun h2 i,
      fun i _ => congrFun h3 i, fun i _ => congrFun h4 i, ha⟩

end Cert.Algebra

end
-- ==== Proof.lean ====
module

public import proofs.«01_k».proof.Defs
public import proofs.«01_k».proof.Proof.OkKernelIdeal
public import proofs.«01_k».proof.Proof.FrameKernel
public import proofs.«01_k».proof.Proof.FrameIdeal
public import proofs.«01_k».proof.Proof.ReferenceFrame
public import proofs.«01_k».proof.Proof.Algebra

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.On_finite_queries.Gen.facts,
  fun m ρ _ => Cert.Kernel.Gen.frame m ρ,
  fun m ρ _ => Cert.KernelIdeal.Gen.frame m ρ (Cert.KernelIdeal.Ok.ok _),
  fun m ρ _ => Cert.ReferenceIdeal.Gen.frame m ρ, trivial, Cert.Algebra.algebraic⟩

end Cert.Proof

end
